-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "span" .f32 0x40000000#32 ((33554431 / 16777216 : ℝ) : EReal)
  ∧ IdealRules.named_const.Statement Cert.KernelIdeal.κ "off" .f32 0xC0400000#32 ((-25165823 / 8388608 : ℝ) : EReal)

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S32x64x4096 : Shape := ⟨3, ![32, 64, 4096]⟩
abbrev S32x64 : Shape := ⟨2, ![32, 64]⟩
abbrev S32 : Shape := ⟨1, ![32]⟩
abbrev S32x64x1 : Shape := ⟨3, ![32, 64, 1]⟩
abbrev S32x4096 : Shape := ⟨2, ![32, 4096]⟩
abbrev S2 : Shape := ⟨1, ![2]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel
  bcast_S_S32x4096 : S_.BroadcastsInDim S32x4096 (![] : Fin 0 → Fin S32x4096.rank)
  reducesTo_S32x4096_S_d0_1 : S32x4096.ReducesTo [0, 1] S_

variable [Facts]

def fn {F : FTy → Type} [FloatOps F] (main_arg0 : FVec F S32x64x4096 .f32) (main_arg1 : FVec F S32x64 .f32) (main_arg2 : IVec S32 32) (main_arg3 : FVec F S32x64x1 .f32) (main_arg4 : IVec S32x4096 32) (main_arg5 : IVec S2 32) : IVec S_ 1 :=
  let main_c : IVec S_ 32 := constantI S_ 32 4294967232#32
  let main_v0 : IVec S32 32 := broadcastInDim S32 ![] bcast_S_S32 main_c
  let main_v1 : IVec S32 1 := cmpi .sge main_arg2 main_v0
  let main_c_0 : IVec S_ 32 := constantI S_ 32 64#32
  let main_v2 : IVec S32 32 := broadcastInDim S32 ![] bcast_S_S32 main_c_0
  let main_v3 : IVec S32 1 := cmpi .sle main_arg2 main_v2
  let main_v4 : IVec S32 1 := andi main_v1 main_v3
  let main_c_1 : IVec S_ 1 := constantI S_ 1 1#1
  let main_v5 : IVec S_ 1 := (fun x v => Host.reduce IntOp.andi x v reducesTo_S32_S_d0 h_S_) main_v4 main_c_1
  let main_c_2 : IVec S_ 32 := constantI S_ 32 0#32
  let main_v6 : IVec S32x4096 32 := broadcastInDim S32x4096 ![] bcast_S_S32x4096 main_c_2
  let main_v7 : IVec S32x4096 1 := cmpi .sge main_arg4 main_v6
  let main_c_3 : IVec S_ 32 := constantI S_ 32 4096#32
  let main_v8 : IVec S32x4096 32 := broadcastInDim S32x4096 ![] bcast_S_S32x4096 main_c_3
  let main_v9 : IVec S32x4096 1 := cmpi .slt main_arg4 main_v8
  let main_v10 : IVec S32x4096 1 := andi main_v7 main_v9
  let main_c_4 : IVec S_ 1 := constantI S_ 1 1#1
  let main_v11 : IVec S_ 1 := (fun x v => Host.reduce IntOp.andi x v reducesTo_S32x4096_S_d0_1 h_S_) main_v10 main_c_4
  let main_v12 : IVec S_ 1 := andi main_v5 main_v11
  main_v12
-- ==== Kernel.lean ====
abbrev S32x64x4096 : Shape := ⟨3, ![32, 64, 4096]⟩
abbrev S32x64 : Shape := ⟨2, ![32, 64]⟩
abbrev S32 : Shape := ⟨1, ![32]⟩
abbrev S32x64x1 : Shape := ⟨3, ![32, 64, 1]⟩
abbrev S32x4096 : Shape := ⟨2, ![32, 4096]⟩
abbrev S2 : Shape := ⟨1, ![2]⟩
abbrev S_ : Shape := ⟨0, ![]⟩
abbrev S1x8x4096 : Shape := ⟨3, ![1, 8, 4096]⟩
abbrev S1x8x1 : Shape := ⟨3, ![1, 8, 1]⟩
abbrev S1 : Shape := ⟨1, ![1]⟩
abbrev S1x8x512 : Shape := ⟨3, ![1, 8, 512]⟩
abbrev S32x262144 : Shape := ⟨2, ![32, 262144]⟩
abbrev S4096 : Shape := ⟨1, ![4096]⟩
abbrev S32768 : Shape := ⟨1, ![32768]⟩
abbrev S1x4096 : Shape := ⟨2, ![1, 4096]⟩
abbrev S1x32768 : Shape := ⟨2, ![1, 32768]⟩
abbrev S16 : Shape := ⟨1, ![16]⟩

abbrev nBuf : Table → Nat
  | .hbm => 27
  | .local .tc .vmem => 7
  | .local .tc .smem => 2
  | .local .scVector .vmem => 3
  | _ => 0

abbrev bufTy : (tb : Table) → Fin (nBuf tb) → BufTy
  | .hbm, ⟨0, _⟩ => ⟨S32x64x4096, .f32⟩
  | .hbm, ⟨1, _⟩ => ⟨S32x64, .f32⟩
  | .hbm, ⟨2, _⟩ => ⟨S32, .i32⟩
  | .hbm, ⟨3, _⟩ => ⟨S32x64x1, .f32⟩
  | .hbm, ⟨4, _⟩ => ⟨S32x4096, .i32⟩
  | .hbm, ⟨5, _⟩ => ⟨S2, .i32⟩
  | .hbm, ⟨6, _⟩ => ⟨S_, .f32⟩
  | .hbm, ⟨7, _⟩ => ⟨S32x64x1, .f32⟩
  | .hbm, ⟨8, _⟩ => ⟨S32x64x1, .i1⟩
  | .hbm, ⟨9, _⟩ => ⟨S32x64x1, .f32⟩
  | .hbm, ⟨10, _⟩ => ⟨S32x64x1, .f32⟩
  | .hbm, ⟨11, _⟩ => ⟨S_, .f32⟩
  | .hbm, ⟨12, _⟩ => ⟨S32x64x1, .f32⟩
  | .hbm, ⟨13, _⟩ => ⟨S32x64x1, .f32⟩
  | .hbm, ⟨14, _⟩ => ⟨S_, .f32⟩
  | .hbm, ⟨15, _⟩ => ⟨S32x64x1, .f32⟩
  | .hbm, ⟨16, _⟩ => ⟨S32x64x1, .f32⟩
  | .hbm, ⟨17, _⟩ => ⟨S32x64x1, .f32⟩
  | .hbm, ⟨18, _⟩ => ⟨S_, .f32⟩
  | .hbm, ⟨19, _⟩ => ⟨S32x64x1, .f32⟩
  | .hbm, ⟨20, _⟩ => ⟨S32x64x1, .f32⟩
  | .hbm, ⟨21, _⟩ => ⟨S32x64x1, .f32⟩
  | .hbm, ⟨22, _⟩ => ⟨S2, .i32⟩
  | .hbm, ⟨23, _⟩ => ⟨S32x64x4096, .f32⟩
  | .hbm, ⟨24, _⟩ => ⟨S32x262144, .f32⟩
  | .hbm, ⟨25, _⟩ => ⟨S32x262144, .f32⟩
  | .hbm, ⟨26, _⟩ => ⟨S32x64x4096, .f32⟩
  | .local .tc .vmem, ⟨0, _⟩ => ⟨S1x8x4096, .f32⟩
  | .local .tc .vmem, ⟨1, _⟩ => ⟨S1x8x4096, .f32⟩
  | .local .tc .vmem, ⟨2, _⟩ => ⟨S1x8x1, .f32⟩
  | .local .tc .vmem, ⟨3, _⟩ => ⟨S1x8x1, .f32⟩
  | .local .tc .vmem, ⟨4, _⟩ => ⟨S1x8x4096, .f32⟩
  | .local .tc .vmem, ⟨5, _⟩ => ⟨S1x8x4096, .f32⟩
  | .local .tc .vmem, ⟨6, _⟩ => ⟨S1x8x4096, .f32⟩
  | .local .tc .smem, ⟨0, _⟩ => ⟨S32, .i32⟩
  | .local .tc .smem, ⟨1, _⟩ => ⟨S2, .i32⟩
  | .local .scVector .vmem, ⟨0, _⟩ => ⟨S4096, .i32⟩
  | .local .scVector .vmem, ⟨1, _⟩ => ⟨S32768, .f32⟩
  | .local .scVector .vmem, ⟨2, _⟩ => ⟨S32768, .f32⟩
  | _, _ => ⟨S32x64x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v14_scv : Ref sig .scVector := ⟨.hbm, 24, rfl⟩
abbrev main_arg4_scv : Ref sig .scVector := ⟨.hbm, 4, rfl⟩
abbrev main_v15_scv : Ref sig .scVector := ⟨.hbm, 25, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_stg0_0 : Ref sig .tc := ⟨.smem, 0, rfl⟩
abbrev cc0_stg1_0 : Ref sig .tc := ⟨.smem, 1, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![32, 8], ![false, false]⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 16], ![false, false]⟩

def k1_off1 (i : grid1.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c0_i32 v1
  let c0_i32_38_r0 : BitVec 32 := 0#32
  ![v2.toNat, 0]
def k1_off2 (i : grid1.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c0_i32 v1
  let c0_i32_38_r1 : BitVec 32 := 0#32
  ![v2.toNat, 0]
@[reducible] def k1_t1_loop : Scf.Loop 32 :=
  let c0_i32_1 : BitVec 32 := 0#32
  let c256_i32 : BitVec 32 := 256#32
  let v3 : BitVec 32 := Scalar.addi c0_i32_1 c256_i32
  let c1_i32 : BitVec 32 := 1#32
  ⟨c0_i32_1, v3, c1_i32⟩
def k1_mult1 (k1_t1 : Fin k1_t1_loop.trips) : BitVec 32 :=
  let c0_i32_1 : BitVec 32 := 0#32
  let c1_i32 : BitVec 32 := 1#32
  let arg8 : BitVec 32 := Scf.iv c0_i32_1 c1_i32 k1_t1
  let c16_i32 : BitVec 32 := 16#32
  let v19 : BitVec 32 := Scalar.muli arg8 c16_i32
  v19
def k1_off3 (k1_t1 : Fin k1_t1_loop.trips) : Fin 1 → Nat :=
  let c0_i32_1 : BitVec 32 := 0#32
  let c1_i32 : BitVec 32 := 1#32
  let arg8 : BitVec 32 := Scf.iv c0_i32_1 c1_i32 k1_t1
  let c16_i32 : BitVec 32 := 16#32
  let v19 : BitVec 32 := Scalar.muli arg8 c16_i32
  let v20 : BitVec 32 := v19
  let v21 : Index := Scalar.indexCast v20
  ![v21.toNat]

def k1_chk1 (v24 : IVec S16 32) : Prop :=
  (∀ a x, ((![v24] : Fin 1 → IVec S16 32) a x).toNat < S32768.size a)
theorem k1_idx1_inb : ∀ (v24 : IVec S16 32) (k1_hw1 : k1_chk1 v24), ∀ a x, ((![v24] : Fin 1 → IVec S16 32) a x).toNat < S32768.size a := fun v24 k1_hw1 => k1_hw1
def k1_off4 (k1_t1 : Fin k1_t1_loop.trips) : Fin 1 → Nat :=
  let c0_i32_39 : BitVec 32 := 0#32
  let c0_i32_1 : BitVec 32 := 0#32
  let c1_i32 : BitVec 32 := 1#32
  let arg8 : BitVec 32 := Scf.iv c0_i32_1 c1_i32 k1_t1
  let c16_i32 : BitVec 32 := 16#32
  let v19 : BitVec 32 := Scalar.muli arg8 c16_i32
  let v20 : BitVec 32 := v19
  let v26 : BitVec 32 := Scalar.addi c0_i32_39 v20
  let v27 : Index := Scalar.indexCast v26
  ![v27.toNat]

def k1_chk2 (v30 : IVec S16 32) : Prop :=
  (∀ a x, ((![v30] : Fin 1 → IVec S16 32) a x).toNat < S32768.size a)
theorem k1_idx2_inb : ∀ (v30 : IVec S16 32) (k1_hw2 : k1_chk2 v30), ∀ a x, ((![v30] : Fin 1 → IVec S16 32) a x).toNat < S32768.size a := fun v30 k1_hw2 => k1_hw2
def k1_off5 (k1_t1 : Fin k1_t1_loop.trips) : Fin 1 → Nat :=
  let c4096_i32_40 : BitVec 32 := 4096#32
  let c0_i32_1 : BitVec 32 := 0#32
  let c1_i32 : BitVec 32 := 1#32
  let arg8 : BitVec 32 := Scf.iv c0_i32_1 c1_i32 k1_t1
  let c16_i32 : BitVec 32 := 16#32
  let v19 : BitVec 32 := Scalar.muli arg8 c16_i32
  let v20 : BitVec 32 := v19
  let v32 : BitVec 32 := Scalar.addi c4096_i32_40 v20
  let v33 : Index := Scalar.indexCast v32
  ![v33.toNat]

def k1_chk3 (v36 : IVec S16 32) : Prop :=
  (∀ a x, ((![v36] : Fin 1 → IVec S16 32) a x).toNat < S32768.size a)
theorem k1_idx3_inb : ∀ (v36 : IVec S16 32) (k1_hw3 : k1_chk3 v36), ∀ a x, ((![v36] : Fin 1 → IVec S16 32) a x).toNat < S32768.size a := fun v36 k1_hw3 => k1_hw3
def k1_off6 (k1_t1 : Fin k1_t1_loop.trips) : Fin 1 → Nat :=
  let c8192_i32_41 : BitVec 32 := 8192#32
  let c0_i32_1 : BitVec 32 := 0#32
  let c1_i32 : BitVec 32 := 1#32
  let arg8 : BitVec 32 := Scf.iv c0_i32_1 c1_i32 k1_t1
  let c16_i32 : BitVec 32 := 16#32
  let v19 : BitVec 32 := Scalar.muli arg8 c16_i32
  let v20 : BitVec 32 := v19
  let v38 : BitVec 32 := Scalar.addi c8192_i32_41 v20
  let v39 : Index := Scalar.indexCast v38
  ![v39.toNat]

def k1_chk4 (v42 : IVec S16 32) : Prop :=
  (∀ a x, ((![v42] : Fin 1 → IVec S16 32) a x).toNat < S32768.size a)
theorem k1_idx4_inb : ∀ (v42 : IVec S16 32) (k1_hw4 : k1_chk4 v42), ∀ a x, ((![v42] : Fin 1 → IVec S16 32) a x).toNat < S32768.size a := fun v42 k1_hw4 => k1_hw4
def k1_off7 (k1_t1 : Fin k1_t1_loop.trips) : Fin 1 → Nat :=
  let c12288_i32_42 : BitVec 32 := 12288#32
  let c0_i32_1 : BitVec 32 := 0#32
  let c1_i32 : BitVec 32 := 1#32
  let arg8 : BitVec 32 := Scf.iv c0_i32_1 c1_i32 k1_t1
  let c16_i32 : BitVec 32 := 16#32
  let v19 : BitVec 32 := Scalar.muli arg8 c16_i32
  let v20 : BitVec 32 := v19
  let v44 : BitVec 32 := Scalar.addi c12288_i32_42 v20
  let v45 : Index := Scalar.indexCast v44
  ![v45.toNat]

def k1_chk5 (v48 : IVec S16 32) : Prop :=
  (∀ a x, ((![v48] : Fin 1 → IVec S16 32) a x).toNat < S32768.size a)
theorem k1_idx5_inb : ∀ (v48 : IVec S16 32) (k1_hw5 : k1_chk5 v48), ∀ a x, ((![v48] : Fin 1 → IVec S16 32) a x).toNat < S32768.size a := fun v48 k1_hw5 => k1_hw5
def k1_off8 (k1_t1 : Fin k1_t1_loop.trips) : Fin 1 → Nat :=
  let c16384_i32_43 : BitVec 32 := 16384#32
  let c0_i32_1 : BitVec 32 := 0#32
  let c1_i32 : BitVec 32 := 1#32
  let arg8 : BitVec 32 := Scf.iv c0_i32_1 c1_i32 k1_t1
  let c16_i32 : BitVec 32 := 16#32
  let v19 : BitVec 32 := Scalar.muli arg8 c16_i32
  let v20 : BitVec 32 := v19
  let v50 : BitVec 32 := Scalar.addi c16384_i32_43 v20
  let v51 : Index := Scalar.indexCast v50
  ![v51.toNat]

def k1_chk6 (v54 : IVec S16 32) : Prop :=
  (∀ a x, ((![v54] : Fin 1 → IVec S16 32) a x).toNat < S32768.size a)
theorem k1_idx6_inb : ∀ (v54 : IVec S16 32) (k1_hw6 : k1_chk6 v54), ∀ a x, ((![v54] : Fin 1 → IVec S16 32) a x).toNat < S32768.size a := fun v54 k1_hw6 => k1_hw6
def k1_off9 (k1_t1 : Fin k1_t1_loop.trips) : Fin 1 → Nat :=
  let c20480_i32_44 : BitVec 32 := 20480#32
  let c0_i32_1 : BitVec 32 := 0#32
  let c1_i32 : BitVec 32 := 1#32
  let arg8 : BitVec 32 := Scf.iv c0_i32_1 c1_i32 k1_t1
  let c16_i32 : BitVec 32 := 16#32
  let v19 : BitVec 32 := Scalar.muli arg8 c16_i32
  let v20 : BitVec 32 := v19
  let v56 : BitVec 32 := Scalar.addi c20480_i32_44 v20
  let v57 : Index := Scalar.indexCast v56
  ![v57.toNat]

def k1_chk7 (v60 : IVec S16 32) : Prop :=
  (∀ a x, ((![v60] : Fin 1 → IVec S16 32) a x).toNat < S32768.size a)
theorem k1_idx7_inb : ∀ (v60 : IVec S16 32) (k1_hw7 : k1_chk7 v60), ∀ a x, ((![v60] : Fin 1 → IVec S16 32) a x).toNat < S32768.size a := fun v60 k1_hw7 => k1_hw7
def k1_off10 (k1_t1 : Fin k1_t1_loop.trips) : Fin 1 → Nat :=
  let c24576_i32_45 : BitVec 32 := 24576#32
  let c0_i32_1 : BitVec 32 := 0#32
  let c1_i32 : BitVec 32 := 1#32
  let arg8 : BitVec 32 := Scf.iv c0_i32_1 c1_i32 k1_t1
  let c16_i32 : BitVec 32 := 16#32
  let v19 : BitVec 32 := Scalar.muli arg8 c16_i32
  let v20 : BitVec 32 := v19
  let v62 : BitVec 32 := Scalar.addi c24576_i32_45 v20
  let v63 : Index := Scalar.indexCast v62
  ![v63.toNat]

def k1_chk8 (v66 : IVec S16 32) : Prop :=
  (∀ a x, ((![v66] : Fin 1 → IVec S16 32) a x).toNat < S32768.size a)
theorem k1_idx8_inb : ∀ (v66 : IVec S16 32) (k1_hw8 : k1_chk8 v66), ∀ a x, ((![v66] : Fin 1 → IVec S16 32) a x).toNat < S32768.size a := fun v66 k1_hw8 => k1_hw8
def k1_off11 (k1_t1 : Fin k1_t1_loop.trips) : Fin 1 → Nat :=
  let c28672_i32_46 : BitVec 32 := 28672#32
  let c0_i32_1 : BitVec 32 := 0#32
  let c1_i32 : BitVec 32 := 1#32
  let arg8 : BitVec 32 := Scf.iv c0_i32_1 c1_i32 k1_t1
  let c16_i32 : BitVec 32 := 16#32
  let v19 : BitVec 32 := Scalar.muli arg8 c16_i32
  let v20 : BitVec 32 := v19
  let v68 : BitVec 32 := Scalar.addi c28672_i32_46 v20
  let v69 : Index := Scalar.indexCast v68
  ![v69.toNat]
def k1_off12 (i : grid1.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c0_i32 v1
  let c32768_i32_r3 : BitVec 32 := 32768#32
  ![v2.toNat, 32768]
@[reducible] def k1_t2_loop : Scf.Loop 32 :=
  let c0_i32_4 : BitVec 32 := 0#32
  let c256_i32_5 : BitVec 32 := 256#32
  let v5 : BitVec 32 := Scalar.addi c0_i32_4 c256_i32_5
  let c1_i32_6 : BitVec 32 := 1#32
  ⟨c0_i32_4, v5, c1_i32_6⟩
def k1_mult2 (k1_t2 : Fin k1_t2_loop.trips) : BitVec 32 :=
  let c0_i32_4 : BitVec 32 := 0#32
  let c1_i32_6 : BitVec 32 := 1#32
  let arg8 : BitVec 32 := Scf.iv c0_i32_4 c1_i32_6 k1_t2
  let c16_i32 : BitVec 32 := 16#32
  let v19 : BitVec 32 := Scalar.muli arg8 c16_i32
  v19
def k1_off13 (k1_t2 : Fin k1_t2_loop.trips) : Fin 1 → Nat :=
  let c0_i32_4 : BitVec 32 := 0#32
  let c1_i32_6 : BitVec 32 := 1#32
  let arg8 : BitVec 32 := Scf.iv c0_i32_4 c1_i32_6 k1_t2
  let c16_i32 : BitVec 32 := 16#32
  let v19 : BitVec 32 := Scalar.muli arg8 c16_i32
  let v20 : BitVec 32 := v19
  let v21 : Index := Scalar.indexCast v20
  ![v21.toNat]

def k1_chk9 (v24 : IVec S16 32) : Prop :=
  (∀ a x, ((![v24] : Fin 1 → IVec S16 32) a x).toNat < S32768.size a)
theorem k1_idx9_inb : ∀ (v24 : IVec S16 32) (k1_hw9 : k1_chk9 v24), ∀ a x, ((![v24] : Fin 1 → IVec S16 32) a x).toNat < S32768.size a := fun v24 k1_hw9 => k1_hw9
def k1_off14 (k1_t2 : Fin k1_t2_loop.trips) : Fin 1 → Nat :=
  let c0_i32_39 : BitVec 32 := 0#32
  let c0_i32_4 : BitVec 32 := 0#32
  let c1_i32_6 : BitVec 32 := 1#32
  let arg8 : BitVec 32 := Scf.iv c0_i32_4 c1_i32_6 k1_t2
  let c16_i32 : BitVec 32 := 16#32
  let v19 : BitVec 32 := Scalar.muli arg8 c16_i32
  let v20 : BitVec 32 := v19
  let v26 : BitVec 32 := Scalar.addi c0_i32_39 v20
  let v27 : Index := Scalar.indexCast v26
  ![v27.toNat]

def k1_chk10 (v30 : IVec S16 32) : Prop :=
  (∀ a x, ((![v30] : Fin 1 → IVec S16 32) a x).toNat < S32768.size a)
theorem k1_idx10_inb : ∀ (v30 : IVec S16 32) (k1_hw10 : k1_chk10 v30), ∀ a x, ((![v30] : Fin 1 → IVec S16 32) a x).toNat < S32768.size a := fun v30 k1_hw10 => k1_hw10
def k1_off15 (k1_t2 : Fin k1_t2_loop.trips) : Fin 1 → Nat :=
  let c4096_i32_40 : BitVec 32 := 4096#32
  let c0_i32_4 : BitVec 32 := 0#32
  let c1_i32_6 : BitVec 32 := 1#32
  let arg8 : BitVec 32 := Scf.iv c0_i32_4 c1_i32_6 k1_t2
  let c16_i32 : BitVec 32 := 16#32
  let v19 : BitVec 32 := Scalar.muli arg8 c16_i32
  let v20 : BitVec 32 := v19
  let v32 : BitVec 32 := Scalar.addi c4096_i32_40 v20
  let v33 : Index := Scalar.indexCast v32
  ![v33.toNat]

def k1_chk11 (v36 : IVec S16 32) : Prop :=
  (∀ a x, ((![v36] : Fin 1 → IVec S16 32) a x).toNat < S32768.size a)
theorem k1_idx11_inb : ∀ (v36 : IVec S16 32) (k1_hw11 : k1_chk11 v36), ∀ a x, ((![v36] : Fin 1 → IVec S16 32) a x).toNat < S32768.size a := fun v36 k1_hw11 => k1_hw11
def k1_off16 (k1_t2 : Fin k1_t2_loop.trips) : Fin 1 → Nat :=
  let c8192_i32_41 : BitVec 32 := 8192#32
  let c0_i32_4 : BitVec 32 := 0#32
  let c1_i32_6 : BitVec 32 := 1#32
  let arg8 : BitVec 32 := Scf.iv c0_i32_4 c1_i32_6 k1_t2
  let c16_i32 : BitVec 32 := 16#32
  let v19 : BitVec 32 := Scalar.muli arg8 c16_i32
  let v20 : BitVec 32 := v19
  let v38 : BitVec 32 := Scalar.addi c8192_i32_41 v20
  let v39 : Index := Scalar.indexCast v38
  ![v39.toNat]

def k1_chk12 (v42 : IVec S16 32) : Prop :=
  (∀ a x, ((![v42] : Fin 1 → IVec S16 32) a x).toNat < S32768.size a)
theorem k1_idx12_inb : ∀ (v42 : IVec S16 32) (k1_hw12 : k1_chk12 v42), ∀ a x, ((![v42] : Fin 1 → IVec S16 32) a x).toNat < S32768.size a := fun v42 k1_hw12 => k1_hw12
def k1_off17 (k1_t2 : Fin k1_t2_loop.trips) : Fin 1 → Nat :=
  let c12288_i32_42 : BitVec 32 := 12288#32
  let c0_i32_4 : BitVec 32 := 0#32
  let c1_i32_6 : BitVec 32 := 1#32
  let arg8 : BitVec 32 := Scf.iv c0_i32_4 c1_i32_6 k1_t2
  let c16_i32 : BitVec 32 := 16#32
  let v19 : BitVec 32 := Scalar.muli arg8 c16_i32
  let v20 : BitVec 32 := v19
  let v44 : BitVec 32 := Scalar.addi c12288_i32_42 v20
  let v45 : Index := Scalar.indexCast v44
  ![v45.toNat]

def k1_chk13 (v48 : IVec S16 32) : Prop :=
  (∀ a x, ((![v48] : Fin 1 → IVec S16 32) a x).toNat < S32768.size a)
theorem k1_idx13_inb : ∀ (v48 : IVec S16 32) (k1_hw13 : k1_chk13 v48), ∀ a x, ((![v48] : Fin 1 → IVec S16 32) a x).toNat < S32768.size a := fun v48 k1_hw13 => k1_hw13
def k1_off18 (k1_t2 : Fin k1_t2_loop.trips) : Fin 1 → Nat :=
  let c16384_i32_43 : BitVec 32 := 16384#32
  let c0_i32_4 : BitVec 32 := 0#32
  let c1_i32_6 : BitVec 32 := 1#32
  let arg8 : BitVec 32 := Scf.iv c0_i32_4 c1_i32_6 k1_t2
  let c16_i32 : BitVec 32 := 16#32
  let v19 : BitVec 32 := Scalar.muli arg8 c16_i32
  let v20 : BitVec 32 := v19
  let v50 : BitVec 32 := Scalar.addi c16384_i32_43 v20
  let v51 : Index := Scalar.indexCast v50
  ![v51.toNat]

def k1_chk14 (v54 : IVec S16 32) : Prop :=
  (∀ a x, ((![v54] : Fin 1 → IVec S16 32) a x).toNat < S32768.size a)
theorem k1_idx14_inb : ∀ (v54 : IVec S16 32) (k1_hw14 : k1_chk14 v54), ∀ a x, ((![v54] : Fin 1 → IVec S16 32) a x).toNat < S32768.size a := fun v54 k1_hw14 => k1_hw14
def k1_off19 (k1_t2 : Fin k1_t2_loop.trips) : Fin 1 → Nat :=
  let c20480_i32_44 : BitVec 32 := 20480#32
  let c0_i32_4 : BitVec 32 := 0#32
  let c1_i32_6 : BitVec 32 := 1#32
  let arg8 : BitVec 32 := Scf.iv c0_i32_4 c1_i32_6 k1_t2
  let c16_i32 : BitVec 32 := 16#32
  let v19 : BitVec 32 := Scalar.muli arg8 c16_i32
  let v20 : BitVec 32 := v19
  let v56 : BitVec 32 := Scalar.addi c20480_i32_44 v20
  let v57 : Index := Scalar.indexCast v56
  ![v57.toNat]

def k1_chk15 (v60 : IVec S16 32) : Prop :=
  (∀ a x, ((![v60] : Fin 1 → IVec S16 32) a x).toNat < S32768.size a)
theorem k1_idx15_inb : ∀ (v60 : IVec S16 32) (k1_hw15 : k1_chk15 v60), ∀ a x, ((![v60] : Fin 1 → IVec S16 32) a x).toNat < S32768.size a := fun v60 k1_hw15 => k1_hw15
def k1_off20 (k1_t2 : Fin k1_t2_loop.trips) : Fin 1 → Nat :=
  let c24576_i32_45 : BitVec 32 := 24576#32
  let c0_i32_4 : BitVec 32 := 0#32
  let c1_i32_6 : BitVec 32 := 1#32
  let arg8 : BitVec 32 := Scf.iv c0_i32_4 c1_i32_6 k1_t2
  let c16_i32 : BitVec 32 := 16#32
  let v19 : BitVec 32 := Scalar.muli arg8 c16_i32
  let v20 : BitVec 32 := v19
  let v62 : BitVec 32 := Scalar.addi c24576_i32_45 v20
  let v63 : Index := Scalar.indexCast v62
  ![v63.toNat]

def k1_chk16 (v66 : IVec S16 32) : Prop :=
  (∀ a x, ((![v66] : Fin 1 → IVec S16 32) a x).toNat < S32768.size a)
theorem k1_idx16_inb : ∀ (v66 : IVec S16 32) (k1_hw16 : k1_chk16 v66), ∀ a x, ((![v66] : Fin 1 → IVec S16 32) a x).toNat < S32768.size a := fun v66 k1_hw16 => k1_hw16
def k1_off21 (k1_t2 : Fin k1_t2_loop.trips) : Fin 1 → Nat :=
  let c28672_i32_46 : BitVec 32 := 28672#32
  let c0_i32_4 : BitVec 32 := 0#32
  let c1_i32_6 : BitVec 32 := 1#32
  let arg8 : BitVec 32 := Scf.iv c0_i32_4 c1_i32_6 k1_t2
  let c16_i32 : BitVec 32 := 16#32
  let v19 : BitVec 32 := Scalar.muli arg8 c16_i32
  let v20 : BitVec 32 := v19
  let v68 : BitVec 32 := Scalar.addi c28672_i32_46 v20
  let v69 : Index := Scalar.indexCast v68
  ![v69.toNat]
def k1_off22 (i : grid1.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c0_i32 v1
  let c65536_i32_r5 : BitVec 32 := 65536#32
  ![v2.toNat, 65536]
@[reducible] def k1_t3_loop : Scf.Loop 32 :=
  let c0_i32_9 : BitVec 32 := 0#32
  let c256_i32_10 : BitVec 32 := 256#32
  let v7 : BitVec 32 := Scalar.addi c0_i32_9 c256_i32_10
  let c1_i32_11 : BitVec 32 := 1#32
  ⟨c0_i32_9, v7, c1_i32_11⟩
def k1_mult3 (k1_t3 : Fin k1_t3_loop.trips) : BitVec 32 :=
  let c0_i32_9 : BitVec 32 := 0#32
  let c1_i32_11 : BitVec 32 := 1#32
  let arg8 : BitVec 32 := Scf.iv c0_i32_9 c1_i32_11 k1_t3
  let c16_i32 : BitVec 32 := 16#32
  let v19 : BitVec 32 := Scalar.muli arg8 c16_i32
  v19
def k1_off23 (k1_t3 : Fin k1_t3_loop.trips) : Fin 1 → Nat :=
  let c0_i32_9 : BitVec 32 := 0#32
  let c1_i32_11 : BitVec 32 := 1#32
  let arg8 : BitVec 32 := Scf.iv c0_i32_9 c1_i32_11 k1_t3
  let c16_i32 : BitVec 32 := 16#32
  let v19 : BitVec 32 := Scalar.muli arg8 c16_i32
  let v20 : BitVec 32 := v19
  let v21 : Index := Scalar.indexCast v20
  ![v21.toNat]

def k1_chk17 (v24 : IVec S16 32) : Prop :=
  (∀ a x, ((![v24] : Fin 1 → IVec S16 32) a x).toNat < S32768.size a)
theorem k1_idx17_inb : ∀ (v24 : IVec S16 32) (k1_hw17 : k1_chk17 v24), ∀ a x, ((![v24] : Fin 1 → IVec S16 32) a x).toNat < S32768.size a := fun v24 k1_hw17 => k1_hw17
def k1_off24 (k1_t3 : Fin k1_t3_loop.trips) : Fin 1 → Nat :=
  let c0_i32_39 : BitVec 32 := 0#32
  let c0_i32_9 : BitVec 32 := 0#32
  let c1_i32_11 : BitVec 32 := 1#32
  let arg8 : BitVec 32 := Scf.iv c0_i32_9 c1_i32_11 k1_t3
  let c16_i32 : BitVec 32 := 16#32
  let v19 : BitVec 32 := Scalar.muli arg8 c16_i32
  let v20 : BitVec 32 := v19
  let v26 : BitVec 32 := Scalar.addi c0_i32_39 v20
  let v27 : Index := Scalar.indexCast v26
  ![v27.toNat]

def k1_chk18 (v30 : IVec S16 32) : Prop :=
  (∀ a x, ((![v30] : Fin 1 → IVec S16 32) a x).toNat < S32768.size a)
theorem k1_idx18_inb : ∀ (v30 : IVec S16 32) (k1_hw18 : k1_chk18 v30), ∀ a x, ((![v30] : Fin 1 → IVec S16 32) a x).toNat < S32768.size a := fun v30 k1_hw18 => k1_hw18
def k1_off25 (k1_t3 : Fin k1_t3_loop.trips) : Fin 1 → Nat :=
  let c4096_i32_40 : BitVec 32 := 4096#32
  let c0_i32_9 : BitVec 32 := 0#32
  let c1_i32_11 : BitVec 32 := 1#32
  let arg8 : BitVec 32 := Scf.iv c0_i32_9 c1_i32_11 k1_t3
  let c16_i32 : BitVec 32 := 16#32
  let v19 : BitVec 32 := Scalar.muli arg8 c16_i32
  let v20 : BitVec 32 := v19
  let v32 : BitVec 32 := Scalar.addi c4096_i32_40 v20
  let v33 : Index := Scalar.indexCast v32
  ![v33.toNat]

def k1_chk19 (v36 : IVec S16 32) : Prop :=
  (∀ a x, ((![v36] : Fin 1 → IVec S16 32) a x).toNat < S32768.size a)
theorem k1_idx19_inb : ∀ (v36 : IVec S16 32) (k1_hw19 : k1_chk19 v36), ∀ a x, ((![v36] : Fin 1 → IVec S16 32) a x).toNat < S32768.size a := fun v36 k1_hw19 => k1_hw19
def k1_off26 (k1_t3 : Fin k1_t3_loop.trips) : Fin 1 → Nat :=
  let c8192_i32_41 : BitVec 32 := 8192#32
  let c0_i32_9 : BitVec 32 := 0#32
  let c1_i32_11 : BitVec 32 := 1#32
  let arg8 : BitVec 32 := Scf.iv c0_i32_9 c1_i32_11 k1_t3
  let c16_i32 : BitVec 32 := 16#32
  let v19 : BitVec 32 := Scalar.muli arg8 c16_i32
  let v20 : BitVec 32 := v19
  let v38 : BitVec 32 := Scalar.addi c8192_i32_41 v20
  let v39 : Index := Scalar.indexCast v38
  ![v39.toNat]

def k1_chk20 (v42 : IVec S16 32) : Prop :=
  (∀ a x, ((![v42] : Fin 1 → IVec S16 32) a x).toNat < S32768.size a)
theorem k1_idx20_inb : ∀ (v42 : IVec S16 32) (k1_hw20 : k1_chk20 v42), ∀ a x, ((![v42] : Fin 1 → IVec S16 32) a x).toNat < S32768.size a := fun v42 k1_hw20 => k1_hw20
def k1_off27 (k1_t3 : Fin k1_t3_loop.trips) : Fin 1 → Nat :=
  let c12288_i32_42 : BitVec 32 := 12288#32
  let c0_i32_9 : BitVec 32 := 0#32
  let c1_i32_11 : BitVec 32 := 1#32
  let arg8 : BitVec 32 := Scf.iv c0_i32_9 c1_i32_11 k1_t3
  let c16_i32 : BitVec 32 := 16#32
  let v19 : BitVec 32 := Scalar.muli arg8 c16_i32
  let v20 : BitVec 32 := v19
  let v44 : BitVec 32 := Scalar.addi c12288_i32_42 v20
  let v45 : Index := Scalar.indexCast v44
  ![v45.toNat]

def k1_chk21 (v48 : IVec S16 32) : Prop :=
  (∀ a x, ((![v48] : Fin 1 → IVec S16 32) a x).toNat < S32768.size a)
theorem k1_idx21_inb : ∀ (v48 : IVec S16 32) (k1_hw21 : k1_chk21 v48), ∀ a x, ((![v48] : Fin 1 → IVec S16 32) a x).toNat < S32768.size a := fun v48 k1_hw21 => k1_hw21
def k1_off28 (k1_t3 : Fin k1_t3_loop.trips) : Fin 1 → Nat :=
  let c16384_i32_43 : BitVec 32 := 16384#32
  let c0_i32_9 : BitVec 32 := 0#32
  let c1_i32_11 : BitVec 32 := 1#32
  let arg8 : BitVec 32 := Scf.iv c0_i32_9 c1_i32_11 k1_t3
  let c16_i32 : BitVec 32 := 16#32
  let v19 : BitVec 32 := Scalar.muli arg8 c16_i32
  let v20 : BitVec 32 := v19
  let v50 : BitVec 32 := Scalar.addi c16384_i32_43 v20
  let v51 : Index := Scalar.indexCast v50
  ![v51.toNat]

def k1_chk22 (v54 : IVec S16 32) : Prop :=
  (∀ a x, ((![v54] : Fin 1 → IVec S16 32) a x).toNat < S32768.size a)
theorem k1_idx22_inb : ∀ (v54 : IVec S16 32) (k1_hw22 : k1_chk22 v54), ∀ a x, ((![v54] : Fin 1 → IVec S16 32) a x).toNat < S32768.size a := fun v54 k1_hw22 => k1_hw22
def k1_off29 (k1_t3 : Fin k1_t3_loop.trips) : Fin 1 → Nat :=
  let c20480_i32_44 : BitVec 32 := 20480#32
  let c0_i32_9 : BitVec 32 := 0#32
  let c1_i32_11 : BitVec 32 := 1#32
  let arg8 : BitVec 32 := Scf.iv c0_i32_9 c1_i32_11 k1_t3
  let c16_i32 : BitVec 32 := 16#32
  let v19 : BitVec 32 := Scalar.muli arg8 c16_i32
  let v20 : BitVec 32 := v19
  let v56 : BitVec 32 := Scalar.addi c20480_i32_44 v20
  let v57 : Index := Scalar.indexCast v56
  ![v57.toNat]

def k1_chk23 (v60 : IVec S16 32) : Prop :=
  (∀ a x, ((![v60] : Fin 1 → IVec S16 32) a x).toNat < S32768.size a)
theorem k1_idx23_inb : ∀ (v60 : IVec S16 32) (k1_hw23 : k1_chk23 v60), ∀ a x, ((![v60] : Fin 1 → IVec S16 32) a x).toNat < S32768.size a := fun v60 k1_hw23 => k1_hw23
def k1_off30 (k1_t3 : Fin k1_t3_loop.trips) : Fin 1 → Nat :=
  let c24576_i32_45 : BitVec 32 := 24576#32
  let c0_i32_9 : BitVec 32 := 0#32
  let c1_i32_11 : BitVec 32 := 1#32
  let arg8 : BitVec 32 := Scf.iv c0_i32_9 c1_i32_11 k1_t3
  let c16_i32 : BitVec 32 := 16#32
  let v19 : BitVec 32 := Scalar.muli arg8 c16_i32
  let v20 : BitVec 32 := v19
  let v62 : BitVec 32 := Scalar.addi c24576_i32_45 v20
  let v63 : Index := Scalar.indexCast v62
  ![v63.toNat]

def k1_chk24 (v66 : IVec S16 32) : Prop :=
  (∀ a x, ((![v66] : Fin 1 → IVec S16 32) a x).toNat < S32768.size a)
theorem k1_idx24_inb : ∀ (v66 : IVec S16 32) (k1_hw24 : k1_chk24 v66), ∀ a x, ((![v66] : Fin 1 → IVec S16 32) a x).toNat < S32768.size a := fun v66 k1_hw24 => k1_hw24
def k1_off31 (k1_t3 : Fin k1_t3_loop.trips) : Fin 1 → Nat :=
  let c28672_i32_46 : BitVec 32 := 28672#32
  let c0_i32_9 : BitVec 32 := 0#32
  let c1_i32_11 : BitVec 32 := 1#32
  let arg8 : BitVec 32 := Scf.iv c0_i32_9 c1_i32_11 k1_t3
  let c16_i32 : BitVec 32 := 16#32
  let v19 : BitVec 32 := Scalar.muli arg8 c16_i32
  let v20 : BitVec 32 := v19
  let v68 : BitVec 32 := Scalar.addi c28672_i32_46 v20
  let v69 : Index := Scalar.indexCast v68
  ![v69.toNat]
def k1_off32 (i : grid1.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c0_i32 v1
  let c98304_i32_r7 : BitVec 32 := 98304#32
  ![v2.toNat, 98304]
@[reducible] def k1_t4_loop : Scf.Loop 32 :=
  let c0_i32_14 : BitVec 32 := 0#32
  let c256_i32_15 : BitVec 32 := 256#32
  let v9 : BitVec 32 := Scalar.addi c0_i32_14 c256_i32_15
  let c1_i32_16 : BitVec 32 := 1#32
  ⟨c0_i32_14, v9, c1_i32_16⟩
def k1_mult4 (k1_t4 : Fin k1_t4_loop.trips) : BitVec 32 :=
  let c0_i32_14 : BitVec 32 := 0#32
  let c1_i32_16 : BitVec 32 := 1#32
  let arg8 : BitVec 32 := Scf.iv c0_i32_14 c1_i32_16 k1_t4
  let c16_i32 : BitVec 32 := 16#32
  let v19 : BitVec 32 := Scalar.muli arg8 c16_i32
  v19
def k1_off33 (k1_t4 : Fin k1_t4_loop.trips) : Fin 1 → Nat :=
  let c0_i32_14 : BitVec 32 := 0#32
  let c1_i32_16 : BitVec 32 := 1#32
  let arg8 : BitVec 32 := Scf.iv c0_i32_14 c1_i32_16 k1_t4
  let c16_i32 : BitVec 32 := 16#32
  let v19 : BitVec 32 := Scalar.muli arg8 c16_i32
  let v20 : BitVec 32 := v19
  let v21 : Index := Scalar.indexCast v20
  ![v21.toNat]

def k1_chk25 (v24 : IVec S16 32) : Prop :=
  (∀ a x, ((![v24] : Fin 1 → IVec S16 32) a x).toNat < S32768.size a)
theorem k1_idx25_inb : ∀ (v24 : IVec S16 32) (k1_hw25 : k1_chk25 v24), ∀ a x, ((![v24] : Fin 1 → IVec S16 32) a x).toNat < S32768.size a := fun v24 k1_hw25 => k1_hw25
def k1_off34 (k1_t4 : Fin k1_t4_loop.trips) : Fin 1 → Nat :=
  let c0_i32_39 : BitVec 32 := 0#32
  let c0_i32_14 : BitVec 32 := 0#32
  let c1_i32_16 : BitVec 32 := 1#32
  let arg8 : BitVec 32 := Scf.iv c0_i32_14 c1_i32_16 k1_t4
  let c16_i32 : BitVec 32 := 16#32
  let v19 : BitVec 32 := Scalar.muli arg8 c16_i32
  let v20 : BitVec 32 := v19
  let v26 : BitVec 32 := Scalar.addi c0_i32_39 v20
  let v27 : Index := Scalar.indexCast v26
  ![v27.toNat]

def k1_chk26 (v30 : IVec S16 32) : Prop :=
  (∀ a x, ((![v30] : Fin 1 → IVec S16 32) a x).toNat < S32768.size a)
theorem k1_idx26_inb : ∀ (v30 : IVec S16 32) (k1_hw26 : k1_chk26 v30), ∀ a x, ((![v30] : Fin 1 → IVec S16 32) a x).toNat < S32768.size a := fun v30 k1_hw26 => k1_hw26
def k1_off35 (k1_t4 : Fin k1_t4_loop.trips) : Fin 1 → Nat :=
  let c4096_i32_40 : BitVec 32 := 4096#32
  let c0_i32_14 : BitVec 32 := 0#32
  let c1_i32_16 : BitVec 32 := 1#32
  let arg8 : BitVec 32 := Scf.iv c0_i32_14 c1_i32_16 k1_t4
  let c16_i32 : BitVec 32 := 16#32
  let v19 : BitVec 32 := Scalar.muli arg8 c16_i32
  let v20 : BitVec 32 := v19
  let v32 : BitVec 32 := Scalar.addi c4096_i32_40 v20
  let v33 : Index := Scalar.indexCast v32
  ![v33.toNat]

def k1_chk27 (v36 : IVec S16 32) : Prop :=
  (∀ a x, ((![v36] : Fin 1 → IVec S16 32) a x).toNat < S32768.size a)
theorem k1_idx27_inb : ∀ (v36 : IVec S16 32) (k1_hw27 : k1_chk27 v36), ∀ a x, ((![v36] : Fin 1 → IVec S16 32) a x).toNat < S32768.size a := fun v36 k1_hw27 => k1_hw27
def k1_off36 (k1_t4 : Fin k1_t4_loop.trips) : Fin 1 → Nat :=
  let c8192_i32_41 : BitVec 32 := 8192#32
  let c0_i32_14 : BitVec 32 := 0#32
  let c1_i32_16 : BitVec 32 := 1#32
  let arg8 : BitVec 32 := Scf.iv c0_i32_14 c1_i32_16 k1_t4
  let c16_i32 : BitVec 32 := 16#32
  let v19 : BitVec 32 := Scalar.muli arg8 c16_i32
  let v20 : BitVec 32 := v19
  let v38 : BitVec 32 := Scalar.addi c8192_i32_41 v20
  let v39 : Index := Scalar.indexCast v38
  ![v39.toNat]

def k1_chk28 (v42 : IVec S16 32) : Prop :=
  (∀ a x, ((![v42] : Fin 1 → IVec S16 32) a x).toNat < S32768.size a)
theorem k1_idx28_inb : ∀ (v42 : IVec S16 32) (k1_hw28 : k1_chk28 v42), ∀ a x, ((![v42] : Fin 1 → IVec S16 32) a x).toNat < S32768.size a := fun v42 k1_hw28 => k1_hw28
def k1_off37 (k1_t4 : Fin k1_t4_loop.trips) : Fin 1 → Nat :=
  let c12288_i32_42 : BitVec 32 := 12288#32
  let c0_i32_14 : BitVec 32 := 0#32
  let c1_i32_16 : BitVec 32 := 1#32
  let arg8 : BitVec 32 := Scf.iv c0_i32_14 c1_i32_16 k1_t4
  let c16_i32 : BitVec 32 := 16#32
  let v19 : BitVec 32 := Scalar.muli arg8 c16_i32
  let v20 : BitVec 32 := v19
  let v44 : BitVec 32 := Scalar.addi c12288_i32_42 v20
  let v45 : Index := Scalar.indexCast v44
  ![v45.toNat]

def k1_chk29 (v48 : IVec S16 32) : Prop :=
  (∀ a x, ((![v48] : Fin 1 → IVec S16 32) a x).toNat < S32768.size a)
theorem k1_idx29_inb : ∀ (v48 : IVec S16 32) (k1_hw29 : k1_chk29 v48), ∀ a x, ((![v48] : Fin 1 → IVec S16 32) a x).toNat < S32768.size a := fun v48 k1_hw29 => k1_hw29
def k1_off38 (k1_t4 : Fin k1_t4_loop.trips) : Fin 1 → Nat :=
  let c16384_i32_43 : BitVec 32 := 16384#32
  let c0_i32_14 : BitVec 32 := 0#32
  let c1_i32_16 : BitVec 32 := 1#32
  let arg8 : BitVec 32 := Scf.iv c0_i32_14 c1_i32_16 k1_t4
  let c16_i32 : BitVec 32 := 16#32
  let v19 : BitVec 32 := Scalar.muli arg8 c16_i32
  let v20 : BitVec 32 := v19
  let v50 : BitVec 32 := Scalar.addi c16384_i32_43 v20
  let v51 : Index := Scalar.indexCast v50
  ![v51.toNat]

def k1_chk30 (v54 : IVec S16 32) : Prop :=
  (∀ a x, ((![v54] : Fin 1 → IVec S16 32) a x).toNat < S32768.size a)
theorem k1_idx30_inb : ∀ (v54 : IVec S16 32) (k1_hw30 : k1_chk30 v54), ∀ a x, ((![v54] : Fin 1 → IVec S16 32) a x).toNat < S32768.size a := fun v54 k1_hw30 => k1_hw30
def k1_off39 (k1_t4 : Fin k1_t4_loop.trips) : Fin 1 → Nat :=
  let c20480_i32_44 : BitVec 32 := 20480#32
  let c0_i32_14 : BitVec 32 := 0#32
  let c1_i32_16 : BitVec 32 := 1#32
  let arg8 : BitVec 32 := Scf.iv c0_i32_14 c1_i32_16 k1_t4
  let c16_i32 : BitVec 32 := 16#32
  let v19 : BitVec 32 := Scalar.muli arg8 c16_i32
  let v20 : BitVec 32 := v19
  let v56 : BitVec 32 := Scalar.addi c20480_i32_44 v20
  let v57 : Index := Scalar.indexCast v56
  ![v57.toNat]

def k1_chk31 (v60 : IVec S16 32) : Prop :=
  (∀ a x, ((![v60] : Fin 1 → IVec S16 32) a x).toNat < S32768.size a)
theorem k1_idx31_inb : ∀ (v60 : IVec S16 32) (k1_hw31 : k1_chk31 v60), ∀ a x, ((![v60] : Fin 1 → IVec S16 32) a x).toNat < S32768.size a := fun v60 k1_hw31 => k1_hw31
def k1_off40 (k1_t4 : Fin k1_t4_loop.trips) : Fin 1 → Nat :=
  let c24576_i32_45 : BitVec 32 := 24576#32
  let c0_i32_14 : BitVec 32 := 0#32
  let c1_i32_16 : BitVec 32 := 1#32
  let arg8 : BitVec 32 := Scf.iv c0_i32_14 c1_i32_16 k1_t4
  let c16_i32 : BitVec 32 := 16#32
  let v19 : BitVec 32 := Scalar.muli arg8 c16_i32
  let v20 : BitVec 32 := v19
  let v62 : BitVec 32 := Scalar.addi c24576_i32_45 v20
  let v63 : Index := Scalar.indexCast v62
  ![v63.toNat]

def k1_chk32 (v66 : IVec S16 32) : Prop :=
  (∀ a x, ((![v66] : Fin 1 → IVec S16 32) a x).toNat < S32768.size a)
theorem k1_idx32_inb : ∀ (v66 : IVec S16 32) (k1_hw32 : k1_chk32 v66), ∀ a x, ((![v66] : Fin 1 → IVec S16 32) a x).toNat < S32768.size a := fun v66 k1_hw32 => k1_hw32
def k1_off41 (k1_t4 : Fin k1_t4_loop.trips) : Fin 1 → Nat :=
  let c28672_i32_46 : BitVec 32 := 28672#32
  let c0_i32_14 : BitVec 32 := 0#32
  let c1_i32_16 : BitVec 32 := 1#32
  let arg8 : BitVec 32 := Scf.iv c0_i32_14 c1_i32_16 k1_t4
  let c16_i32 : BitVec 32 := 16#32
  let v19 : BitVec 32 := Scalar.muli arg8 c16_i32
  let v20 : BitVec 32 := v19
  let v68 : BitVec 32 := Scalar.addi c28672_i32_46 v20
  let v69 : Index := Scalar.indexCast v68
  ![v69.toNat]
def k1_off42 (i : grid1.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c0_i32 v1
  let c131072_i32_r9 : BitVec 32 := 131072#32
  ![v2.toNat, 131072]
@[reducible] def k1_t5_loop : Scf.Loop 32 :=
  let c0_i32_19 : BitVec 32 := 0#32
  let c256_i32_20 : BitVec 32 := 256#32
  let v11 : BitVec 32 := Scalar.addi c0_i32_19 c256_i32_20
  let c1_i32_21 : BitVec 32 := 1#32
  ⟨c0_i32_19, v11, c1_i32_21⟩
def k1_mult5 (k1_t5 : Fin k1_t5_loop.trips) : BitVec 32 :=
  let c0_i32_19 : BitVec 32 := 0#32
  let c1_i32_21 : BitVec 32 := 1#32
  let arg8 : BitVec 32 := Scf.iv c0_i32_19 c1_i32_21 k1_t5
  let c16_i32 : BitVec 32 := 16#32
  let v19 : BitVec 32 := Scalar.muli arg8 c16_i32
  v19
def k1_off43 (k1_t5 : Fin k1_t5_loop.trips) : Fin 1 → Nat :=
  let c0_i32_19 : BitVec 32 := 0#32
  let c1_i32_21 : BitVec 32 := 1#32
  let arg8 : BitVec 32 := Scf.iv c0_i32_19 c1_i32_21 k1_t5
  let c16_i32 : BitVec 32 := 16#32
  let v19 : BitVec 32 := Scalar.muli arg8 c16_i32
  let v20 : BitVec 32 := v19
  let v21 : Index := Scalar.indexCast v20
  ![v21.toNat]

def k1_chk33 (v24 : IVec S16 32) : Prop :=
  (∀ a x, ((![v24] : Fin 1 → IVec S16 32) a x).toNat < S32768.size a)
theorem k1_idx33_inb : ∀ (v24 : IVec S16 32) (k1_hw33 : k1_chk33 v24), ∀ a x, ((![v24] : Fin 1 → IVec S16 32) a x).toNat < S32768.size a := fun v24 k1_hw33 => k1_hw33
def k1_off44 (k1_t5 : Fin k1_t5_loop.trips) : Fin 1 → Nat :=
  let c0_i32_39 : BitVec 32 := 0#32
  let c0_i32_19 : BitVec 32 := 0#32
  let c1_i32_21 : BitVec 32 := 1#32
  let arg8 : BitVec 32 := Scf.iv c0_i32_19 c1_i32_21 k1_t5
  let c16_i32 : BitVec 32 := 16#32
  let v19 : BitVec 32 := Scalar.muli arg8 c16_i32
  let v20 : BitVec 32 := v19
  let v26 : BitVec 32 := Scalar.addi c0_i32_39 v20
  let v27 : Index := Scalar.indexCast v26
  ![v27.toNat]

def k1_chk34 (v30 : IVec S16 32) : Prop :=
  (∀ a x, ((![v30] : Fin 1 → IVec S16 32) a x).toNat < S32768.size a)
theorem k1_idx34_inb : ∀ (v30 : IVec S16 32) (k1_hw34 : k1_chk34 v30), ∀ a x, ((![v30] : Fin 1 → IVec S16 32) a x).toNat < S32768.size a := fun v30 k1_hw34 => k1_hw34
def k1_off45 (k1_t5 : Fin k1_t5_loop.trips) : Fin 1 → Nat :=
  let c4096_i32_40 : BitVec 32 := 4096#32
  let c0_i32_19 : BitVec 32 := 0#32
  let c1_i32_21 : BitVec 32 := 1#32
  let arg8 : BitVec 32 := Scf.iv c0_i32_19 c1_i32_21 k1_t5
  let c16_i32 : BitVec 32 := 16#32
  let v19 : BitVec 32 := Scalar.muli arg8 c16_i32
  let v20 : BitVec 32 := v19
  let v32 : BitVec 32 := Scalar.addi c4096_i32_40 v20
  let v33 : Index := Scalar.indexCast v32
  ![v33.toNat]

def k1_chk35 (v36 : IVec S16 32) : Prop :=
  (∀ a x, ((![v36] : Fin 1 → IVec S16 32) a x).toNat < S32768.size a)
theorem k1_idx35_inb : ∀ (v36 : IVec S16 32) (k1_hw35 : k1_chk35 v36), ∀ a x, ((![v36] : Fin 1 → IVec S16 32) a x).toNat < S32768.size a := fun v36 k1_hw35 => k1_hw35
def k1_off46 (k1_t5 : Fin k1_t5_loop.trips) : Fin 1 → Nat :=
  let c8192_i32_41 : BitVec 32 := 8192#32
  let c0_i32_19 : BitVec 32 := 0#32
  let c1_i32_21 : BitVec 32 := 1#32
  let arg8 : BitVec 32 := Scf.iv c0_i32_19 c1_i32_21 k1_t5
  let c16_i32 : BitVec 32 := 16#32
  let v19 : BitVec 32 := Scalar.muli arg8 c16_i32
  let v20 : BitVec 32 := v19
  let v38 : BitVec 32 := Scalar.addi c8192_i32_41 v20
  let v39 : Index := Scalar.indexCast v38
  ![v39.toNat]

def k1_chk36 (v42 : IVec S16 32) : Prop :=
  (∀ a x, ((![v42] : Fin 1 → IVec S16 32) a x).toNat < S32768.size a)
theorem k1_idx36_inb : ∀ (v42 : IVec S16 32) (k1_hw36 : k1_chk36 v42), ∀ a x, ((![v42] : Fin 1 → IVec S16 32) a x).toNat < S32768.size a := fun v42 k1_hw36 => k1_hw36
def k1_off47 (k1_t5 : Fin k1_t5_loop.trips) : Fin 1 → Nat :=
  let c12288_i32_42 : BitVec 32 := 12288#32
  let c0_i32_19 : BitVec 32 := 0#32
  let c1_i32_21 : BitVec 32 := 1#32
  let arg8 : BitVec 32 := Scf.iv c0_i32_19 c1_i32_21 k1_t5
  let c16_i32 : BitVec 32 := 16#32
  let v19 : BitVec 32 := Scalar.muli arg8 c16_i32
  let v20 : BitVec 32 := v19
  let v44 : BitVec 32 := Scalar.addi c12288_i32_42 v20
  let v45 : Index := Scalar.indexCast v44
  ![v45.toNat]

def k1_chk37 (v48 : IVec S16 32) : Prop :=
  (∀ a x, ((![v48] : Fin 1 → IVec S16 32) a x).toNat < S32768.size a)
theorem k1_idx37_inb : ∀ (v48 : IVec S16 32) (k1_hw37 : k1_chk37 v48), ∀ a x, ((![v48] : Fin 1 → IVec S16 32) a x).toNat < S32768.size a := fun v48 k1_hw37 => k1_hw37
def k1_off48 (k1_t5 : Fin k1_t5_loop.trips) : Fin 1 → Nat :=
  let c16384_i32_43 : BitVec 32 := 16384#32
  let c0_i32_19 : BitVec 32 := 0#32
  let c1_i32_21 : BitVec 32 := 1#32
  let arg8 : BitVec 32 := Scf.iv c0_i32_19 c1_i32_21 k1_t5
  let c16_i32 : BitVec 32 := 16#32
  let v19 : BitVec 32 := Scalar.muli arg8 c16_i32
  let v20 : BitVec 32 := v19
  let v50 : BitVec 32 := Scalar.addi c16384_i32_43 v20
  let v51 : Index := Scalar.indexCast v50
  ![v51.toNat]

def k1_chk38 (v54 : IVec S16 32) : Prop :=
  (∀ a x, ((![v54] : Fin 1 → IVec S16 32) a x).toNat < S32768.size a)
theorem k1_idx38_inb : ∀ (v54 : IVec S16 32) (k1_hw38 : k1_chk38 v54), ∀ a x, ((![v54] : Fin 1 → IVec S16 32) a x).toNat < S32768.size a := fun v54 k1_hw38 => k1_hw38
def k1_off49 (k1_t5 : Fin k1_t5_loop.trips) : Fin 1 → Nat :=
  let c20480_i32_44 : BitVec 32 := 20480#32
  let c0_i32_19 : BitVec 32 := 0#32
  let c1_i32_21 : BitVec 32 := 1#32
  let arg8 : BitVec 32 := Scf.iv c0_i32_19 c1_i32_21 k1_t5
  let c16_i32 : BitVec 32 := 16#32
  let v19 : BitVec 32 := Scalar.muli arg8 c16_i32
  let v20 : BitVec 32 := v19
  let v56 : BitVec 32 := Scalar.addi c20480_i32_44 v20
  let v57 : Index := Scalar.indexCast v56
  ![v57.toNat]

def k1_chk39 (v60 : IVec S16 32) : Prop :=
  (∀ a x, ((![v60] : Fin 1 → IVec S16 32) a x).toNat < S32768.size a)
theorem k1_idx39_inb : ∀ (v60 : IVec S16 32) (k1_hw39 : k1_chk39 v60), ∀ a x, ((![v60] : Fin 1 → IVec S16 32) a x).toNat < S32768.size a := fun v60 k1_hw39 => k1_hw39
def k1_off50 (k1_t5 : Fin k1_t5_loop.trips) : Fin 1 → Nat :=
  let c24576_i32_45 : BitVec 32 := 24576#32
  let c0_i32_19 : BitVec 32 := 0#32
  let c1_i32_21 : BitVec 32 := 1#32
  let arg8 : BitVec 32 := Scf.iv c0_i32_19 c1_i32_21 k1_t5
  let c16_i32 : BitVec 32 := 16#32
  let v19 : BitVec 32 := Scalar.muli arg8 c16_i32
  let v20 : BitVec 32 := v19
  let v62 : BitVec 32 := Scalar.addi c24576_i32_45 v20
  let v63 : Index := Scalar.indexCast v62
  ![v63.toNat]

def k1_chk40 (v66 : IVec S16 32) : Prop :=
  (∀ a x, ((![v66] : Fin 1 → IVec S16 32) a x).toNat < S32768.size a)
theorem k1_idx40_inb : ∀ (v66 : IVec S16 32) (k1_hw40 : k1_chk40 v66), ∀ a x, ((![v66] : Fin 1 → IVec S16 32) a x).toNat < S32768.size a := fun v66 k1_hw40 => k1_hw40
def k1_off51 (k1_t5 : Fin k1_t5_loop.trips) : Fin 1 → Nat :=
  let c28672_i32_46 : BitVec 32 := 28672#32
  let c0_i32_19 : BitVec 32 := 0#32
  let c1_i32_21 : BitVec 32 := 1#32
  let arg8 : BitVec 32 := Scf.iv c0_i32_19 c1_i32_21 k1_t5
  let c16_i32 : BitVec 32 := 16#32
  let v19 : BitVec 32 := Scalar.muli arg8 c16_i32
  let v20 : BitVec 32 := v19
  let v68 : BitVec 32 := Scalar.addi c28672_i32_46 v20
  let v69 : Index := Scalar.indexCast v68
  ![v69.toNat]
def k1_off52 (i : grid1.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c0_i32 v1
  let c163840_i32_r11 : BitVec 32 := 163840#32
  ![v2.toNat, 163840]
@[reducible] def k1_t6_loop : Scf.Loop 32 :=
  let c0_i32_24 : BitVec 32 := 0#32
  let c256_i32_25 : BitVec 32 := 256#32
  let v13 : BitVec 32 := Scalar.addi c0_i32_24 c256_i32_25
  let c1_i32_26 : BitVec 32 := 1#32
  ⟨c0_i32_24, v13, c1_i32_26⟩
def k1_mult6 (k1_t6 : Fin k1_t6_loop.trips) : BitVec 32 :=
  let c0_i32_24 : BitVec 32 := 0#32
  let c1_i32_26 : BitVec 32 := 1#32
  let arg8 : BitVec 32 := Scf.iv c0_i32_24 c1_i32_26 k1_t6
  let c16_i32 : BitVec 32 := 16#32
  let v19 : BitVec 32 := Scalar.muli arg8 c16_i32
  v19
def k1_off53 (k1_t6 : Fin k1_t6_loop.trips) : Fin 1 → Nat :=
  let c0_i32_24 : BitVec 32 := 0#32
  let c1_i32_26 : BitVec 32 := 1#32
  let arg8 : BitVec 32 := Scf.iv c0_i32_24 c1_i32_26 k1_t6
  let c16_i32 : BitVec 32 := 16#32
  let v19 : BitVec 32 := Scalar.muli arg8 c16_i32
  let v20 : BitVec 32 := v19
  let v21 : Index := Scalar.indexCast v20
  ![v21.toNat]

def k1_chk41 (v24 : IVec S16 32) : Prop :=
  (∀ a x, ((![v24] : Fin 1 → IVec S16 32) a x).toNat < S32768.size a)
theorem k1_idx41_inb : ∀ (v24 : IVec S16 32) (k1_hw41 : k1_chk41 v24), ∀ a x, ((![v24] : Fin 1 → IVec S16 32) a x).toNat < S32768.size a := fun v24 k1_hw41 => k1_hw41
def k1_off54 (k1_t6 : Fin k1_t6_loop.trips) : Fin 1 → Nat :=
  let c0_i32_39 : BitVec 32 := 0#32
  let c0_i32_24 : BitVec 32 := 0#32
  let c1_i32_26 : BitVec 32 := 1#32
  let arg8 : BitVec 32 := Scf.iv c0_i32_24 c1_i32_26 k1_t6
  let c16_i32 : BitVec 32 := 16#32
  let v19 : BitVec 32 := Scalar.muli arg8 c16_i32
  let v20 : BitVec 32 := v19
  let v26 : BitVec 32 := Scalar.addi c0_i32_39 v20
  let v27 : Index := Scalar.indexCast v26
  ![v27.toNat]

def k1_chk42 (v30 : IVec S16 32) : Prop :=
  (∀ a x, ((![v30] : Fin 1 → IVec S16 32) a x).toNat < S32768.size a)
theorem k1_idx42_inb : ∀ (v30 : IVec S16 32) (k1_hw42 : k1_chk42 v30), ∀ a x, ((![v30] : Fin 1 → IVec S16 32) a x).toNat < S32768.size a := fun v30 k1_hw42 => k1_hw42
def k1_off55 (k1_t6 : Fin k1_t6_loop.trips) : Fin 1 → Nat :=
  let c4096_i32_40 : BitVec 32 := 4096#32
  let c0_i32_24 : BitVec 32 := 0#32
  let c1_i32_26 : BitVec 32 := 1#32
  let arg8 : BitVec 32 := Scf.iv c0_i32_24 c1_i32_26 k1_t6
  let c16_i32 : BitVec 32 := 16#32
  let v19 : BitVec 32 := Scalar.muli arg8 c16_i32
  let v20 : BitVec 32 := v19
  let v32 : BitVec 32 := Scalar.addi c4096_i32_40 v20
  let v33 : Index := Scalar.indexCast v32
  ![v33.toNat]

def k1_chk43 (v36 : IVec S16 32) : Prop :=
  (∀ a x, ((![v36] : Fin 1 → IVec S16 32) a x).toNat < S32768.size a)
theorem k1_idx43_inb : ∀ (v36 : IVec S16 32) (k1_hw43 : k1_chk43 v36), ∀ a x, ((![v36] : Fin 1 → IVec S16 32) a x).toNat < S32768.size a := fun v36 k1_hw43 => k1_hw43
def k1_off56 (k1_t6 : Fin k1_t6_loop.trips) : Fin 1 → Nat :=
  let c8192_i32_41 : BitVec 32 := 8192#32
  let c0_i32_24 : BitVec 32 := 0#32
  let c1_i32_26 : BitVec 32 := 1#32
  let arg8 : BitVec 32 := Scf.iv c0_i32_24 c1_i32_26 k1_t6
  let c16_i32 : BitVec 32 := 16#32
  let v19 : BitVec 32 := Scalar.muli arg8 c16_i32
  let v20 : BitVec 32 := v19
  let v38 : BitVec 32 := Scalar.addi c8192_i32_41 v20
  let v39 : Index := Scalar.indexCast v38
  ![v39.toNat]

def k1_chk44 (v42 : IVec S16 32) : Prop :=
  (∀ a x, ((![v42] : Fin 1 → IVec S16 32) a x).toNat < S32768.size a)
theorem k1_idx44_inb : ∀ (v42 : IVec S16 32) (k1_hw44 : k1_chk44 v42), ∀ a x, ((![v42] : Fin 1 → IVec S16 32) a x).toNat < S32768.size a := fun v42 k1_hw44 => k1_hw44
def k1_off57 (k1_t6 : Fin k1_t6_loop.trips) : Fin 1 → Nat :=
  let c12288_i32_42 : BitVec 32 := 12288#32
  let c0_i32_24 : BitVec 32 := 0#32
  let c1_i32_26 : BitVec 32 := 1#32
  let arg8 : BitVec 32 := Scf.iv c0_i32_24 c1_i32_26 k1_t6
  let c16_i32 : BitVec 32 := 16#32
  let v19 : BitVec 32 := Scalar.muli arg8 c16_i32
  let v20 : BitVec 32 := v19
  let v44 : BitVec 32 := Scalar.addi c12288_i32_42 v20
  let v45 : Index := Scalar.indexCast v44
  ![v45.toNat]

def k1_chk45 (v48 : IVec S16 32) : Prop :=
  (∀ a x, ((![v48] : Fin 1 → IVec S16 32) a x).toNat < S32768.size a)
theorem k1_idx45_inb : ∀ (v48 : IVec S16 32) (k1_hw45 : k1_chk45 v48), ∀ a x, ((![v48] : Fin 1 → IVec S16 32) a x).toNat < S32768.size a := fun v48 k1_hw45 => k1_hw45
def k1_off58 (k1_t6 : Fin k1_t6_loop.trips) : Fin 1 → Nat :=
  let c16384_i32_43 : BitVec 32 := 16384#32
  let c0_i32_24 : BitVec 32 := 0#32
  let c1_i32_26 : BitVec 32 := 1#32
  let arg8 : BitVec 32 := Scf.iv c0_i32_24 c1_i32_26 k1_t6
  let c16_i32 : BitVec 32 := 16#32
  let v19 : BitVec 32 := Scalar.muli arg8 c16_i32
  let v20 : BitVec 32 := v19
  let v50 : BitVec 32 := Scalar.addi c16384_i32_43 v20
  let v51 : Index := Scalar.indexCast v50
  ![v51.toNat]

def k1_chk46 (v54 : IVec S16 32) : Prop :=
  (∀ a x, ((![v54] : Fin 1 → IVec S16 32) a x).toNat < S32768.size a)
theorem k1_idx46_inb : ∀ (v54 : IVec S16 32) (k1_hw46 : k1_chk46 v54), ∀ a x, ((![v54] : Fin 1 → IVec S16 32) a x).toNat < S32768.size a := fun v54 k1_hw46 => k1_hw46
def k1_off59 (k1_t6 : Fin k1_t6_loop.trips) : Fin 1 → Nat :=
  let c20480_i32_44 : BitVec 32 := 20480#32
  let c0_i32_24 : BitVec 32 := 0#32
  let c1_i32_26 : BitVec 32 := 1#32
  let arg8 : BitVec 32 := Scf.iv c0_i32_24 c1_i32_26 k1_t6
  let c16_i32 : BitVec 32 := 16#32
  let v19 : BitVec 32 := Scalar.muli arg8 c16_i32
  let v20 : BitVec 32 := v19
  let v56 : BitVec 32 := Scalar.addi c20480_i32_44 v20
  let v57 : Index := Scalar.indexCast v56
  ![v57.toNat]

def k1_chk47 (v60 : IVec S16 32) : Prop :=
  (∀ a x, ((![v60] : Fin 1 → IVec S16 32) a x).toNat < S32768.size a)
theorem k1_idx47_inb : ∀ (v60 : IVec S16 32) (k1_hw47 : k1_chk47 v60), ∀ a x, ((![v60] : Fin 1 → IVec S16 32) a x).toNat < S32768.size a := fun v60 k1_hw47 => k1_hw47
def k1_off60 (k1_t6 : Fin k1_t6_loop.trips) : Fin 1 → Nat :=
  let c24576_i32_45 : BitVec 32 := 24576#32
  let c0_i32_24 : BitVec 32 := 0#32
  let c1_i32_26 : BitVec 32 := 1#32
  let arg8 : BitVec 32 := Scf.iv c0_i32_24 c1_i32_26 k1_t6
  let c16_i32 : BitVec 32 := 16#32
  let v19 : BitVec 32 := Scalar.muli arg8 c16_i32
  let v20 : BitVec 32 := v19
  let v62 : BitVec 32 := Scalar.addi c24576_i32_45 v20
  let v63 : Index := Scalar.indexCast v62
  ![v63.toNat]

def k1_chk48 (v66 : IVec S16 32) : Prop :=
  (∀ a x, ((![v66] : Fin 1 → IVec S16 32) a x).toNat < S32768.size a)
theorem k1_idx48_inb : ∀ (v66 : IVec S16 32) (k1_hw48 : k1_chk48 v66), ∀ a x, ((![v66] : Fin 1 → IVec S16 32) a x).toNat < S32768.size a := fun v66 k1_hw48 => k1_hw48
def k1_off61 (k1_t6 : Fin k1_t6_loop.trips) : Fin 1 → Nat :=
  let c28672_i32_46 : BitVec 32 := 28672#32
  let c0_i32_24 : BitVec 32 := 0#32
  let c1_i32_26 : BitVec 32 := 1#32
  let arg8 : BitVec 32 := Scf.iv c0_i32_24 c1_i32_26 k1_t6
  let c16_i32 : BitVec 32 := 16#32
  let v19 : BitVec 32 := Scalar.muli arg8 c16_i32
  let v20 : BitVec 32 := v19
  let v68 : BitVec 32 := Scalar.addi c28672_i32_46 v20
  let v69 : Index := Scalar.indexCast v68
  ![v69.toNat]
def k1_off62 (i : grid1.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c0_i32 v1
  let c196608_i32_r13 : BitVec 32 := 196608#32
  ![v2.toNat, 196608]
@[reducible] def k1_t7_loop : Scf.Loop 32 :=
  let c0_i32_29 : BitVec 32 := 0#32
  let c256_i32_30 : BitVec 32 := 256#32
  let v15 : BitVec 32 := Scalar.addi c0_i32_29 c256_i32_30
  let c1_i32_31 : BitVec 32 := 1#32
  ⟨c0_i32_29, v15, c1_i32_31⟩
def k1_mult7 (k1_t7 : Fin k1_t7_loop.trips) : BitVec 32 :=
  let c0_i32_29 : BitVec 32 := 0#32
  let c1_i32_31 : BitVec 32 := 1#32
  let arg8 : BitVec 32 := Scf.iv c0_i32_29 c1_i32_31 k1_t7
  let c16_i32 : BitVec 32 := 16#32
  let v19 : BitVec 32 := Scalar.muli arg8 c16_i32
  v19
def k1_off63 (k1_t7 : Fin k1_t7_loop.trips) : Fin 1 → Nat :=
  let c0_i32_29 : BitVec 32 := 0#32
  let c1_i32_31 : BitVec 32 := 1#32
  let arg8 : BitVec 32 := Scf.iv c0_i32_29 c1_i32_31 k1_t7
  let c16_i32 : BitVec 32 := 16#32
  let v19 : BitVec 32 := Scalar.muli arg8 c16_i32
  let v20 : BitVec 32 := v19
  let v21 : Index := Scalar.indexCast v20
  ![v21.toNat]

def k1_chk49 (v24 : IVec S16 32) : Prop :=
  (∀ a x, ((![v24] : Fin 1 → IVec S16 32) a x).toNat < S32768.size a)
theorem k1_idx49_inb : ∀ (v24 : IVec S16 32) (k1_hw49 : k1_chk49 v24), ∀ a x, ((![v24] : Fin 1 → IVec S16 32) a x).toNat < S32768.size a := fun v24 k1_hw49 => k1_hw49
def k1_off64 (k1_t7 : Fin k1_t7_loop.trips) : Fin 1 → Nat :=
  let c0_i32_39 : BitVec 32 := 0#32
  let c0_i32_29 : BitVec 32 := 0#32
  let c1_i32_31 : BitVec 32 := 1#32
  let arg8 : BitVec 32 := Scf.iv c0_i32_29 c1_i32_31 k1_t7
  let c16_i32 : BitVec 32 := 16#32
  let v19 : BitVec 32 := Scalar.muli arg8 c16_i32
  let v20 : BitVec 32 := v19
  let v26 : BitVec 32 := Scalar.addi c0_i32_39 v20
  let v27 : Index := Scalar.indexCast v26
  ![v27.toNat]

def k1_chk50 (v30 : IVec S16 32) : Prop :=
  (∀ a x, ((![v30] : Fin 1 → IVec S16 32) a x).toNat < S32768.size a)
theorem k1_idx50_inb : ∀ (v30 : IVec S16 32) (k1_hw50 : k1_chk50 v30), ∀ a x, ((![v30] : Fin 1 → IVec S16 32) a x).toNat < S32768.size a := fun v30 k1_hw50 => k1_hw50
def k1_off65 (k1_t7 : Fin k1_t7_loop.trips) : Fin 1 → Nat :=
  let c4096_i32_40 : BitVec 32 := 4096#32
  let c0_i32_29 : BitVec 32 := 0#32
  let c1_i32_31 : BitVec 32 := 1#32
  let arg8 : BitVec 32 := Scf.iv c0_i32_29 c1_i32_31 k1_t7
  let c16_i32 : BitVec 32 := 16#32
  let v19 : BitVec 32 := Scalar.muli arg8 c16_i32
  let v20 : BitVec 32 := v19
  let v32 : BitVec 32 := Scalar.addi c4096_i32_40 v20
  let v33 : Index := Scalar.indexCast v32
  ![v33.toNat]

def k1_chk51 (v36 : IVec S16 32) : Prop :=
  (∀ a x, ((![v36] : Fin 1 → IVec S16 32) a x).toNat < S32768.size a)
theorem k1_idx51_inb : ∀ (v36 : IVec S16 32) (k1_hw51 : k1_chk51 v36), ∀ a x, ((![v36] : Fin 1 → IVec S16 32) a x).toNat < S32768.size a := fun v36 k1_hw51 => k1_hw51
def k1_off66 (k1_t7 : Fin k1_t7_loop.trips) : Fin 1 → Nat :=
  let c8192_i32_41 : BitVec 32 := 8192#32
  let c0_i32_29 : BitVec 32 := 0#32
  let c1_i32_31 : BitVec 32 := 1#32
  let arg8 : BitVec 32 := Scf.iv c0_i32_29 c1_i32_31 k1_t7
  let c16_i32 : BitVec 32 := 16#32
  let v19 : BitVec 32 := Scalar.muli arg8 c16_i32
  let v20 : BitVec 32 := v19
  let v38 : BitVec 32 := Scalar.addi c8192_i32_41 v20
  let v39 : Index := Scalar.indexCast v38
  ![v39.toNat]

def k1_chk52 (v42 : IVec S16 32) : Prop :=
  (∀ a x, ((![v42] : Fin 1 → IVec S16 32) a x).toNat < S32768.size a)
theorem k1_idx52_inb : ∀ (v42 : IVec S16 32) (k1_hw52 : k1_chk52 v42), ∀ a x, ((![v42] : Fin 1 → IVec S16 32) a x).toNat < S32768.size a := fun v42 k1_hw52 => k1_hw52
def k1_off67 (k1_t7 : Fin k1_t7_loop.trips) : Fin 1 → Nat :=
  let c12288_i32_42 : BitVec 32 := 12288#32
  let c0_i32_29 : BitVec 32 := 0#32
  let c1_i32_31 : BitVec 32 := 1#32
  let arg8 : BitVec 32 := Scf.iv c0_i32_29 c1_i32_31 k1_t7
  let c16_i32 : BitVec 32 := 16#32
  let v19 : BitVec 32 := Scalar.muli arg8 c16_i32
  let v20 : BitVec 32 := v19
  let v44 : BitVec 32 := Scalar.addi c12288_i32_42 v20
  let v45 : Index := Scalar.indexCast v44
  ![v45.toNat]

def k1_chk53 (v48 : IVec S16 32) : Prop :=
  (∀ a x, ((![v48] : Fin 1 → IVec S16 32) a x).toNat < S32768.size a)
theorem k1_idx53_inb : ∀ (v48 : IVec S16 32) (k1_hw53 : k1_chk53 v48), ∀ a x, ((![v48] : Fin 1 → IVec S16 32) a x).toNat < S32768.size a := fun v48 k1_hw53 => k1_hw53
def k1_off68 (k1_t7 : Fin k1_t7_loop.trips) : Fin 1 → Nat :=
  let c16384_i32_43 : BitVec 32 := 16384#32
  let c0_i32_29 : BitVec 32 := 0#32
  let c1_i32_31 : BitVec 32 := 1#32
  let arg8 : BitVec 32 := Scf.iv c0_i32_29 c1_i32_31 k1_t7
  let c16_i32 : BitVec 32 := 16#32
  let v19 : BitVec 32 := Scalar.muli arg8 c16_i32
  let v20 : BitVec 32 := v19
  let v50 : BitVec 32 := Scalar.addi c16384_i32_43 v20
  let v51 : Index := Scalar.indexCast v50
  ![v51.toNat]

def k1_chk54 (v54 : IVec S16 32) : Prop :=
  (∀ a x, ((![v54] : Fin 1 → IVec S16 32) a x).toNat < S32768.size a)
theorem k1_idx54_inb : ∀ (v54 : IVec S16 32) (k1_hw54 : k1_chk54 v54), ∀ a x, ((![v54] : Fin 1 → IVec S16 32) a x).toNat < S32768.size a := fun v54 k1_hw54 => k1_hw54
def k1_off69 (k1_t7 : Fin k1_t7_loop.trips) : Fin 1 → Nat :=
  let c20480_i32_44 : BitVec 32 := 20480#32
  let c0_i32_29 : BitVec 32 := 0#32
  let c1_i32_31 : BitVec 32 := 1#32
  let arg8 : BitVec 32 := Scf.iv c0_i32_29 c1_i32_31 k1_t7
  let c16_i32 : BitVec 32 := 16#32
  let v19 : BitVec 32 := Scalar.muli arg8 c16_i32
  let v20 : BitVec 32 := v19
  let v56 : BitVec 32 := Scalar.addi c20480_i32_44 v20
  let v57 : Index := Scalar.indexCast v56
  ![v57.toNat]

def k1_chk55 (v60 : IVec S16 32) : Prop :=
  (∀ a x, ((![v60] : Fin 1 → IVec S16 32) a x).toNat < S32768.size a)
theorem k1_idx55_inb : ∀ (v60 : IVec S16 32) (k1_hw55 : k1_chk55 v60), ∀ a x, ((![v60] : Fin 1 → IVec S16 32) a x).toNat < S32768.size a := fun v60 k1_hw55 => k1_hw55
def k1_off70 (k1_t7 : Fin k1_t7_loop.trips) : Fin 1 → Nat :=
  let c24576_i32_45 : BitVec 32 := 24576#32
  let c0_i32_29 : BitVec 32 := 0#32
  let c1_i32_31 : BitVec 32 := 1#32
  let arg8 : BitVec 32 := Scf.iv c0_i32_29 c1_i32_31 k1_t7
  let c16_i32 : BitVec 32 := 16#32
  let v19 : BitVec 32 := Scalar.muli arg8 c16_i32
  let v20 : BitVec 32 := v19
  let v62 : BitVec 32 := Scalar.addi c24576_i32_45 v20
  let v63 : Index := Scalar.indexCast v62
  ![v63.toNat]

def k1_chk56 (v66 : IVec S16 32) : Prop :=
  (∀ a x, ((![v66] : Fin 1 → IVec S16 32) a x).toNat < S32768.size a)
theorem k1_idx56_inb : ∀ (v66 : IVec S16 32) (k1_hw56 : k1_chk56 v66), ∀ a x, ((![v66] : Fin 1 → IVec S16 32) a x).toNat < S32768.size a := fun v66 k1_hw56 => k1_hw56
def k1_off71 (k1_t7 : Fin k1_t7_loop.trips) : Fin 1 → Nat :=
  let c28672_i32_46 : BitVec 32 := 28672#32
  let c0_i32_29 : BitVec 32 := 0#32
  let c1_i32_31 : BitVec 32 := 1#32
  let arg8 : BitVec 32 := Scf.iv c0_i32_29 c1_i32_31 k1_t7
  let c16_i32 : BitVec 32 := 16#32
  let v19 : BitVec 32 := Scalar.muli arg8 c16_i32
  let v20 : BitVec 32 := v19
  let v68 : BitVec 32 := Scalar.addi c28672_i32_46 v20
  let v69 : Index := Scalar.indexCast v68
  ![v69.toNat]
def k1_off72 (i : grid1.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c0_i32 v1
  let c229376_i32_r15 : BitVec 32 := 229376#32
  ![v2.toNat, 229376]
@[reducible] def k1_t8_loop : Scf.Loop 32 :=
  let c0_i32_34 : BitVec 32 := 0#32
  let c256_i32_35 : BitVec 32 := 256#32
  let v17 : BitVec 32 := Scalar.addi c0_i32_34 c256_i32_35
  let c1_i32_36 : BitVec 32 := 1#32
  ⟨c0_i32_34, v17, c1_i32_36⟩
def k1_mult8 (k1_t8 : Fin k1_t8_loop.trips) : BitVec 32 :=
  let c0_i32_34 : BitVec 32 := 0#32
  let c1_i32_36 : BitVec 32 := 1#32
  let arg8 : BitVec 32 := Scf.iv c0_i32_34 c1_i32_36 k1_t8
  let c16_i32 : BitVec 32 := 16#32
  let v19 : BitVec 32 := Scalar.muli arg8 c16_i32
  v19
def k1_off73 (k1_t8 : Fin k1_t8_loop.trips) : Fin 1 → Nat :=
  let c0_i32_34 : BitVec 32 := 0#32
  let c1_i32_36 : BitVec 32 := 1#32
  let arg8 : BitVec 32 := Scf.iv c0_i32_34 c1_i32_36 k1_t8
  let c16_i32 : BitVec 32 := 16#32
  let v19 : BitVec 32 := Scalar.muli arg8 c16_i32
  let v20 : BitVec 32 := v19
  let v21 : Index := Scalar.indexCast v20
  ![v21.toNat]

def k1_chk57 (v24 : IVec S16 32) : Prop :=
  (∀ a x, ((![v24] : Fin 1 → IVec S16 32) a x).toNat < S32768.size a)
theorem k1_idx57_inb : ∀ (v24 : IVec S16 32) (k1_hw57 : k1_chk57 v24), ∀ a x, ((![v24] : Fin 1 → IVec S16 32) a x).toNat < S32768.size a := fun v24 k1_hw57 => k1_hw57
def k1_off74 (k1_t8 : Fin k1_t8_loop.trips) : Fin 1 → Nat :=
  let c0_i32_39 : BitVec 32 := 0#32
  let c0_i32_34 : BitVec 32 := 0#32
  let c1_i32_36 : BitVec 32 := 1#32
  let arg8 : BitVec 32 := Scf.iv c0_i32_34 c1_i32_36 k1_t8
  let c16_i32 : BitVec 32 := 16#32
  let v19 : BitVec 32 := Scalar.muli arg8 c16_i32
  let v20 : BitVec 32 := v19
  let v26 : BitVec 32 := Scalar.addi c0_i32_39 v20
  let v27 : Index := Scalar.indexCast v26
  ![v27.toNat]

def k1_chk58 (v30 : IVec S16 32) : Prop :=
  (∀ a x, ((![v30] : Fin 1 → IVec S16 32) a x).toNat < S32768.size a)
theorem k1_idx58_inb : ∀ (v30 : IVec S16 32) (k1_hw58 : k1_chk58 v30), ∀ a x, ((![v30] : Fin 1 → IVec S16 32) a x).toNat < S32768.size a := fun v30 k1_hw58 => k1_hw58
def k1_off75 (k1_t8 : Fin k1_t8_loop.trips) : Fin 1 → Nat :=
  let c4096_i32_40 : BitVec 32 := 4096#32
  let c0_i32_34 : BitVec 32 := 0#32
  let c1_i32_36 : BitVec 32 := 1#32
  let arg8 : BitVec 32 := Scf.iv c0_i32_34 c1_i32_36 k1_t8
  let c16_i32 : BitVec 32 := 16#32
  let v19 : BitVec 32 := Scalar.muli arg8 c16_i32
  let v20 : BitVec 32 := v19
  let v32 : BitVec 32 := Scalar.addi c4096_i32_40 v20
  let v33 : Index := Scalar.indexCast v32
  ![v33.toNat]

def k1_chk59 (v36 : IVec S16 32) : Prop :=
  (∀ a x, ((![v36] : Fin 1 → IVec S16 32) a x).toNat < S32768.size a)
theorem k1_idx59_inb : ∀ (v36 : IVec S16 32) (k1_hw59 : k1_chk59 v36), ∀ a x, ((![v36] : Fin 1 → IVec S16 32) a x).toNat < S32768.size a := fun v36 k1_hw59 => k1_hw59
def k1_off76 (k1_t8 : Fin k1_t8_loop.trips) : Fin 1 → Nat :=
  let c8192_i32_41 : BitVec 32 := 8192#32
  let c0_i32_34 : BitVec 32 := 0#32
  let c1_i32_36 : BitVec 32 := 1#32
  let arg8 : BitVec 32 := Scf.iv c0_i32_34 c1_i32_36 k1_t8
  let c16_i32 : BitVec 32 := 16#32
  let v19 : BitVec 32 := Scalar.muli arg8 c16_i32
  let v20 : BitVec 32 := v19
  let v38 : BitVec 32 := Scalar.addi c8192_i32_41 v20
  let v39 : Index := Scalar.indexCast v38
  ![v39.toNat]

def k1_chk60 (v42 : IVec S16 32) : Prop :=
  (∀ a x, ((![v42] : Fin 1 → IVec S16 32) a x).toNat < S32768.size a)
theorem k1_idx60_inb : ∀ (v42 : IVec S16 32) (k1_hw60 : k1_chk60 v42), ∀ a x, ((![v42] : Fin 1 → IVec S16 32) a x).toNat < S32768.size a := fun v42 k1_hw60 => k1_hw60
def k1_off77 (k1_t8 : Fin k1_t8_loop.trips) : Fin 1 → Nat :=
  let c12288_i32_42 : BitVec 32 := 12288#32
  let c0_i32_34 : BitVec 32 := 0#32
  let c1_i32_36 : BitVec 32 := 1#32
  let arg8 : BitVec 32 := Scf.iv c0_i32_34 c1_i32_36 k1_t8
  let c16_i32 : BitVec 32 := 16#32
  let v19 : BitVec 32 := Scalar.muli arg8 c16_i32
  let v20 : BitVec 32 := v19
  let v44 : BitVec 32 := Scalar.addi c12288_i32_42 v20
  let v45 : Index := Scalar.indexCast v44
  ![v45.toNat]

def k1_chk61 (v48 : IVec S16 32) : Prop :=
  (∀ a x, ((![v48] : Fin 1 → IVec S16 32) a x).toNat < S32768.size a)
theorem k1_idx61_inb : ∀ (v48 : IVec S16 32) (k1_hw61 : k1_chk61 v48), ∀ a x, ((![v48] : Fin 1 → IVec S16 32) a x).toNat < S32768.size a := fun v48 k1_hw61 => k1_hw61
def k1_off78 (k1_t8 : Fin k1_t8_loop.trips) : Fin 1 → Nat :=
  let c16384_i32_43 : BitVec 32 := 16384#32
  let c0_i32_34 : BitVec 32 := 0#32
  let c1_i32_36 : BitVec 32 := 1#32
  let arg8 : BitVec 32 := Scf.iv c0_i32_34 c1_i32_36 k1_t8
  let c16_i32 : BitVec 32 := 16#32
  let v19 : BitVec 32 := Scalar.muli arg8 c16_i32
  let v20 : BitVec 32 := v19
  let v50 : BitVec 32 := Scalar.addi c16384_i32_43 v20
  let v51 : Index := Scalar.indexCast v50
  ![v51.toNat]

def k1_chk62 (v54 : IVec S16 32) : Prop :=
  (∀ a x, ((![v54] : Fin 1 → IVec S16 32) a x).toNat < S32768.size a)
theorem k1_idx62_inb : ∀ (v54 : IVec S16 32) (k1_hw62 : k1_chk62 v54), ∀ a x, ((![v54] : Fin 1 → IVec S16 32) a x).toNat < S32768.size a := fun v54 k1_hw62 => k1_hw62
def k1_off79 (k1_t8 : Fin k1_t8_loop.trips) : Fin 1 → Nat :=
  let c20480_i32_44 : BitVec 32 := 20480#32
  let c0_i32_34 : BitVec 32 := 0#32
  let c1_i32_36 : BitVec 32 := 1#32
  let arg8 : BitVec 32 := Scf.iv c0_i32_34 c1_i32_36 k1_t8
  let c16_i32 : BitVec 32 := 16#32
  let v19 : BitVec 32 := Scalar.muli arg8 c16_i32
  let v20 : BitVec 32 := v19
  let v56 : BitVec 32 := Scalar.addi c20480_i32_44 v20
  let v57 : Index := Scalar.indexCast v56
  ![v57.toNat]

def k1_chk63 (v60 : IVec S16 32) : Prop :=
  (∀ a x, ((![v60] : Fin 1 → IVec S16 32) a x).toNat < S32768.size a)
theorem k1_idx63_inb : ∀ (v60 : IVec S16 32) (k1_hw63 : k1_chk63 v60), ∀ a x, ((![v60] : Fin 1 → IVec S16 32) a x).toNat < S32768.size a := fun v60 k1_hw63 => k1_hw63
def k1_off80 (k1_t8 : Fin k1_t8_loop.trips) : Fin 1 → Nat :=
  let c24576_i32_45 : BitVec 32 := 24576#32
  let c0_i32_34 : BitVec 32 := 0#32
  let c1_i32_36 : BitVec 32 := 1#32
  let arg8 : BitVec 32 := Scf.iv c0_i32_34 c1_i32_36 k1_t8
  let c16_i32 : BitVec 32 := 16#32
  let v19 : BitVec 32 := Scalar.muli arg8 c16_i32
  let v20 : BitVec 32 := v19
  let v62 : BitVec 32 := Scalar.addi c24576_i32_45 v20
  let v63 : Index := Scalar.indexCast v62
  ![v63.toNat]

def k1_chk64 (v66 : IVec S16 32) : Prop :=
  (∀ a x, ((![v66] : Fin 1 → IVec S16 32) a x).toNat < S32768.size a)
theorem k1_idx64_inb : ∀ (v66 : IVec S16 32) (k1_hw64 : k1_chk64 v66), ∀ a x, ((![v66] : Fin 1 → IVec S16 32) a x).toNat < S32768.size a := fun v66 k1_hw64 => k1_hw64
def k1_off81 (k1_t8 : Fin k1_t8_loop.trips) : Fin 1 → Nat :=
  let c28672_i32_46 : BitVec 32 := 28672#32
  let c0_i32_34 : BitVec 32 := 0#32
  let c1_i32_36 : BitVec 32 := 1#32
  let arg8 : BitVec 32 := Scf.iv c0_i32_34 c1_i32_36 k1_t8
  let c16_i32 : BitVec 32 := 16#32
  let v19 : BitVec 32 := Scalar.muli arg8 c16_i32
  let v20 : BitVec 32 := v19
  let v68 : BitVec 32 := Scalar.addi c28672_i32_46 v20
  let v69 : Index := Scalar.indexCast v68
  ![v69.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "off" => some ((-25165823 / 8388608 : ℝ) : EReal)
  | "span" => some ((33554431 / 16777216 : ℝ) : EReal)
  | _ => none
-- ==== ReferenceIdeal.lean ====
abbrev S32x64x4096 : Shape := ⟨3, ![32, 64, 4096]⟩
abbrev S32x64 : Shape := ⟨2, ![32, 64]⟩
abbrev S32 : Shape := ⟨1, ![32]⟩
abbrev S32x64x1 : Shape := ⟨3, ![32, 64, 1]⟩
abbrev S32x4096 : Shape := ⟨2, ![32, 4096]⟩
abbrev S2 : Shape := ⟨1, ![2]⟩
abbrev S4096 : Shape := ⟨1, ![4096]⟩
abbrev S1x4096 : Shape := ⟨2, ![1, 4096]⟩
abbrev S32x1 : Shape := ⟨2, ![32, 1]⟩
abbrev S_ : Shape := ⟨0, ![]⟩
abbrev S32x1x4096 : Shape := ⟨3, ![32, 1, 4096]⟩
abbrev S32x64x4096x1 : Shape := ⟨4, ![32, 64, 4096, 1]⟩
abbrev S1 : Shape := ⟨1, ![1]⟩
abbrev S1x1x1x1 : Shape := ⟨4, ![1, 1, 1, 1]⟩
abbrev S1x1x1 : Shape := ⟨3, ![1, 1, 1]⟩

abbrev nBuf : Space → Nat
  | .hbm => 460
  | .vmem => 0
  | .smem => 0
  | _ => 0

abbrev hbmTy0_0 (i : Nat) : BufTy := match i % 128 with
  | 0 => ⟨S32x64x4096, .f32⟩
  | 1 => ⟨S32x64, .f32⟩
  | 2 => ⟨S32, .i32⟩
  | 3 => ⟨S32x64x1, .f32⟩
  | 4 => ⟨S32x4096, .i32⟩
  | 5 => ⟨S2, .i32⟩
  | 6 => ⟨S4096, .i32⟩
  | 7 => ⟨S1x4096, .i32⟩
  | 8 => ⟨S32x1, .i32⟩
  | 9 => ⟨S32x4096, .i32⟩
  | 10 => ⟨S32x4096, .i32⟩
  | 11 => ⟨S32x4096, .i32⟩
  | 12 => ⟨S_, .i32⟩
  | 13 => ⟨S32x4096, .i32⟩
  | 14 => ⟨S32x4096, .i1⟩
  | 15 => ⟨S_, .i32⟩
  | 16 => ⟨S32x4096, .i32⟩
  | 17 => ⟨S32x4096, .i1⟩
  | 18 => ⟨S32x4096, .i1⟩
  | 19 => ⟨S_, .i32⟩
  | 20 => ⟨S_, .i32⟩
  | 21 => ⟨S_, .i32⟩
  | 22 => ⟨S32x4096, .i32⟩
  | 23 => ⟨S32x4096, .i32⟩
  | 24 => ⟨S_, .i32⟩
  | 25 => ⟨S32x4096, .i32⟩
  | 26 => ⟨S32x4096, .i32⟩
  | 27 => ⟨S32x1x4096, .i32⟩
  | 28 => ⟨S32x64x4096, .i32⟩
  | 29 => ⟨S32x1x4096, .i1⟩
  | 30 => ⟨S_, .i32⟩
  | 31 => ⟨S32x64x4096, .i32⟩
  | 32 => ⟨S32x64x4096, .i1⟩
  | 33 => ⟨S_, .i32⟩
  | 34 => ⟨S32x64x4096, .i32⟩
  | 35 => ⟨S32x64x4096, .i32⟩
  | 36 => ⟨S32x64x4096, .i32⟩
  | 37 => ⟨S32x64x4096x1, .i32⟩
  | 38 => ⟨S1, .i32⟩
  | 39 => ⟨S_, .i32⟩
  | 40 => ⟨S32x64x4096x1, .i32⟩
  | 41 => ⟨S32x64x4096x1, .i1⟩
  | 42 => ⟨S1x1x1x1, .i32⟩
  | 43 => ⟨S32x64x4096x1, .i32⟩
  | 44 => ⟨S32x64x4096x1, .i1⟩
  | 45 => ⟨S32x64x4096x1, .i1⟩
  | 46 => ⟨S_, .i1⟩
  | 47 => ⟨S32x64x4096, .i1⟩
  | 48 => ⟨S32x64x4096, .f32⟩
  | 49 => ⟨S_, .f32⟩
  | 50 => ⟨S32x64x4096, .f32⟩
  | 51 => ⟨S32x64x4096, .f32⟩
  | 52 => ⟨S_, .f32⟩
  | 53 => ⟨S_, .f32⟩
  | 54 => ⟨S32x64x4096, .i1⟩
  | 55 => ⟨S32x64x4096, .f32⟩
  | 56 => ⟨S32x64x4096, .f32⟩
  | 57 => ⟨S_, .f32⟩
  | 58 => ⟨S_, .f32⟩
  | 59 => ⟨S1x1x1, .f32⟩
  | 60 => ⟨S1x1x1, .f32⟩
  | 61 => ⟨S1, .i32⟩
  | 62 => ⟨S_, .i32⟩
  | 63 => ⟨S1, .i32⟩
  | 64 => ⟨S_, .i32⟩
  | 65 => ⟨S32x64x4096, .i64⟩
  | 66 => ⟨S32x64x4096, .i64⟩
  | 67 => ⟨S32x64x4096, .i64⟩
  | 68 => ⟨S_, .i64⟩
  | 69 => ⟨S32x64x4096, .i64⟩
  | 70 => ⟨S32x64x4096, .i64⟩
  | 71 => ⟨S_, .i64⟩
  | 72 => ⟨S32x64x4096, .i64⟩
  | 73 => ⟨S32x64x4096, .i64⟩
  | 74 => ⟨S_, .i64⟩
  | 75 => ⟨S32x64x4096, .i64⟩
  | 76 => ⟨S32x64x4096, .i64⟩
  | 77 => ⟨S32x64x4096, .i64⟩
  | 78 => ⟨S32x64x4096, .i64⟩
  | 79 => ⟨S_, .i64⟩
  | 80 => ⟨S32x64x4096, .i64⟩
  | 81 => ⟨S32x64x4096, .i64⟩
  | 82 => ⟨S32x64x4096, .i32⟩
  | 83 => ⟨S32x64x4096, .i32⟩
  | 84 => ⟨S_, .i32⟩
  | 85 => ⟨S_, .i32⟩
  | 86 => ⟨S_, .i32⟩
  | 87 => ⟨S32x64x4096, .i32⟩
  | 88 => ⟨S32x64x4096, .i32⟩
  | 89 => ⟨S32x64x4096, .i32⟩
  | 90 => ⟨S32x64x4096, .i32⟩
  | 91 => ⟨S32x64x4096, .i32⟩
  | 92 => ⟨S_, .i32⟩
  | 93 => ⟨S32x64x4096, .i32⟩
  | 94 => ⟨S32x64x4096, .i32⟩
  | 95 => ⟨S_, .i32⟩
  | 96 => ⟨S32x64x4096, .i32⟩
  | 97 => ⟨S32x64x4096, .i32⟩
  | 98 => ⟨S32x64x4096, .i32⟩
  | 99 => ⟨S32x64x4096, .i32⟩
  | 100 => ⟨S32x64x4096, .i32⟩
  | 101 => ⟨S_, .i32⟩
  | 102 => ⟨S32x64x4096, .i32⟩
  | 103 => ⟨S32x64x4096, .i32⟩
  | 104 => ⟨S_, .i32⟩
  | 105 => ⟨S32x64x4096, .i32⟩
  | 106 => ⟨S32x64x4096, .i32⟩
  | 107 => ⟨S32x64x4096, .i32⟩
  | 108 => ⟨S32x64x4096, .i32⟩
  | 109 => ⟨S32x64x4096, .i32⟩
  | 110 => ⟨S_, .i32⟩
  | 111 => ⟨S32x64x4096, .i32⟩
  | 112 => ⟨S32x64x4096, .i32⟩
  | 113 => ⟨S_, .i32⟩
  | 114 => ⟨S32x64x4096, .i32⟩
  | 115 => ⟨S32x64x4096, .i32⟩
  | 116 => ⟨S32x64x4096, .i32⟩
  | 117 => ⟨S32x64x4096, .i32⟩
  | 118 => ⟨S32x64x4096, .i32⟩
  | 119 => ⟨S_, .i32⟩
  | 120 => ⟨S32x64x4096, .i32⟩
  | 121 => ⟨S32x64x4096, .i32⟩
  | 122 => ⟨S_, .i32⟩
  | 123 => ⟨S32x64x4096, .i32⟩
  | 124 => ⟨S32x64x4096, .i32⟩
  | 125 => ⟨S32x64x4096, .i32⟩
  | 126 => ⟨S32x64x4096, .i32⟩
  | 127 => ⟨S32x64x4096, .i32⟩
  | _ => ⟨S32x64x4096, .f32⟩

abbrev hbmTy0_1 (i : Nat) : BufTy := match i % 128 with
  | 0 => ⟨S32x64x4096, .i32⟩
  | 1 => ⟨S32x64x4096, .i32⟩
  | 2 => ⟨S32x64x4096, .i32⟩
  | 3 => ⟨S_, .i32⟩
  | 4 => ⟨S32x64x4096, .i32⟩
  | 5 => ⟨S32x64x4096, .i32⟩
  | 6 => ⟨S32x64x4096, .i32⟩
  | 7 => ⟨S_, .i32⟩
  | 8 => ⟨S32x64x4096, .i32⟩
  | 9 => ⟨S32x64x4096, .i32⟩
  | 10 => ⟨S_, .i32⟩
  | 11 => ⟨S32x64x4096, .i32⟩
  | 12 => ⟨S32x64x4096, .i32⟩
  | 13 => ⟨S32x64x4096, .i32⟩
  | 14 => ⟨S32x64x4096, .i32⟩
  | 15 => ⟨S32x64x4096, .i32⟩
  | 16 => ⟨S_, .i32⟩
  | 17 => ⟨S32x64x4096, .i32⟩
  | 18 => ⟨S32x64x4096, .i32⟩
  | 19 => ⟨S_, .i32⟩
  | 20 => ⟨S32x64x4096, .i32⟩
  | 21 => ⟨S32x64x4096, .i32⟩
  | 22 => ⟨S32x64x4096, .i32⟩
  | 23 => ⟨S32x64x4096, .i32⟩
  | 24 => ⟨S32x64x4096, .i32⟩
  | 25 => ⟨S_, .i32⟩
  | 26 => ⟨S32x64x4096, .i32⟩
  | 27 => ⟨S32x64x4096, .i32⟩
  | 28 => ⟨S_, .i32⟩
  | 29 => ⟨S32x64x4096, .i32⟩
  | 30 => ⟨S32x64x4096, .i32⟩
  | 31 => ⟨S32x64x4096, .i32⟩
  | 32 => ⟨S32x64x4096, .i32⟩
  | 33 => ⟨S32x64x4096, .i32⟩
  | 34 => ⟨S_, .i32⟩
  | 35 => ⟨S32x64x4096, .i32⟩
  | 36 => ⟨S32x64x4096, .i32⟩
  | 37 => ⟨S_, .i32⟩
  | 38 => ⟨S32x64x4096, .i32⟩
  | 39 => ⟨S32x64x4096, .i32⟩
  | 40 => ⟨S32x64x4096, .i32⟩
  | 41 => ⟨S32x64x4096, .i32⟩
  | 42 => ⟨S32x64x4096, .i32⟩
  | 43 => ⟨S32x64x4096, .i32⟩
  | 44 => ⟨S32x64x4096, .i32⟩
  | 45 => ⟨S32x64x4096, .i32⟩
  | 46 => ⟨S_, .i32⟩
  | 47 => ⟨S32x64x4096, .i32⟩
  | 48 => ⟨S32x64x4096, .i32⟩
  | 49 => ⟨S32x64x4096, .i32⟩
  | 50 => ⟨S_, .i32⟩
  | 51 => ⟨S32x64x4096, .i32⟩
  | 52 => ⟨S32x64x4096, .i32⟩
  | 53 => ⟨S_, .i32⟩
  | 54 => ⟨S32x64x4096, .i32⟩
  | 55 => ⟨S32x64x4096, .i32⟩
  | 56 => ⟨S32x64x4096, .i32⟩
  | 57 => ⟨S32x64x4096, .i32⟩
  | 58 => ⟨S32x64x4096, .i32⟩
  | 59 => ⟨S_, .i32⟩
  | 60 => ⟨S32x64x4096, .i32⟩
  | 61 => ⟨S32x64x4096, .i32⟩
  | 62 => ⟨S_, .i32⟩
  | 63 => ⟨S32x64x4096, .i32⟩
  | 64 => ⟨S32x64x4096, .i32⟩
  | 65 => ⟨S32x64x4096, .i32⟩
  | 66 => ⟨S32x64x4096, .i32⟩
  | 67 => ⟨S32x64x4096, .i32⟩
  | 68 => ⟨S_, .i32⟩
  | 69 => ⟨S32x64x4096, .i32⟩
  | 70 => ⟨S32x64x4096, .i32⟩
  | 71 => ⟨S_, .i32⟩
  | 72 => ⟨S32x64x4096, .i32⟩
  | 73 => ⟨S32x64x4096, .i32⟩
  | 74 => ⟨S32x64x4096, .i32⟩
  | 75 => ⟨S32x64x4096, .i32⟩
  | 76 => ⟨S32x64x4096, .i32⟩
  | 77 => ⟨S_, .i32⟩
  | 78 => ⟨S32x64x4096, .i32⟩
  | 79 => ⟨S32x64x4096, .i32⟩
  | 80 => ⟨S_, .i32⟩
  | 81 => ⟨S32x64x4096, .i32⟩
  | 82 => ⟨S32x64x4096, .i32⟩
  | 83 => ⟨S32x64x4096, .i32⟩
  | 84 => ⟨S32x64x4096, .i32⟩
  | 85 => ⟨S32x64x4096, .i32⟩
  | 86 => ⟨S32x64x4096, .i32⟩
  | 87 => ⟨S32x64x4096, .i32⟩
  | 88 => ⟨S32x64x4096, .i32⟩
  | 89 => ⟨S_, .i32⟩
  | 90 => ⟨S32x64x4096, .i32⟩
  | 91 => ⟨S32x64x4096, .i32⟩
  | 92 => ⟨S32x64x4096, .i32⟩
  | 93 => ⟨S_, .i32⟩
  | 94 => ⟨S32x64x4096, .i32⟩
  | 95 => ⟨S32x64x4096, .i32⟩
  | 96 => ⟨S_, .i32⟩
  | 97 => ⟨S32x64x4096, .i32⟩
  | 98 => ⟨S32x64x4096, .i32⟩
  | 99 => ⟨S32x64x4096, .i32⟩
  | 100 => ⟨S32x64x4096, .i32⟩
  | 101 => ⟨S32x64x4096, .i32⟩
  | 102 => ⟨S_, .i32⟩
  | 103 => ⟨S32x64x4096, .i32⟩
  | 104 => ⟨S32x64x4096, .i32⟩
  | 105 => ⟨S_, .i32⟩
  | 106 => ⟨S32x64x4096, .i32⟩
  | 107 => ⟨S32x64x4096, .i32⟩
  | 108 => ⟨S32x64x4096, .i32⟩
  | 109 => ⟨S32x64x4096, .i32⟩
  | 110 => ⟨S32x64x4096, .i32⟩
  | 111 => ⟨S_, .i32⟩
  | 112 => ⟨S32x64x4096, .i32⟩
  | 113 => ⟨S32x64x4096, .i32⟩
  | 114 => ⟨S_, .i32⟩
  | 115 => ⟨S32x64x4096, .i32⟩
  | 116 => ⟨S32x64x4096, .i32⟩
  | 117 => ⟨S32x64x4096, .i32⟩
  | 118 => ⟨S32x64x4096, .i32⟩
  | 119 => ⟨S32x64x4096, .i32⟩
  | 120 => ⟨S_, .i32⟩
  | 121 => ⟨S32x64x4096, .i32⟩
  | 122 => ⟨S32x64x4096, .i32⟩
  | 123 => ⟨S_, .i32⟩
  | 124 => ⟨S32x64x4096, .i32⟩
  | 125 => ⟨S32x64x4096, .i32⟩
  | 126 => ⟨S32x64x4096, .i32⟩
  | 127 => ⟨S32x64x4096, .i32⟩
  | _ => ⟨S32x64x4096, .f32⟩

abbrev hbmTy0_2 (i : Nat) : BufTy := match i % 128 with
  | 0 => ⟨S32x64x4096, .i32⟩
  | 1 => ⟨S32x64x4096, .i32⟩
  | 2 => ⟨S32x64x4096, .i32⟩
  | 3 => ⟨S32x64x4096, .i32⟩
  | 4 => ⟨S_, .i32⟩
  | 5 => ⟨S32x64x4096, .i32⟩
  | 6 => ⟨S32x64x4096, .i32⟩
  | 7 => ⟨S32x64x4096, .i32⟩
  | 8 => ⟨S_, .i32⟩
  | 9 => ⟨S32x64x4096, .i32⟩
  | 10 => ⟨S32x64x4096, .i32⟩
  | 11 => ⟨S_, .i32⟩
  | 12 => ⟨S32x64x4096, .i32⟩
  | 13 => ⟨S32x64x4096, .i32⟩
  | 14 => ⟨S32x64x4096, .i32⟩
  | 15 => ⟨S32x64x4096, .i32⟩
  | 16 => ⟨S32x64x4096, .i32⟩
  | 17 => ⟨S_, .i32⟩
  | 18 => ⟨S32x64x4096, .i32⟩
  | 19 => ⟨S32x64x4096, .i32⟩
  | 20 => ⟨S_, .i32⟩
  | 21 => ⟨S32x64x4096, .i32⟩
  | 22 => ⟨S32x64x4096, .i32⟩
  | 23 => ⟨S32x64x4096, .i32⟩
  | 24 => ⟨S32x64x4096, .i32⟩
  | 25 => ⟨S32x64x4096, .i32⟩
  | 26 => ⟨S_, .i32⟩
  | 27 => ⟨S32x64x4096, .i32⟩
  | 28 => ⟨S32x64x4096, .i32⟩
  | 29 => ⟨S_, .i32⟩
  | 30 => ⟨S32x64x4096, .i32⟩
  | 31 => ⟨S32x64x4096, .i32⟩
  | 32 => ⟨S32x64x4096, .i32⟩
  | 33 => ⟨S32x64x4096, .i32⟩
  | 34 => ⟨S32x64x4096, .i32⟩
  | 35 => ⟨S_, .i32⟩
  | 36 => ⟨S32x64x4096, .i32⟩
  | 37 => ⟨S32x64x4096, .i32⟩
  | 38 => ⟨S_, .i32⟩
  | 39 => ⟨S32x64x4096, .i32⟩
  | 40 => ⟨S32x64x4096, .i32⟩
  | 41 => ⟨S32x64x4096, .i32⟩
  | 42 => ⟨S32x64x4096, .i32⟩
  | 43 => ⟨S32x64x4096, .i32⟩
  | 44 => ⟨S32x64x4096, .i32⟩
  | 45 => ⟨S32x64x4096, .i32⟩
  | 46 => ⟨S32x64x4096, .i32⟩
  | 47 => ⟨S_, .i32⟩
  | 48 => ⟨S32x64x4096, .i32⟩
  | 49 => ⟨S32x64x4096, .i32⟩
  | 50 => ⟨S32x64x4096, .i32⟩
  | 51 => ⟨S_, .i32⟩
  | 52 => ⟨S32x64x4096, .i32⟩
  | 53 => ⟨S32x64x4096, .i32⟩
  | 54 => ⟨S_, .i32⟩
  | 55 => ⟨S32x64x4096, .i32⟩
  | 56 => ⟨S32x64x4096, .i32⟩
  | 57 => ⟨S32x64x4096, .f32⟩
  | 58 => ⟨S_, .f32⟩
  | 59 => ⟨S32x64x4096, .f32⟩
  | 60 => ⟨S32x64x4096, .f32⟩
  | 61 => ⟨S1x1x1, .f32⟩
  | 62 => ⟨S32x64x4096, .f32⟩
  | 63 => ⟨S32x64x4096, .f32⟩
  | 64 => ⟨S32x64x4096, .f32⟩
  | 65 => ⟨S32x64x4096, .f32⟩
  | 66 => ⟨S32x64x4096, .f32⟩
  | 67 => ⟨S32x64x4096, .f32⟩
  | 68 => ⟨S32x64x4096, .f32⟩
  | 69 => ⟨S32x64x4096, .f32⟩
  | 70 => ⟨S32x64x4096, .f32⟩
  | 71 => ⟨S32x64x4096, .f32⟩
  | 72 => ⟨S_, .f32⟩
  | 73 => ⟨S32x64x4096, .f32⟩
  | 74 => ⟨S32x64x4096, .f32⟩
  | 75 => ⟨S_, .f32⟩
  | 76 => ⟨S32x64x4096, .f32⟩
  | 77 => ⟨S32x64x4096, .f32⟩
  | 78 => ⟨S_, .f32⟩
  | 79 => ⟨S32x64x4096, .f32⟩
  | 80 => ⟨S32x64x4096, .f32⟩
  | 81 => ⟨S32x64x4096, .f32⟩
  | 82 => ⟨S_, .f32⟩
  | 83 => ⟨S32x64x4096, .f32⟩
  | 84 => ⟨S32x64x4096, .f32⟩
  | 85 => ⟨S32x64x4096, .f32⟩
  | 86 => ⟨S_, .f32⟩
  | 87 => ⟨S32x64x4096, .f32⟩
  | 88 => ⟨S32x64x4096, .f32⟩
  | 89 => ⟨S32x64x4096, .f32⟩
  | 90 => ⟨S_, .f32⟩
  | 91 => ⟨S32x64x4096, .f32⟩
  | 92 => ⟨S32x64x4096, .f32⟩
  | 93 => ⟨S32x64x4096, .f32⟩
  | 94 => ⟨S_, .f32⟩
  | 95 => ⟨S32x64x4096, .f32⟩
  | 96 => ⟨S32x64x4096, .f32⟩
  | 97 => ⟨S32x64x4096, .f32⟩
  | 98 => ⟨S_, .f32⟩
  | 99 => ⟨S32x64x4096, .f32⟩
  | 100 => ⟨S32x64x4096, .f32⟩
  | 101 => ⟨S32x64x4096, .f32⟩
  | 102 => ⟨S_, .f32⟩
  | 103 => ⟨S32x64x4096, .f32⟩
  | 104 => ⟨S32x64x4096, .f32⟩
  | 105 => ⟨S32x64x4096, .f32⟩
  | 106 => ⟨S_, .f32⟩
  | 107 => ⟨S32x64x4096, .f32⟩
  | 108 => ⟨S32x64x4096, .f32⟩
  | 109 => ⟨S32x64x4096, .f32⟩
  | 110 => ⟨S_, .f32⟩
  | 111 => ⟨S32x64x4096, .f32⟩
  | 112 => ⟨S32x64x4096, .f32⟩
  | 113 => ⟨S_, .f32⟩
  | 114 => ⟨S32x64x4096, .f32⟩
  | 115 => ⟨S32x64x4096, .f32⟩
  | 116 => ⟨S_, .f32⟩
  | 117 => ⟨S32x64x4096, .f32⟩
  | 118 => ⟨S32x64x4096, .f32⟩
  | 119 => ⟨S32x64x4096, .f32⟩
  | 120 => ⟨S_, .f32⟩
  | 121 => ⟨S32x64x4096, .f32⟩
  | 122 => ⟨S32x64x4096, .f32⟩
  | 123 => ⟨S32x64x4096, .f32⟩
  | 124 => ⟨S_, .f32⟩
  | 125 => ⟨S32x64x4096, .f32⟩
  | 126 => ⟨S32x64x4096, .f32⟩
  | 127 => ⟨S32x64x4096, .f32⟩
  | _ => ⟨S32x64x4096, .f32⟩

abbrev hbmTy0_3 (i : Nat) : BufTy := match i % 128 with
  | 0 => ⟨S_, .f32⟩
  | 1 => ⟨S32x64x4096, .f32⟩
  | 2 => ⟨S32x64x4096, .f32⟩
  | 3 => ⟨S32x64x4096, .f32⟩
  | 4 => ⟨S_, .f32⟩
  | 5 => ⟨S32x64x4096, .f32⟩
  | 6 => ⟨S32x64x4096, .f32⟩
  | 7 => ⟨S32x64x4096, .f32⟩
  | 8 => ⟨S_, .f32⟩
  | 9 => ⟨S32x64x4096, .f32⟩
  | 10 => ⟨S32x64x4096, .f32⟩
  | 11 => ⟨S32x64x4096, .f32⟩
  | 12 => ⟨S_, .f32⟩
  | 13 => ⟨S32x64x4096, .f32⟩
  | 14 => ⟨S32x64x4096, .f32⟩
  | 15 => ⟨S32x64x4096, .f32⟩
  | 16 => ⟨S_, .f32⟩
  | 17 => ⟨S32x64x4096, .f32⟩
  | 18 => ⟨S32x64x4096, .f32⟩
  | 19 => ⟨S_, .f32⟩
  | 20 => ⟨S32x64x4096, .f32⟩
  | 21 => ⟨S32x64x4096, .i1⟩
  | 22 => ⟨S32x64x4096, .f32⟩
  | 23 => ⟨S32x64x4096, .f32⟩
  | 24 => ⟨S_, .f32⟩
  | 25 => ⟨S32x64x4096, .f32⟩
  | 26 => ⟨S32x64x4096, .f32⟩
  | 27 => ⟨S_, .f32⟩
  | 28 => ⟨S32x64x4096, .f32⟩
  | 29 => ⟨S32x64x4096, .f32⟩
  | 30 => ⟨S32x64x4096, .f32⟩
  | 31 => ⟨S_, .f32⟩
  | 32 => ⟨S32x64x1, .f32⟩
  | 33 => ⟨S32x64x1, .i1⟩
  | 34 => ⟨S32x64x1, .f32⟩
  | 35 => ⟨S32x64x1, .f32⟩
  | 36 => ⟨S_, .f32⟩
  | 37 => ⟨S32x64x1, .f32⟩
  | 38 => ⟨S32x64x1, .f32⟩
  | 39 => ⟨S32x64x4096, .f32⟩
  | 40 => ⟨S32x64x4096, .f32⟩
  | 41 => ⟨S_, .f32⟩
  | 42 => ⟨S32x64x1, .f32⟩
  | 43 => ⟨S32x64x1, .f32⟩
  | 44 => ⟨S32x64x4096, .f32⟩
  | 45 => ⟨S32x64x4096, .f32⟩
  | 46 => ⟨S_, .f32⟩
  | 47 => ⟨S32x64x1, .f32⟩
  | 48 => ⟨S32x64x1, .f32⟩
  | 49 => ⟨S32x64x4096, .f32⟩
  | 50 => ⟨S32x64x4096, .f32⟩
  | 51 => ⟨S32x64x4096, .f32⟩
  | 52 => ⟨S32x1x4096, .i32⟩
  | 53 => ⟨S32x64x4096, .i32⟩
  | 54 => ⟨S_, .i32⟩
  | 55 => ⟨S32x64x4096, .i32⟩
  | 56 => ⟨S32x64x4096, .i1⟩
  | 57 => ⟨S_, .i32⟩
  | 58 => ⟨S32x64x4096, .i32⟩
  | 59 => ⟨S32x64x4096, .i32⟩
  | 60 => ⟨S32x64x4096, .i32⟩
  | 61 => ⟨S32x64x4096x1, .i32⟩
  | 62 => ⟨S1, .i32⟩
  | 63 => ⟨S_, .i32⟩
  | 64 => ⟨S32x64x4096x1, .i32⟩
  | 65 => ⟨S32x64x4096x1, .i1⟩
  | 66 => ⟨S1x1x1x1, .i32⟩
  | 67 => ⟨S32x64x4096x1, .i32⟩
  | 68 => ⟨S32x64x4096x1, .i1⟩
  | 69 => ⟨S32x64x4096x1, .i1⟩
  | 70 => ⟨S_, .i1⟩
  | 71 => ⟨S32x64x4096, .i1⟩
  | 72 => ⟨S32x64x4096, .f32⟩
  | 73 => ⟨S_, .f32⟩
  | 74 => ⟨S32x64x4096, .f32⟩
  | 75 => ⟨S32x64x4096, .f32⟩
  | _ => ⟨S32x64x4096, .f32⟩

abbrev hbmTy (i : Nat) : BufTy := match i / 128 with
  | 0 => hbmTy0_0 i
  | 1 => hbmTy0_1 i
  | 2 => hbmTy0_2 i
  | 3 => hbmTy0_3 i
  | _ => ⟨S32x64x4096, .f32⟩

abbrev bufTy : (tb : Table) → Fin (tcTables nBuf tb) → BufTy
  | .hbm, ⟨i, _⟩ => hbmTy i
  | _, _ => ⟨S32x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_cst : Ref sig .tc := ⟨.hbm, 49, rfl⟩
abbrev main_call1_v14 : Ref sig .tc := ⟨.hbm, 50, rfl⟩
abbrev main_v15 : Ref sig .tc := ⟨.hbm, 51, rfl⟩
abbrev main_cst : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v16 : Ref sig .tc := ⟨.hbm, 56, rfl⟩
abbrev main_cst_3 : Ref sig .tc := ⟨.hbm, 57, rfl⟩
abbrev main_cst_4 : Ref sig .tc := ⟨.hbm, 58, rfl⟩
abbrev main_call3_v0 : Ref sig .tc := ⟨.hbm, 59, rfl⟩
abbrev main_call3_v1 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_call3_v5 : Ref sig .tc := ⟨.hbm, 64, rfl⟩
abbrev main_call3_v6 : Ref sig .tc := ⟨.hbm, 65, rfl⟩
abbrev main_call3_v7 : Ref sig .tc := ⟨.hbm, 66, rfl⟩
abbrev main_call3_v8 : Ref sig .tc := ⟨.hbm, 67, rfl⟩
abbrev main_call3_c : Ref sig .tc := ⟨.hbm, 68, rfl⟩
abbrev main_call3_v9 : Ref sig .tc := ⟨.hbm, 69, rfl⟩
abbrev main_call3_v10 : Ref sig .tc := ⟨.hbm, 70, rfl⟩
abbrev main_call3_c_0 : Ref sig .tc := ⟨.hbm, 71, rfl⟩
abbrev main_call3_v11 : Ref sig .tc := ⟨.hbm, 72, rfl⟩
abbrev main_call3_v12 : Ref sig .tc := ⟨.hbm, 73, rfl⟩
abbrev main_call3_c_1 : Ref sig .tc := ⟨.hbm, 74, rfl⟩
abbrev main_call3_v13 : Ref sig .tc := ⟨.hbm, 75, rfl⟩
abbrev main_call3_v14 : Ref sig .tc := ⟨.hbm, 76, rfl⟩
abbrev main_call3_v15 : Ref sig .tc := ⟨.hbm, 77, rfl⟩
abbrev main_call3_v16 : Ref sig .tc := ⟨.hbm, 78, rfl⟩
abbrev main_call3_c_2 : Ref sig .tc := ⟨.hbm, 79, rfl⟩
abbrev main_call3_v17 : Ref sig .tc := ⟨.hbm, 80, rfl⟩
abbrev main_call3_v18 : Ref sig .tc := ⟨.hbm, 81, rfl⟩
abbrev main_call3_v19 : Ref sig .tc := ⟨.hbm, 82, rfl⟩
abbrev main_call3_v20 : Ref sig .tc := ⟨.hbm, 83, rfl⟩
abbrev main_call3_call0_v0 : Ref sig .tc := ⟨.hbm, 84, rfl⟩
abbrev main_call3_call0_c : Ref sig .tc := ⟨.hbm, 85, rfl⟩
abbrev main_call3_call0_v1 : Ref sig .tc := ⟨.hbm, 86, rfl⟩
abbrev main_call3_call0_v2 : Ref sig .tc := ⟨.hbm, 87, rfl⟩
abbrev main_call3_call0_v3 : Ref sig .tc := ⟨.hbm, 88, rfl⟩
abbrev main_call3_call0_v4 : Ref sig .tc := ⟨.hbm, 89, rfl⟩
abbrev main_call3_call0_v5 : Ref sig .tc := ⟨.hbm, 90, rfl⟩
abbrev main_call3_call0_v6 : Ref sig .tc := ⟨.hbm, 91, rfl⟩
abbrev main_call3_call0_c_0 : Ref sig .tc := ⟨.hbm, 92, rfl⟩
abbrev main_call3_call0_v7 : Ref sig .tc := ⟨.hbm, 93, rfl⟩
abbrev main_call3_call0_v8 : Ref sig .tc := ⟨.hbm, 94, rfl⟩
abbrev main_call3_call0_c_1 : Ref sig .tc := ⟨.hbm, 95, rfl⟩
abbrev main_call3_call0_v9 : Ref sig .tc := ⟨.hbm, 96, rfl⟩
abbrev main_call3_call0_v10 : Ref sig .tc := ⟨.hbm, 97, rfl⟩
abbrev main_call3_call0_v11 : Ref sig .tc := ⟨.hbm, 98, rfl⟩
abbrev main_call3_call0_v12 : Ref sig .tc := ⟨.hbm, 99, rfl⟩
abbrev main_call3_call0_v13 : Ref sig .tc := ⟨.hbm, 100, rfl⟩
abbrev main_call3_call0_c_2 : Ref sig .tc := ⟨.hbm, 101, rfl⟩
abbrev main_call3_call0_v14 : Ref sig .tc := ⟨.hbm, 102, rfl⟩
abbrev main_call3_call0_v15 : Ref sig .tc := ⟨.hbm, 103, rfl⟩
abbrev main_call3_call0_c_3 : Ref sig .tc := ⟨.hbm, 104, rfl⟩
abbrev main_call3_call0_v16 : Ref sig .tc := ⟨.hbm, 105, rfl⟩
abbrev main_call3_call0_v17 : Ref sig .tc := ⟨.hbm, 106, rfl⟩
abbrev main_call3_call0_v18 : Ref sig .tc := ⟨.hbm, 107, rfl⟩
abbrev main_call3_call0_v19 : Ref sig .tc := ⟨.hbm, 108, rfl⟩
abbrev main_call3_call0_v20 : Ref sig .tc := ⟨.hbm, 109, rfl⟩
abbrev main_call3_call0_c_4 : Ref sig .tc := ⟨.hbm, 110, rfl⟩
abbrev main_call3_call0_v21 : Ref sig .tc := ⟨.hbm, 111, rfl⟩
abbrev main_call3_call0_v22 : Ref sig .tc := ⟨.hbm, 112, rfl⟩
abbrev main_call3_call0_c_5 : Ref sig .tc := ⟨.hbm, 113, rfl⟩
abbrev main_call3_call0_v23 : Ref sig .tc := ⟨.hbm, 114, rfl⟩
abbrev main_call3_call0_v24 : Ref sig .tc := ⟨.hbm, 115, rfl⟩
abbrev main_call3_call0_v25 : Ref sig .tc := ⟨.hbm, 116, rfl⟩
abbrev main_call3_call0_v26 : Ref sig .tc := ⟨.hbm, 117, rfl⟩
abbrev main_call3_call0_v27 : Ref sig .tc := ⟨.hbm, 118, rfl⟩
abbrev main_call3_call0_c_6 : Ref sig .tc := ⟨.hbm, 119, rfl⟩
abbrev main_call3_call0_v28 : Ref sig .tc := ⟨.hbm, 120, rfl⟩
abbrev main_call3_call0_v29 : Ref sig .tc := ⟨.hbm, 121, rfl⟩
abbrev main_call3_call0_c_7 : Ref sig .tc := ⟨.hbm, 122, rfl⟩
abbrev main_call3_call0_v30 : Ref sig .tc := ⟨.hbm, 123, rfl⟩
abbrev main_call3_call0_v31 : Ref sig .tc := ⟨.hbm, 124, rfl⟩
abbrev main_call3_call0_v32 : Ref sig .tc := ⟨.hbm, 125, rfl⟩
abbrev main_call3_call0_v33 : Ref sig .tc := ⟨.hbm, 126, rfl⟩
abbrev main_call3_call0_v34 : Ref sig .tc := ⟨.hbm, 127, rfl⟩
abbrev main_call3_call0_v35 : Ref sig .tc := ⟨.hbm, 128, rfl⟩
abbrev main_call3_call0_v36 : Ref sig .tc := ⟨.hbm, 129, rfl⟩
abbrev main_call3_call0_v37 : Ref sig .tc := ⟨.hbm, 130, rfl⟩
abbrev main_call3_call0_c_8 : Ref sig .tc := ⟨.hbm, 131, rfl⟩
abbrev main_call3_call0_v38 : Ref sig .tc := ⟨.hbm, 132, rfl⟩
abbrev main_call3_call0_v39 : Ref sig .tc := ⟨.hbm, 133, rfl⟩
abbrev main_call3_call0_v40 : Ref sig .tc := ⟨.hbm, 134, rfl⟩
abbrev main_call3_call0_c_9 : Ref sig .tc := ⟨.hbm, 135, rfl⟩
abbrev main_call3_call0_v41 : Ref sig .tc := ⟨.hbm, 136, rfl⟩
abbrev main_call3_call0_v42 : Ref sig .tc := ⟨.hbm, 137, rfl⟩
abbrev main_call3_call0_c_10 : Ref sig .tc := ⟨.hbm, 138, rfl⟩
abbrev main_call3_call0_v43 : Ref sig .tc := ⟨.hbm, 139, rfl⟩
abbrev main_call3_call0_v44 : Ref sig .tc := ⟨.hbm, 140, rfl⟩
abbrev main_call3_call0_v45 : Ref sig .tc := ⟨.hbm, 141, rfl⟩
abbrev main_call3_call0_v46 : Ref sig .tc := ⟨.hbm, 142, rfl⟩
abbrev main_call3_call0_v47 : Ref sig .tc := ⟨.hbm, 143, rfl⟩
abbrev main_call3_call0_c_11 : Ref sig .tc := ⟨.hbm, 144, rfl⟩
abbrev main_call3_call0_v48 : Ref sig .tc := ⟨.hbm, 145, rfl⟩
abbrev main_call3_call0_v49 : Ref sig .tc := ⟨.hbm, 146, rfl⟩
abbrev main_call3_call0_c_12 : Ref sig .tc := ⟨.hbm, 147, rfl⟩
abbrev main_call3_call0_v50 : Ref sig .tc := ⟨.hbm, 148, rfl⟩
abbrev main_call3_call0_v51 : Ref sig .tc := ⟨.hbm, 149, rfl⟩
abbrev main_call3_call0_v52 : Ref sig .tc := ⟨.hbm, 150, rfl⟩
abbrev main_call3_call0_v53 : Ref sig .tc := ⟨.hbm, 151, rfl⟩
abbrev main_call3_call0_v54 : Ref sig .tc := ⟨.hbm, 152, rfl⟩
abbrev main_call3_call0_c_13 : Ref sig .tc := ⟨.hbm, 153, rfl⟩
abbrev main_call3_call0_v55 : Ref sig .tc := ⟨.hbm, 154, rfl⟩
abbrev main_call3_call0_v56 : Ref sig .tc := ⟨.hbm, 155, rfl⟩
abbrev main_call3_call0_c_14 : Ref sig .tc := ⟨.hbm, 156, rfl⟩
abbrev main_call3_call0_v57 : Ref sig .tc := ⟨.hbm, 157, rfl⟩
abbrev main_call3_call0_v58 : Ref sig .tc := ⟨.hbm, 158, rfl⟩
abbrev main_call3_call0_v59 : Ref sig .tc := ⟨.hbm, 159, rfl⟩
abbrev main_call3_call0_v60 : Ref sig .tc := ⟨.hbm, 160, rfl⟩
abbrev main_call3_call0_v61 : Ref sig .tc := ⟨.hbm, 161, rfl⟩
abbrev main_call3_call0_c_15 : Ref sig .tc := ⟨.hbm, 162, rfl⟩
abbrev main_call3_call0_v62 : Ref sig .tc := ⟨.hbm, 163, rfl⟩
abbrev main_call3_call0_v63 : Ref sig .tc := ⟨.hbm, 164, rfl⟩
abbrev main_call3_call0_c_16 : Ref sig .tc := ⟨.hbm, 165, rfl⟩
abbrev main_call3_call0_v64 : Ref sig .tc := ⟨.hbm, 166, rfl⟩
abbrev main_call3_call0_v65 : Ref sig .tc := ⟨.hbm, 167, rfl⟩
abbrev main_call3_call0_v66 : Ref sig .tc := ⟨.hbm, 168, rfl⟩
abbrev main_call3_call0_v67 : Ref sig .tc := ⟨.hbm, 169, rfl⟩
abbrev main_call3_call0_v68 : Ref sig .tc := ⟨.hbm, 170, rfl⟩
abbrev main_call3_call0_v69 : Ref sig .tc := ⟨.hbm, 171, rfl⟩
abbrev main_call3_call0_v70 : Ref sig .tc := ⟨.hbm, 172, rfl⟩
abbrev main_call3_call0_v71 : Ref sig .tc := ⟨.hbm, 173, rfl⟩
abbrev main_call3_call0_c_17 : Ref sig .tc := ⟨.hbm, 174, rfl⟩
abbrev main_call3_call0_v72 : Ref sig .tc := ⟨.hbm, 175, rfl⟩
abbrev main_call3_call0_v73 : Ref sig .tc := ⟨.hbm, 176, rfl⟩
abbrev main_call3_call0_v74 : Ref sig .tc := ⟨.hbm, 177, rfl⟩
abbrev main_call3_call0_c_18 : Ref sig .tc := ⟨.hbm, 178, rfl⟩
abbrev main_call3_call0_v75 : Ref sig .tc := ⟨.hbm, 179, rfl⟩
abbrev main_call3_call0_v76 : Ref sig .tc := ⟨.hbm, 180, rfl⟩
abbrev main_call3_call0_c_19 : Ref sig .tc := ⟨.hbm, 181, rfl⟩
abbrev main_call3_call0_v77 : Ref sig .tc := ⟨.hbm, 182, rfl⟩
abbrev main_call3_call0_v78 : Ref sig .tc := ⟨.hbm, 183, rfl⟩
abbrev main_call3_call0_v79 : Ref sig .tc := ⟨.hbm, 184, rfl⟩
abbrev main_call3_call0_v80 : Ref sig .tc := ⟨.hbm, 185, rfl⟩
abbrev main_call3_call0_v81 : Ref sig .tc := ⟨.hbm, 186, rfl⟩
abbrev main_call3_call0_c_20 : Ref sig .tc := ⟨.hbm, 187, rfl⟩
abbrev main_call3_call0_v82 : Ref sig .tc := ⟨.hbm, 188, rfl⟩
abbrev main_call3_call0_v83 : Ref sig .tc := ⟨.hbm, 189, rfl⟩
abbrev main_call3_call0_c_21 : Ref sig .tc := ⟨.hbm, 190, rfl⟩
abbrev main_call3_call0_v84 : Ref sig .tc := ⟨.hbm, 191, rfl⟩
abbrev main_call3_call0_v85 : Ref sig .tc := ⟨.hbm, 192, rfl⟩
abbrev main_call3_call0_v86 : Ref sig .tc := ⟨.hbm, 193, rfl⟩
abbrev main_call3_call0_v87 : Ref sig .tc := ⟨.hbm, 194, rfl⟩
abbrev main_call3_call0_v88 : Ref sig .tc := ⟨.hbm, 195, rfl⟩
abbrev main_call3_call0_c_22 : Ref sig .tc := ⟨.hbm, 196, rfl⟩
abbrev main_call3_call0_v89 : Ref sig .tc := ⟨.hbm, 197, rfl⟩
abbrev main_call3_call0_v90 : Ref sig .tc := ⟨.hbm, 198, rfl⟩
abbrev main_call3_call0_c_23 : Ref sig .tc := ⟨.hbm, 199, rfl⟩
abbrev main_call3_call0_v91 : Ref sig .tc := ⟨.hbm, 200, rfl⟩
abbrev main_call3_call0_v92 : Ref sig .tc := ⟨.hbm, 201, rfl⟩
abbrev main_call3_call0_v93 : Ref sig .tc := ⟨.hbm, 202, rfl⟩
abbrev main_call3_call0_v94 : Ref sig .tc := ⟨.hbm, 203, rfl⟩
abbrev main_call3_call0_v95 : Ref sig .tc := ⟨.hbm, 204, rfl⟩
abbrev main_call3_call0_c_24 : Ref sig .tc := ⟨.hbm, 205, rfl⟩
abbrev main_call3_call0_v96 : Ref sig .tc := ⟨.hbm, 206, rfl⟩
abbrev main_call3_call0_v97 : Ref sig .tc := ⟨.hbm, 207, rfl⟩
abbrev main_call3_call0_c_25 : Ref sig .tc := ⟨.hbm, 208, rfl⟩
abbrev main_call3_call0_v98 : Ref sig .tc := ⟨.hbm, 209, rfl⟩
abbrev main_call3_call0_v99 : Ref sig .tc := ⟨.hbm, 210, rfl⟩
abbrev main_call3_call0_v100 : Ref sig .tc := ⟨.hbm, 211, rfl⟩
abbrev main_call3_call0_v101 : Ref sig .tc := ⟨.hbm, 212, rfl⟩
abbrev main_call3_call0_v102 : Ref sig .tc := ⟨.hbm, 213, rfl⟩
abbrev main_call3_call0_v103 : Ref sig .tc := ⟨.hbm, 214, rfl⟩
abbrev main_call3_call0_v104 : Ref sig .tc := ⟨.hbm, 215, rfl⟩
abbrev main_call3_call0_v105 : Ref sig .tc := ⟨.hbm, 216, rfl⟩
abbrev main_call3_call0_c_26 : Ref sig .tc := ⟨.hbm, 217, rfl⟩
abbrev main_call3_call0_v106 : Ref sig .tc := ⟨.hbm, 218, rfl⟩
abbrev main_call3_call0_v107 : Ref sig .tc := ⟨.hbm, 219, rfl⟩
abbrev main_call3_call0_v108 : Ref sig .tc := ⟨.hbm, 220, rfl⟩
abbrev main_call3_call0_c_27 : Ref sig .tc := ⟨.hbm, 221, rfl⟩
abbrev main_call3_call0_v109 : Ref sig .tc := ⟨.hbm, 222, rfl⟩
abbrev main_call3_call0_v110 : Ref sig .tc := ⟨.hbm, 223, rfl⟩
abbrev main_call3_call0_c_28 : Ref sig .tc := ⟨.hbm, 224, rfl⟩
abbrev main_call3_call0_v111 : Ref sig .tc := ⟨.hbm, 225, rfl⟩
abbrev main_call3_call0_v112 : Ref sig .tc := ⟨.hbm, 226, rfl⟩
abbrev main_call3_call0_v113 : Ref sig .tc := ⟨.hbm, 227, rfl⟩
abbrev main_call3_call0_v114 : Ref sig .tc := ⟨.hbm, 228, rfl⟩
abbrev main_call3_call0_v115 : Ref sig .tc := ⟨.hbm, 229, rfl⟩
abbrev main_call3_call0_c_29 : Ref sig .tc := ⟨.hbm, 230, rfl⟩
abbrev main_call3_call0_v116 : Ref sig .tc := ⟨.hbm, 231, rfl⟩
abbrev main_call3_call0_v117 : Ref sig .tc := ⟨.hbm, 232, rfl⟩
abbrev main_call3_call0_c_30 : Ref sig .tc := ⟨.hbm, 233, rfl⟩
abbrev main_call3_call0_v118 : Ref sig .tc := ⟨.hbm, 234, rfl⟩
abbrev main_call3_call0_v119 : Ref sig .tc := ⟨.hbm, 235, rfl⟩
abbrev main_call3_call0_v120 : Ref sig .tc := ⟨.hbm, 236, rfl⟩
abbrev main_call3_call0_v121 : Ref sig .tc := ⟨.hbm, 237, rfl⟩
abbrev main_call3_call0_v122 : Ref sig .tc := ⟨.hbm, 238, rfl⟩
abbrev main_call3_call0_c_31 : Ref sig .tc := ⟨.hbm, 239, rfl⟩
abbrev main_call3_call0_v123 : Ref sig .tc := ⟨.hbm, 240, rfl⟩
abbrev main_call3_call0_v124 : Ref sig .tc := ⟨.hbm, 241, rfl⟩
abbrev main_call3_call0_c_32 : Ref sig .tc := ⟨.hbm, 242, rfl⟩
abbrev main_call3_call0_v125 : Ref sig .tc := ⟨.hbm, 243, rfl⟩
abbrev main_call3_call0_v126 : Ref sig .tc := ⟨.hbm, 244, rfl⟩
abbrev main_call3_call0_v127 : Ref sig .tc := ⟨.hbm, 245, rfl⟩
abbrev main_call3_call0_v128 : Ref sig .tc := ⟨.hbm, 246, rfl⟩
abbrev main_call3_call0_v129 : Ref sig .tc := ⟨.hbm, 247, rfl⟩
abbrev main_call3_call0_c_33 : Ref sig .tc := ⟨.hbm, 248, rfl⟩
abbrev main_call3_call0_v130 : Ref sig .tc := ⟨.hbm, 249, rfl⟩
abbrev main_call3_call0_v131 : Ref sig .tc := ⟨.hbm, 250, rfl⟩
abbrev main_call3_call0_c_34 : Ref sig .tc := ⟨.hbm, 251, rfl⟩
abbrev main_call3_call0_v132 : Ref sig .tc := ⟨.hbm, 252, rfl⟩
abbrev main_call3_call0_v133 : Ref sig .tc := ⟨.hbm, 253, rfl⟩
abbrev main_call3_call0_v134 : Ref sig .tc := ⟨.hbm, 254, rfl⟩
abbrev main_call3_call0_v135 : Ref sig .tc := ⟨.hbm, 255, rfl⟩
abbrev main_call3_call0_v136 : Ref sig .tc := ⟨.hbm, 256, rfl⟩
abbrev main_call3_call0_v137 : Ref sig .tc := ⟨.hbm, 257, rfl⟩
abbrev main_call3_call0_v138 : Ref sig .tc := ⟨.hbm, 258, rfl⟩
abbrev main_call3_call0_v139 : Ref sig .tc := ⟨.hbm, 259, rfl⟩
abbrev main_call3_call0_c_35 : Ref sig .tc := ⟨.hbm, 260, rfl⟩
abbrev main_call3_call0_v140 : Ref sig .tc := ⟨.hbm, 261, rfl⟩
abbrev main_call3_call0_v141 : Ref sig .tc := ⟨.hbm, 262, rfl⟩
abbrev main_call3_call0_v142 : Ref sig .tc := ⟨.hbm, 263, rfl⟩
abbrev main_call3_call0_c_36 : Ref sig .tc := ⟨.hbm, 264, rfl⟩
abbrev main_call3_call0_v143 : Ref sig .tc := ⟨.hbm, 265, rfl⟩
abbrev main_call3_call0_v144 : Ref sig .tc := ⟨.hbm, 266, rfl⟩
abbrev main_call3_call0_c_37 : Ref sig .tc := ⟨.hbm, 267, rfl⟩
abbrev main_call3_call0_v145 : Ref sig .tc := ⟨.hbm, 268, rfl⟩
abbrev main_call3_call0_v146 : Ref sig .tc := ⟨.hbm, 269, rfl⟩
abbrev main_call3_call0_v147 : Ref sig .tc := ⟨.hbm, 270, rfl⟩
abbrev main_call3_call0_v148 : Ref sig .tc := ⟨.hbm, 271, rfl⟩
abbrev main_call3_call0_v149 : Ref sig .tc := ⟨.hbm, 272, rfl⟩
abbrev main_call3_call0_c_38 : Ref sig .tc := ⟨.hbm, 273, rfl⟩
abbrev main_call3_call0_v150 : Ref sig .tc := ⟨.hbm, 274, rfl⟩
abbrev main_call3_call0_v151 : Ref sig .tc := ⟨.hbm, 275, rfl⟩
abbrev main_call3_call0_c_39 : Ref sig .tc := ⟨.hbm, 276, rfl⟩
abbrev main_call3_call0_v152 : Ref sig .tc := ⟨.hbm, 277, rfl⟩
abbrev main_call3_call0_v153 : Ref sig .tc := ⟨.hbm, 278, rfl⟩
abbrev main_call3_call0_v154 : Ref sig .tc := ⟨.hbm, 279, rfl⟩
abbrev main_call3_call0_v155 : Ref sig .tc := ⟨.hbm, 280, rfl⟩
abbrev main_call3_call0_v156 : Ref sig .tc := ⟨.hbm, 281, rfl⟩
abbrev main_call3_call0_c_40 : Ref sig .tc := ⟨.hbm, 282, rfl⟩
abbrev main_call3_call0_v157 : Ref sig .tc := ⟨.hbm, 283, rfl⟩
abbrev main_call3_call0_v158 : Ref sig .tc := ⟨.hbm, 284, rfl⟩
abbrev main_call3_call0_c_41 : Ref sig .tc := ⟨.hbm, 285, rfl⟩
abbrev main_call3_call0_v159 : Ref sig .tc := ⟨.hbm, 286, rfl⟩
abbrev main_call3_call0_v160 : Ref sig .tc := ⟨.hbm, 287, rfl⟩
abbrev main_call3_call0_v161 : Ref sig .tc := ⟨.hbm, 288, rfl⟩
abbrev main_call3_call0_v162 : Ref sig .tc := ⟨.hbm, 289, rfl⟩
abbrev main_call3_call0_v163 : Ref sig .tc := ⟨.hbm, 290, rfl⟩
abbrev main_call3_call0_c_42 : Ref sig .tc := ⟨.hbm, 291, rfl⟩
abbrev main_call3_call0_v164 : Ref sig .tc := ⟨.hbm, 292, rfl⟩
abbrev main_call3_call0_v165 : Ref sig .tc := ⟨.hbm, 293, rfl⟩
abbrev main_call3_call0_c_43 : Ref sig .tc := ⟨.hbm, 294, rfl⟩
abbrev main_call3_call0_v166 : Ref sig .tc := ⟨.hbm, 295, rfl⟩
abbrev main_call3_call0_v167 : Ref sig .tc := ⟨.hbm, 296, rfl⟩
abbrev main_call3_call0_v168 : Ref sig .tc := ⟨.hbm, 297, rfl⟩
abbrev main_call3_call0_v169 : Ref sig .tc := ⟨.hbm, 298, rfl⟩
abbrev main_call3_call0_v170 : Ref sig .tc := ⟨.hbm, 299, rfl⟩
abbrev main_call3_v21_0 : Ref sig .tc := ⟨.hbm, 300, rfl⟩
abbrev main_call3_call0_v172 : Ref sig .tc := ⟨.hbm, 301, rfl⟩
abbrev main_call3_call0_v173 : Ref sig .tc := ⟨.hbm, 302, rfl⟩
abbrev main_call3_call0_c_44 : Ref sig .tc := ⟨.hbm, 303, rfl⟩
abbrev main_call3_call0_v174 : Ref sig .tc := ⟨.hbm, 304, rfl⟩
abbrev main_call3_v21_1 : Ref sig .tc := ⟨.hbm, 305, rfl⟩
abbrev main_call3_v22 : Ref sig .tc := ⟨.hbm, 306, rfl⟩
abbrev main_call3_c_3 : Ref sig .tc := ⟨.hbm, 307, rfl⟩
abbrev main_call3_v23 : Ref sig .tc := ⟨.hbm, 308, rfl⟩
abbrev main_call3_v24 : Ref sig .tc := ⟨.hbm, 309, rfl⟩
abbrev main_call3_c_4 : Ref sig .tc := ⟨.hbm, 310, rfl⟩
abbrev main_call3_v25 : Ref sig .tc := ⟨.hbm, 311, rfl⟩
abbrev main_call3_v26 : Ref sig .tc := ⟨.hbm, 312, rfl⟩
abbrev main_call3_v27 : Ref sig .tc := ⟨.hbm, 313, rfl⟩
abbrev main_call3_cst : Ref sig .tc := ⟨.hbm, 314, rfl⟩
abbrev main_call3_v28 : Ref sig .tc := ⟨.hbm, 315, rfl⟩
abbrev main_call3_v29 : Ref sig .tc := ⟨.hbm, 316, rfl⟩
abbrev main_call3_v30 : Ref sig .tc := ⟨.hbm, 317, rfl⟩
abbrev main_call3_v31 : Ref sig .tc := ⟨.hbm, 318, rfl⟩
abbrev main_call3_v32 : Ref sig .tc := ⟨.hbm, 319, rfl⟩
abbrev main_call3_v33 : Ref sig .tc := ⟨.hbm, 320, rfl⟩
abbrev main_call3_v34 : Ref sig .tc := ⟨.hbm, 321, rfl⟩
abbrev main_call3_v35 : Ref sig .tc := ⟨.hbm, 322, rfl⟩
abbrev main_v17 : Ref sig .tc := ⟨.hbm, 323, rfl⟩
abbrev main_v18 : Ref sig .tc := ⟨.hbm, 324, rfl⟩
abbrev main_v19 : Ref sig .tc := ⟨.hbm, 325, rfl⟩
abbrev main_v20 : Ref sig .tc := ⟨.hbm, 326, rfl⟩
abbrev main_v21 : Ref sig .tc := ⟨.hbm, 327, rfl⟩
abbrev main_cst_5 : Ref sig .tc := ⟨.hbm, 328, rfl⟩
abbrev main_v22 : Ref sig .tc := ⟨.hbm, 329, rfl⟩
abbrev main_v23 : Ref sig .tc := ⟨.hbm, 330, rfl⟩
abbrev main_cst_6 : Ref sig .tc := ⟨.hbm, 331, rfl⟩
abbrev main_v24 : Ref sig .tc := ⟨.hbm, 332, rfl⟩
abbrev main_v25 : Ref sig .tc := ⟨.hbm, 333, rfl⟩
abbrev main_cst_7 : Ref sig .tc := ⟨.hbm, 334, rfl⟩
abbrev main_v26 : Ref sig .tc := ⟨.hbm, 335, rfl⟩
abbrev main_v27 : Ref sig .tc := ⟨.hbm, 336, rfl⟩
abbrev main_v28 : Ref sig .tc := ⟨.hbm, 337, rfl⟩
abbrev main_cst_8 : Ref sig .tc := ⟨.hbm, 338, rfl⟩
abbrev main_v29 : Ref sig .tc := ⟨.hbm, 339, rfl⟩
abbrev main_v30 : Ref sig .tc := ⟨.hbm, 340, rfl⟩
abbrev main_v31 : Ref sig .tc := ⟨.hbm, 341, rfl⟩
abbrev main_cst_9 : Ref sig .tc := ⟨.hbm, 342, rfl⟩
abbrev main_v32 : Ref sig .tc := ⟨.hbm, 343, rfl⟩
abbrev main_v33 : Ref sig .tc := ⟨.hbm, 344, rfl⟩
abbrev main_v34 : Ref sig .tc := ⟨.hbm, 345, rfl⟩
abbrev main_cst_10 : Ref sig .tc := ⟨.hbm, 346, rfl⟩
abbrev main_v35 : Ref sig .tc := ⟨.hbm, 347, rfl⟩
abbrev main_v36 : Ref sig .tc := ⟨.hbm, 348, rfl⟩
abbrev main_v37 : Ref sig .tc := ⟨.hbm, 349, rfl⟩
abbrev main_cst_11 : Ref sig .tc := ⟨.hbm, 350, rfl⟩
abbrev main_v38 : Ref sig .tc := ⟨.hbm, 351, rfl⟩
abbrev main_v39 : Ref sig .tc := ⟨.hbm, 352, rfl⟩
abbrev main_v40 : Ref sig .tc := ⟨.hbm, 353, rfl⟩
abbrev main_cst_12 : Ref sig .tc := ⟨.hbm, 354, rfl⟩
abbrev main_v41 : Ref sig .tc := ⟨.hbm, 355, rfl⟩
abbrev main_v42 : Ref sig .tc := ⟨.hbm, 356, rfl⟩
abbrev main_v43 : Ref sig .tc := ⟨.hbm, 357, rfl⟩
abbrev main_cst_13 : Ref sig .tc := ⟨.hbm, 358, rfl⟩
abbrev main_v44 : Ref sig .tc := ⟨.hbm, 359, rfl⟩
abbrev main_v45 : Ref sig .tc := ⟨.hbm, 360, rfl⟩
abbrev main_v46 : Ref sig .tc := ⟨.hbm, 361, rfl⟩
abbrev main_cst_14 : Ref sig .tc := ⟨.hbm, 362, rfl⟩
abbrev main_v47 : Ref sig .tc := ⟨.hbm, 363, rfl⟩
abbrev main_v48 : Ref sig .tc := ⟨.hbm, 364, rfl⟩
abbrev main_v49 : Ref sig .tc := ⟨.hbm, 365, rfl⟩
abbrev main_cst_15 : Ref sig .tc := ⟨.hbm, 366, rfl⟩
abbrev main_v50 : Ref sig .tc := ⟨.hbm, 367, rfl⟩
abbrev main_v51 : Ref sig .tc := ⟨.hbm, 368, rfl⟩
abbrev main_cst_16 : Ref sig .tc := ⟨.hbm, 369, rfl⟩
abbrev main_v52 : Ref sig .tc := ⟨.hbm, 370, rfl⟩
abbrev main_v53 : Ref sig .tc := ⟨.hbm, 371, rfl⟩
abbrev main_cst_17 : Ref sig .tc := ⟨.hbm, 372, rfl⟩
abbrev main_v54 : Ref sig .tc := ⟨.hbm, 373, rfl⟩
abbrev main_v55 : Ref sig .tc := ⟨.hbm, 374, rfl⟩
abbrev main_v56 : Ref sig .tc := ⟨.hbm, 375, rfl⟩
abbrev main_cst_18 : Ref sig .tc := ⟨.hbm, 376, rfl⟩
abbrev main_v57 : Ref sig .tc := ⟨.hbm, 377, rfl⟩
abbrev main_v58 : Ref sig .tc := ⟨.hbm, 378, rfl⟩
abbrev main_v59 : Ref sig .tc := ⟨.hbm, 379, rfl⟩
abbrev main_cst_19 : Ref sig .tc := ⟨.hbm, 380, rfl⟩
abbrev main_v60 : Ref sig .tc := ⟨.hbm, 381, rfl⟩
abbrev main_v61 : Ref sig .tc := ⟨.hbm, 382, rfl⟩
abbrev main_v62 : Ref sig .tc := ⟨.hbm, 383, rfl⟩
abbrev main_cst_20 : Ref sig .tc := ⟨.hbm, 384, rfl⟩
abbrev main_v63 : Ref sig .tc := ⟨.hbm, 385, rfl⟩
abbrev main_v64 : Ref sig .tc := ⟨.hbm, 386, rfl⟩
abbrev main_v65 : Ref sig .tc := ⟨.hbm, 387, rfl⟩
abbrev main_cst_21 : Ref sig .tc := ⟨.hbm, 388, rfl⟩
abbrev main_v66 : Ref sig .tc := ⟨.hbm, 389, rfl⟩
abbrev main_v67 : Ref sig .tc := ⟨.hbm, 390, rfl⟩
abbrev main_v68 : Ref sig .tc := ⟨.hbm, 391, rfl⟩
abbrev main_cst_22 : Ref sig .tc := ⟨.hbm, 392, rfl⟩
abbrev main_v69 : Ref sig .tc := ⟨.hbm, 393, rfl⟩
abbrev main_v70 : Ref sig .tc := ⟨.hbm, 394, rfl⟩
abbrev main_v71 : Ref sig .tc := ⟨.hbm, 395, rfl⟩
abbrev main_cst_23 : Ref sig .tc := ⟨.hbm, 396, rfl⟩
abbrev main_v72 : Ref sig .tc := ⟨.hbm, 397, rfl⟩
abbrev main_v73 : Ref sig .tc := ⟨.hbm, 398, rfl⟩
abbrev main_v74 : Ref sig .tc := ⟨.hbm, 399, rfl⟩
abbrev main_cst_24 : Ref sig .tc := ⟨.hbm, 400, rfl⟩
abbrev main_v75 : Ref sig .tc := ⟨.hbm, 401, rfl⟩
abbrev main_v76 : Ref sig .tc := ⟨.hbm, 402, rfl⟩
abbrev main_cst_25 : Ref sig .tc := ⟨.hbm, 403, rfl⟩
abbrev main_v77 : Ref sig .tc := ⟨.hbm, 404, rfl⟩
abbrev main_v78 : Ref sig .tc := ⟨.hbm, 405, rfl⟩
abbrev main_v79 : Ref sig .tc := ⟨.hbm, 406, rfl⟩
abbrev main_v80 : Ref sig .tc := ⟨.hbm, 407, rfl⟩
abbrev main_cst_26 : Ref sig .tc := ⟨.hbm, 408, rfl⟩
abbrev main_v81 : Ref sig .tc := ⟨.hbm, 409, rfl⟩
abbrev main_v82 : Ref sig .tc := ⟨.hbm, 410, rfl⟩
abbrev main_cst_27 : Ref sig .tc := ⟨.hbm, 411, rfl⟩
abbrev main_v83 : Ref sig .tc := ⟨.hbm, 412, rfl⟩
abbrev main_v84 : Ref sig .tc := ⟨.hbm, 413, rfl⟩
abbrev main_v85 : Ref sig .tc := ⟨.hbm, 414, rfl⟩
abbrev main_cst_28 : Ref sig .tc := ⟨.hbm, 415, rfl⟩
abbrev main_v86 : Ref sig .tc := ⟨.hbm, 416, rfl⟩
abbrev main_v87 : Ref sig .tc := ⟨.hbm, 417, rfl⟩
abbrev main_v88 : Ref sig .tc := ⟨.hbm, 418, rfl⟩
abbrev main_v89 : Ref sig .tc := ⟨.hbm, 419, rfl⟩
abbrev main_cst_29 : Ref sig .tc := ⟨.hbm, 420, rfl⟩
abbrev main_v90 : Ref sig .tc := ⟨.hbm, 421, rfl⟩
abbrev main_v91 : Ref sig .tc := ⟨.hbm, 422, rfl⟩
abbrev main_v92 : Ref sig .tc := ⟨.hbm, 423, rfl⟩
abbrev main_v93 : Ref sig .tc := ⟨.hbm, 424, rfl⟩
abbrev main_cst_30 : Ref sig .tc := ⟨.hbm, 425, rfl⟩
abbrev main_v94 : Ref sig .tc := ⟨.hbm, 426, rfl⟩
abbrev main_v95 : Ref sig .tc := ⟨.hbm, 427, rfl⟩
abbrev main_v96 : Ref sig .tc := ⟨.hbm, 428, rfl⟩
abbrev main_v97 : Ref sig .tc := ⟨.hbm, 429, rfl⟩
abbrev main_cst_31 : Ref sig .tc := ⟨.hbm, 430, rfl⟩
abbrev main_v98 : Ref sig .tc := ⟨.hbm, 431, rfl⟩
abbrev main_v99 : Ref sig .tc := ⟨.hbm, 432, rfl⟩
abbrev main_v100 : Ref sig .tc := ⟨.hbm, 433, rfl⟩
abbrev main_v101 : Ref sig .tc := ⟨.hbm, 434, rfl⟩
abbrev main_v102 : Ref sig .tc := ⟨.hbm, 435, rfl⟩
abbrev main_v103 : Ref sig .tc := ⟨.hbm, 436, rfl⟩
abbrev main_v104 : Ref sig .tc := ⟨.hbm, 437, rfl⟩
abbrev main_call5_c : Ref sig .tc := ⟨.hbm, 438, rfl⟩
abbrev main_call5_v0 : Ref sig .tc := ⟨.hbm, 439, rfl⟩
abbrev main_call5_v1 : Ref sig .tc := ⟨.hbm, 440, rfl⟩
abbrev main_call5_c_0 : Ref sig .tc := ⟨.hbm, 441, rfl⟩
abbrev main_call5_v2 : Ref sig .tc := ⟨.hbm, 442, rfl⟩
abbrev main_call5_v3 : Ref sig .tc := ⟨.hbm, 443, rfl⟩
abbrev main_call5_v4 : Ref sig .tc := ⟨.hbm, 444, rfl⟩
abbrev main_call5_v5 : Ref sig .tc := ⟨.hbm, 445, rfl⟩
abbrev main_call5_c_1 : Ref sig .tc := ⟨.hbm, 446, rfl⟩
abbrev main_call5_c_2 : Ref sig .tc := ⟨.hbm, 447, rfl⟩
abbrev main_call5_v6 : Ref sig .tc := ⟨.hbm, 448, rfl⟩
abbrev main_call5_v7 : Ref sig .tc := ⟨.hbm, 449, rfl⟩
abbrev main_call5_v8 : Ref sig .tc := ⟨.hbm, 450, rfl⟩
abbrev main_call5_v9 : Ref sig .tc := ⟨.hbm, 451, rfl⟩
abbrev main_call5_v10 : Ref sig .tc := ⟨.hbm, 452, rfl⟩
abbrev main_call5_v11 : Ref sig .tc := ⟨.hbm, 453, rfl⟩
abbrev main_call5_c_3 : Ref sig .tc := ⟨.hbm, 454, rfl⟩
abbrev main_call5_v12 : Ref sig .tc := ⟨.hbm, 455, rfl⟩
abbrev main_call5_v13 : Ref sig .tc := ⟨.hbm, 456, rfl⟩
abbrev main_call5_cst : Ref sig .tc := ⟨.hbm, 457, rfl⟩
abbrev main_call5_v14 : Ref sig .tc := ⟨.hbm, 458, rfl⟩
abbrev main_v105 : Ref sig .tc := ⟨.hbm, 459, rfl⟩

abbrev nD : Nat := 1
abbrev τ : Topo := Topo.v7x

variable {F : FTy → Type} [FloatOps F]
-- ==== Proof.AugBits.lean ====
/-
  The TensorCore kernel's body at one grid point, run by the executor.
-/
module

public import proofs.«01_k».proof.Proof.TileBits
public import proofs.«01_k».proof.Proof.Gen.Kernel.Points

@[expose] public section

set_option maxRecDepth 65536

noncomputable section

namespace Cert.Proof.TileBits

open Cert.Kernel Cert.Kernel.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

noncomputable def augRun (c : Dev nD) (i : grid0.Coords) (M2 : Memref sig .tc .smem S32 .i32) (h2 : M2.IsWhole) (M3 : Memref sig .tc .smem S2 .i32) (h3 : M3.IsWhole)
    (M4 : Memref sig .tc .vmem S1x8x4096 .f32) (h4 : M4.IsWhole) (M5 : Memref sig .tc .vmem S1x8x1 .f32) (h5 : M5.IsWhole)
    (M6 : Memref sig .tc .vmem S1x8x4096 .f32) (h6 : M6.IsWhole) (M7 : Memref sig .tc .vmem S1x8x4096 .f32) (h7 : M7.IsWhole)
    (f2 : Bf (F := F) c M2) (f3 : Bf (F := F) c M3) (f4 : Bf (F := F) c M4) (f5 : Bf (F := F) c M5) (f6 : Bf (F := F) c M6) (f7 : Bf (F := F) c M7) :
    { W : Bf (F := F) c M6 × Bf (F := F) c M7 // ∀ (E : Set ℕ) (Q : PUnit → sProp 𝕄),
        iprop(pt c M2 f2 ∗ pt c M3 f3 ∗ pt c M4 f4 ∗ pt c M5 f5 ∗ pt c M6 f6 ∗ pt c M7 f7
            ∗ (iprop(pt c M2 f2 ∗ pt c M3 f3 ∗ pt c M4 f4 ∗ pt c M5 f5 ∗ pt c M6 W.1 ∗ pt c M7 W.2) -∗ Q ⟨⟩))
          ⊢ wp frame (wpE (defs₀ (F := F)) Variants.none c none) E (cc0__aug_tc_kernel i M2 h2 M3 h3 M4 h4 M5 h5 M6 h6 M7 h7) Q } := by
  refine ⟨(?_, ?_), fun E Q => ?run⟩
  case run =>
    iintro ⟨H2, H3, H4, H5, H6, H7, Hk⟩
    rw [cc0__aug_tc_kernel_eq_skeleton]
    unfold cc0__aug_tc_kernel_skel
    sl_exec!
    sl_step
    iapply Hk
    isplitl [H2]; · iexact H2
    isplitl [H3]; · iexact H3
    isplitl [H4]; · iexact H4
    isplitl [H5]; · iexact H5
    isplitl [H6]; · iexact H6
    iexact H7

end Cert.Proof.TileBits
end
-- ==== Proof.TileIdeal.lean ====
/-
  The SparseCore kernel's counted loop on one vector subcore. A trip `t` loads sixteen indices `w = idx[16 t .. 16 t + 16)`
  and, for each of the eight channels `c` held by the row buffer, gathers `buf[4096 c + w]` and stores it at
  `obuf[4096 c + 16 t ..)`. The loop's invariant says which elements of `obuf` hold their final value.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.TileIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds, beside the staging transfers' of the TensorCore's pipeline and the transfers' counters. -/
abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL
abbrev EP : Emb (UR sig nD τ) (MT nD τ sig (HIx 1) (Elt F) ℕ UU ℕ) := (Emb.inl : Emb (UR sig nD τ) (UR sig nD τ × Counters)).trans embR

/-! ## The kernel's memrefs -/

abbrev yV : Memref sig .scVector .hbm S32x262144 .f32 := Memref.whole main_v14_scv
abbrev iV : Memref sig .scVector .hbm S32x4096 .i32 := Memref.whole main_arg4_scv
abbrev oV : Memref sig .scVector .hbm S32x262144 .f32 := Memref.whole main_v15_scv
abbrev sI : Memref sig .scVector .vmem S4096 .i32 := Memref.whole cc1_scratch0
abbrev sX : Memref sig .scVector .vmem S32768 .f32 := Memref.whole cc1_scratch1
abbrev sO : Memref sig .scVector .vmem S32768 .f32 := Memref.whole cc1_scratch2

abbrev cV (L : grid1.Coords) : Fin τ.nSC := (L 0).castLE hcore1
abbrev jV (L : grid1.Coords) : Fin τ.nSub := (L 1).castLE hsub1

/-! ## What the loop computes -/

/-- The index of a 4096-element row, and of a 32768-element buffer, at a number (taken modulo the extent). -/
def ixI (n : ℕ) : S4096.Idx := fun a => ⟨n % 4096, by
  obtain rfl : a = 0 := Subsingleton.elim _ _
  exact Nat.mod_lt _ (by decide)⟩
def ixB (n : ℕ) : S32768.Idx := fun a => ⟨n % 32768, by
  obtain rfl : a = 0 := Subsingleton.elim _ _
  exact Nat.mod_lt _ (by decide)⟩

theorem ixI_eq (x : S4096.Idx) {n : ℕ} (h : (x 0).val = n) : ixI n = x := by
  funext a
  obtain rfl : a = 0 := Subsingleton.elim _ _
  refine Fin.ext ?_
  have : (x 0).val < 4096 := (x 0).isLt
  change n % 4096 = (x 0).val
  omega

theorem ixB_eq (x : S32768.Idx) {n : ℕ} (h : (x 0).val = n) : ixB n = x := by
  funext a
  obtain rfl : a = 0 := Subsingleton.elim _ _
  refine Fin.ext ?_
  have : (x 0).val < 32768 := (x 0).isLt
  change n % 32768 = (x 0).val
  omega

/-- The gathered buffer: element `4096 c + p` of the output is element `4096 c + idx[p]` of the input. -/
def gat {e : EltTy} (fi : S4096.Idx → BitVec 32) (fb : S32768.Idx → Elt F e) : S32768.Idx → Elt F e :=
  fun y => fb (ixB ((y 0).val / 4096 * 4096 + (fi (ixI ((y 0).val % 4096))).toNat))

/-- After `t` trips and `c` channels of the next one, these elements are final. -/
def Done {e : EltTy} (fi : S4096.Idx → BitVec 32) (fb : S32768.Idx → Elt F e) (t c : ℕ) (fo : S32768.Idx → Elt F e) : Prop :=
  ∀ y : S32768.Idx, ((y 0).val % 4096 < 16 * t ∨ ((y 0).val % 4096 < 16 * t + 16 ∧ (y 0).val / 4096 < c)) → fo y = gat fi fb y

theorem Done.next {e : EltTy} {fi : S4096.Idx → BitVec 32} {fb : S32768.Idx → Elt F e} {t : ℕ} {fo : S32768.Idx → Elt F e}
    (h : Done fi fb t 8 fo) : Done fi fb (t + 1) 0 fo := fun y hy => h y (by
  have := (y 0).isLt
  have h8 : (y 0).val < 32768 := this
  omega)

theorem Done.all {e : EltTy} {fi : S4096.Idx → BitVec 32} {fb : S32768.Idx → Elt F e} {fo : S32768.Idx → Elt F e}
    (h : Done fi fb 256 0 fo) : fo = gat fi fb := funext fun y => h y (by omega)

/-- Storing the sixteen gathered elements of channel `c` at trip `t`. -/
theorem Done.store {fi : S4096.Idx → BitVec 32} {fb fo : S32768.Idx → Elt F .f32} {t c : ℕ}
    (h : Done fi fb t c fo) (ht : t < 256) (hc : c < 8) (hfi : ∀ p, (fi p).toNat < 4096)
    (off : Fin 1 → ℕ) (hoff : off = ![4096 * c + 16 * t]) (inb : ∀ a, off a + S16.size a ≤ S32768.size a)
    (w : S16.Idx → Elt F .f32) (hw : ∀ x, w x = fb (ixB (4096 * c + (fi (ixI (16 * t + (x 0).val))).toNat))) :
    Done fi fb t (c + 1) ((sO.access (Rect.unit (s := S32768) off S16.size inb)).write (Elt F) fo w Finset.univ) := by
  subst hoff
  intro y hy
  have hy0 : (y 0).val < 32768 := (y 0).isLt
  by_cases hm : y ∈ (Rect.unit (s := S32768) ![4096 * c + 16 * t] S16.size inb).set
  · obtain ⟨x, rfl⟩ := (Rect.unit (s := S32768) ![4096 * c + 16 * t] S16.size inb).exists_idx_of_mem hm
    have hx : (x 0).val < 16 := (x 0).isLt
    have e1 : ((Rect.unit (s := S32768) ![4096 * c + 16 * t] S16.size inb).idx x 0).val = 4096 * c + 16 * t + (x 0).val := by
      rw [LoadRect.idx_apply]; simp
    refine (View.write_emb_of_mem (v := sO.access (Rect.unit (s := S32768) ![4096 * c + 16 * t] S16.size inb)) fo w (Finset.mem_univ x)).trans ?_
    refine (cast_eq _ _).trans ?_
    rw [hw, gat, e1]
    have a1 : (4096 * c + 16 * t + (x 0).val) / 4096 * 4096 = 4096 * c := by omega
    have a2 : (4096 * c + 16 * t + (x 0).val) % 4096 = 16 * t + (x 0).val := by omega
    rw [a1, a2]
  · have h1 := h y (by
      rw [Rect.mem_set_unit] at hm
      have hm' : ¬ (4096 * c + 16 * t ≤ (y 0).val ∧ (y 0).val < 4096 * c + 16 * t + 16) := fun hh => hm (fun a => by
        obtain rfl : a = 0 := Subsingleton.elim _ _
        exact hh)
      omega)
    rw [← h1]
    refine View.write_of_not_mem (v := sO.access (Rect.unit (s := S32768) ![4096 * c + 16 * t] S16.size inb)) fo w Finset.univ ?_
    rw [View.setOn_univ, View.set_slice]
    exact fun hmem => hm ((View.mem_setOn (v := sO.view) (x := y)).mp hmem)

/-! ## A slot: one channel's gather and its store -/

section
variable [FloatOps F] [Named F]

abbrev WP (L : grid1.Coords) (d : Dev nD) {α : Type} (p : Prog (TpuEff nD τ sig (Elt F) Λ₀ (.scVector (cV L) (jV L))) α) (Q : α → sProp 𝕄) : sProp 𝕄 :=
  wp frame (wpE defs₀ 𝒱₀ (V d (cV L) (jV L)) none) Set.univ p Q

/-- One channel: gather sixteen elements of the row buffer, load (and drop) the destination, store them. -/
theorem slot (L : grid1.Coords) (d : Dev nD) {fi : S4096.Idx → BitVec 32} {fb fo : S32768.Idx → Elt F .f32} (t c : ℕ)
    (ht : t < 256) (hc : c < 8) (hfi : ∀ p, (fi p).toNat < 4096) (h : Done fi fb t c fo)
    (v : IVec S16 32) (hv : ∀ x, (v x).toNat = 4096 * c + (fi (ixI (16 * t + (x 0).val))).toNat)
    {off : Fin 1 → ℕ} (hoff : off = ![4096 * c + 16 * t]) {inb inb' : ∀ a, off a + S16.size a ≤ S32768.size a}
    {hix : ∀ a x, ((![v] : Fin 1 → IVec S16 32) a x).toNat < S32768.size a} {hl : sX.view.Loads}
    {hla : sO.view.LoadsAt (Rect.unit (s := S32768) off S16.size inb).toLoadRect}
    {hst : (sO.access (Rect.unit (s := S32768) off S16.size inb')).Stores Finset.univ}
    {hor} {α : Type} {k : PUnit → Prog (TpuEff nD τ sig (Elt F) Λ₀ (.scVector (cV L) (jV L))) α} {Q : α → sProp 𝕄} :
    iprop((sX.view.loc (V d (cV L) (jV L)) ↦{fullShare} fb) ∗ (sO.view.loc (V d (cV L) (jV L)) ↦{fullShare} fo))
      ⊢ iprop((∀ fo', ⌜Done fi fb t (c + 1) fo'⌝ -∗ (sX.view.loc (V d (cV L) (jV L)) ↦{fullShare} fb)
            -∗ (sO.view.loc (V d (cV L) (jV L)) ↦{fullShare} fo') -∗ wp frame (wpE defs₀ 𝒱₀ (V d (cV L) (jV L)) none) Set.univ (k ⟨⟩) Q)
        -∗ wp frame (wpE defs₀ 𝒱₀ (V d (cV L) (jV L)) none) Set.univ (SparseCore.vectorLoadIdx sX ![v] hix hl >>= fun w =>
            Prog.op (.load sO (Rect.unit (s := S32768) off S16.size inb).toLoadRect hla) fun _ =>
              Prog.op (.store sO (Rect.unit (s := S32768) off S16.size inb') w Finset.univ hst hor) k) Q) := by
  iintro ⟨Hb, Ho⟩ Hk
  iapply (SparseCore.wp_vectorLoadIdx 𝒱₀ (V d (cV L) (jV L)) none Set.univ (base := (sX : Memref sig .scVector .vmem S32768 .f32)) (S := Finset.univ) (q := fullShare) (f := fb) (Finset.subset_univ _)) $$ Hb
  iintro Hb
  iapply (wp_load 𝒱₀ (V d (cV L) (jV L)) none Set.univ (m := (sO : Memref sig .scVector .vmem S32768 .f32)) (S := Finset.univ) (f := fo) (Finset.subset_univ _)) $$ Ho
  iintro Ho
  iapply (wp_store 𝒱₀ (V d (cV L) (jV L)) none Set.univ (m := (sO : Memref sig .scVector .vmem S32768 .f32)) (r := Rect.unit (s := S32768) off S16.size inb') (Mk := Finset.univ) (S := Finset.univ) (f := fo) (Finset.subset_univ _)) $$ Ho
  iintro Ho
  iapply Hk $$ [] [Hb] [Ho]
  · ipureintro
    refine Done.store h ht hc hfi off hoff inb' (loadIdx (((sX : Memref sig .scVector .vmem S32768 .f32).access (.whole S32768)).read (Elt F) fb) ![v] hix) fun x => ?_
    have hx : (x 0).val < 16 := (x 0).isLt
    change fb (((sX : Memref sig .scVector .vmem S32768 .f32).access (.whole S32768)).emb (idxAt ![v] hix x)) = _
    congr 1
    refine (ixB_eq _ ?_).symm
    refine (show _ = 0 + 1 * (v x).toNat from rfl).trans ?_
    rw [hv]; omega
  · iexact Hb
  · iexact Ho

/-- The sixteen indices a trip loads, as the load reads them. -/
theorem idx_val {fi : S4096.Idx → BitVec 32} (t : ℕ) (ht : t < 256) {off : Fin 1 → ℕ} (hoff : off = ![16 * t])
    (inb : ∀ a, off a + S16.size a ≤ S4096.size a) (x : S16.Idx) :
    (sI : Memref sig .scVector .vmem S4096 .i32).view.readAt (Elt F) (Rect.unit (s := S4096) off S16.size inb).toLoadRect fi x
      = fi (ixI (16 * t + (x 0).val)) := by
  subst hoff
  have hx : (x 0).val < 16 := (x 0).isLt
  change fi ((Rect.unit (s := S4096) ![16 * t] S16.size inb).toLoadRect.idx x) = _
  congr 1
  refine (ixI_eq _ ?_).symm
  rw [LoadRect.idx_apply]; simp

/-- The indices shifted to channel `c`, in range. -/
theorem pay_val {fi : S4096.Idx → BitVec 32} (hfi : ∀ p, (fi p).toNat < 4096) {t : ℕ} (v : IVec S16 32)
    (hv : ∀ x, v x = fi (ixI (16 * t + (x 0).val))) (c : ℕ) (hc : c < 8) (x : S16.Idx) :
    (addi v (broadcast S16 (BitVec.ofNat 32 (4096 * c))) x).toNat = 4096 * c + (fi (ixI (16 * t + (x 0).val))).toNat := by
  have h := hfi (ixI (16 * t + (x 0).val))
  change (v x + BitVec.ofNat 32 (4096 * c)).toNat = _
  rw [hv, BitVec.toNat_add, BitVec.toNat_ofNat]
  omega

theorem chk_of {v : IVec S16 32} {n : ℕ} (c : ℕ) (hc : c < 8) (g : S16.Idx → ℕ) (hg : ∀ x, g x < 4096)
    (hv : ∀ x, (v x).toNat = 4096 * c + g x) : ∀ a x, ((![v] : Fin 1 → IVec S16 32) a x).toNat < S32768.size a := by
  intro a x
  obtain rfl : a = 0 := Subsingleton.elim _ _
  have := hg x
  change (v x).toNat < 32768
  rw [hv]; omega

/-- The loop's invariant: the indices and the row buffer are held unchanged, and the output buffer's first `16 k` columns of
    every channel are final. -/
def Inv (L : grid1.Coords) (d : Dev nD) (fi : S4096.Idx → BitVec 32) (fb : S32768.Idx → Elt F .f32) (k : ℕ) : sProp 𝕄 :=
  iprop((sI.view.loc (V d (cV L) (jV L)) ↦{fullShare} (fi : S4096.Idx → Elt F .i32)) ∗ (sX.view.loc (V d (cV L) (jV L)) ↦{fullShare} fb)
    ∗ ∃ fo, ⌜Done fi fb k 0 fo⌝ ∗ (sO.view.loc (V d (cV L) (jV L)) ↦{fullShare} fo))

theorem trip (L : grid1.Coords) (d : Dev nD) (fi : S4096.Idx → BitVec 32) (fb : S32768.Idx → Elt F .f32) (hfi : ∀ p, (fi p).toNat < 4096)
    (y : Memref sig .scVector .hbm S32x262144 .f32) (hy : y.IsWhole) (ix : Memref sig .scVector .hbm S32x4096 .i32) (hix : ix.IsWhole)
    (o : Memref sig .scVector .hbm S32x262144 .f32) (ho : o.IsWhole) (h5 h6 h7)
    (r0 r1 r2 r3 r4 r5 r6 r7 r8 r9 r10 r11 r12 r13 r14 r15 r16 : DmaSems sig S_) (k : Fin k1_t1_loop.trips) (acc : BitVec 32) :
    Inv L d fi fb k.val
      ⊢ WP (F := F) L d (k1_t1_body L y hy ix hix o ho sI h5 sX h6 sO h7 r0 r1 r2 r3 r4 r5 r6 r7 r8 r9 r10 r11 r12 r13 r14 r15 r16 k acc)
          fun _ => Inv L d fi fb (k.val + 1) := by
  have ht : k.val < 256 := k.isLt
  unfold Inv k1_t1_body
  rw [k1_part1_eq_skeleton]
  unfold k1_part1_skel
  simp only [Prog.lift, Prog.bind_op, Prog.bind_ret, Prog.pure_eq_ret, bind_assoc]
  iintro ⟨Hi, Hb, ⟨%fo, %h0, Ho⟩⟩
  iapply (wp_load 𝒱₀ (V d (cV L) (jV L)) none Set.univ (m := (sI : Memref sig .scVector .vmem S4096 .i32)) (S := Finset.univ) (f := (fi : S4096.Idx → Elt F .i32)) (Finset.subset_univ _)) $$ Hi
  iintro Hi
  have hw := idx_val (F := F) (fi := fi) k.val ht (k1_off3_eq k) (k1_off3_inb k)
  have hp0 : ∀ x, (k1_pay1 (F := F) _ x).toNat = _ := pay_val hfi _ hw 0 (by decide)
  rw [wp_assume_of _ _ _ _ (show k1_chk1 _ from chk_of (n := 0) 0 (by decide) _ (fun x => hfi (ixI (16 * k.val + (x 0).val))) hp0)]
  iapply (slot L d k.val 0 ht (by decide) hfi h0 _ hp0 (by rw [k1_off4_eq, Nat.mul_zero, Nat.zero_add])) $$ [Hb Ho]
  · isplitl [Hb]; · iexact Hb
    iexact Ho
  iintro %fo0 %h1 Hb Ho
  have hp1 : ∀ x, (k1_pay2 (F := F) _ x).toNat = _ := pay_val hfi _ hw 1 (by decide)
  rw [wp_assume_of _ _ _ _ (show k1_chk2 _ from chk_of (n := 0) 1 (by decide) _ (fun x => hfi (ixI (16 * k.val + (x 0).val))) hp1)]
  iapply (slot L d k.val 1 ht (by decide) hfi h1 _ hp1 (by rw [k1_off5_eq, Nat.add_comm])) $$ [Hb Ho]
  · isplitl [Hb]; · iexact Hb
    iexact Ho
  iintro %fo1 %h2 Hb Ho
  have hp2 : ∀ x, (k1_pay3 (F := F) _ x).toNat = _ := pay_val hfi _ hw 2 (by decide)
  rw [wp_assume_of _ _ _ _ (show k1_chk3 _ from chk_of (n := 0) 2 (by decide) _ (fun x => hfi (ixI (16 * k.val + (x 0).val))) hp2)]
  iapply (slot L d k.val 2 ht (by decide) hfi h2 _ hp2 (by rw [k1_off6_eq, Nat.add_comm])) $$ [Hb Ho]
  · isplitl [Hb]; · iexact Hb
    iexact Ho
  iintro %fo2 %h3 Hb Ho
  have hp3 : ∀ x, (k1_pay4 (F := F) _ x).toNat = _ := pay_val hfi _ hw 3 (by decide)
  rw [wp_assume_of _ _ _ _ (show k1_chk4 _ from chk_of (n := 0) 3 (by decide) _ (fun x => hfi (ixI (16 * k.val + (x 0).val))) hp3)]
  iapply (slot L d k.val 3 ht (by decide) hfi h3 _ hp3 (by rw [k1_off7_eq, Nat.add_comm])) $$ [Hb Ho]
  · isplitl [Hb]; · iexact Hb
    iexact Ho
  iintro %fo3 %h4 Hb Ho
  have hp4 : ∀ x, (k1_pay5 (F := F) _ x).toNat = _ := pay_val hfi _ hw 4 (by decide)
  rw [wp_assume_of _ _ _ _ (show k1_chk5 _ from chk_of (n := 0) 4 (by decide) _ (fun x => hfi (ixI (16 * k.val + (x 0).val))) hp4)]
  iapply (slot L d k.val 4 ht (by decide) hfi h4 _ hp4 (by rw [k1_off8_eq, Nat.add_comm])) $$ [Hb Ho]
  · isplitl [Hb]; · iexact Hb
    iexact Ho
  iintro %fo4 %h5 Hb Ho
  have hp5 : ∀ x, (k1_pay6 (F := F) _ x).toNat = _ := pay_val hfi _ hw 5 (by decide)
  rw [wp_assume_of _ _ _ _ (show k1_chk6 _ from chk_of (n := 0) 5 (by decide) _ (fun x => hfi (ixI (16 * k.val + (x 0).val))) hp5)]
  iapply (slot L d k.val 5 ht (by decide) hfi h5 _ hp5 (by rw [k1_off9_eq, Nat.add_comm])) $$ [Hb Ho]
  · isplitl [Hb]; · iexact Hb
    iexact Ho
  iintro %fo5 %h6 Hb Ho
  have hp6 : ∀ x, (k1_pay49 (F := F) _ x).toNat = _ := pay_val hfi _ hw 6 (by decide)
  rw [wp_assume_of _ _ _ _ (show k1_chk7 _ from chk_of (n := 0) 6 (by decide) _ (fun x => hfi (ixI (16 * k.val + (x 0).val))) hp6)]
  iapply (slot L d k.val 6 ht (by decide) hfi h6 _ hp6 (by rw [k1_off10_eq, Nat.add_comm])) $$ [Hb Ho]
  · isplitl [Hb]; · iexact Hb
    iexact Ho
  iintro %fo6 %h7 Hb Ho
  have hp7 : ∀ x, (k1_pay50 (F := F) _ x).toNat = _ := pay_val hfi _ hw 7 (by decide)
  rw [wp_assume_of _ _ _ _ (show k1_chk8 _ from chk_of (n := 0) 7 (by decide) _ (fun x => hfi (ixI (16 * k.val + (x 0).val))) hp7)]
  iapply (slot L d k.val 7 ht (by decide) hfi h7 _ hp7 (by rw [k1_off11_eq, Nat.add_comm])) $$ [Hb Ho]
  · isplitl [Hb]; · iexact Hb
    iexact Ho
  iintro %fo7 %h8 Hb Ho
  rw [wp_ret]; imodintro
  isplitl [Hi]; · iexact Hi
  isplitl [Hb]; · iexact Hb
  iexists _
  isplitr
  · ipureintro; exact h8.next
  · iexact Ho

end

end Cert.Proof.TileIdeal
end
-- ==== Proof.BodyIdeal.lean ====
/-
  One vector subcore's task. For each of the eight groups `g` of eight channels of its row it copies the group in, runs the
  counted loop over it and copies the gathered group out; the lemma `chunk` is one such group, over the group's offset.
-/
module

public import proofs.«01_k».proof.Proof.TileIdeal
public import Idealize.ShloMosaic.Lib.Pointwise.Index

@[expose] public section

set_option maxRecDepth 16384

noncomputable section

namespace Cert.Proof.TileIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## A copy and its wait -/

theorem copyWait (L : grid1.Coords) (d : Dev nD) {sp sp' : Space} {s : Shape} {e : EltTy} (src : Memref sig .scVector sp s e) (dst : Memref sig .scVector sp' s e)
    (hs : 0 < s.numel) {sm : DmaSem sig} {hsrc : src.view.WordExact} {hdst : dst.view.WordExact} {hty : DmaTarget.Typed (nD := nD) (τ := τ) (p := (Proc.scVector (cV L) (jV L))) sp (.dma sm) (.here dst)}
    {hsrc' : src.view.WordExact} {hdst' : dst.view.WordExact}
    (fs : Buf (Elt F) (src.view.loc (V d (cV L) (jV L)))) (fd : Buf (Elt F) (dst.view.loc (V d (cV L) (jV L))))
    {O : CellTallies nD τ sig (HIx 1)} (hO : ∀ g, O g none = 0) (W : Waits sig (HIx 1))
    {α : Type} {k : PUnit → Prog (TpuEff nD τ sig (Elt F) Λ₀ (.scVector (cV L) (jV L))) α} {Q : α → sProp 𝕄} :
    iprop(levAts (K (F := F)).L (K (F := F)).lev ∗ (src.view.loc (V d (cV L) (jV L)) ↦[src.view.set]{fullShare} fs) ∗ (dst.view.loc (V d (cV L) (jV L)) ↦[dst.view.set]{fullShare} fd)
        ∗ semVal (V d (cV L) (jV L), SemLoc.dma sm) 0 ∗ owes (V d (cV L) (jV L)) O W)
      ⊢ iprop(((src.view.loc (V d (cV L) (jV L)) ↦[src.view.set]{fullShare} fs)
            -∗ (dst.view.loc (V d (cV L) (jV L)) ↦[dst.view.set]{fullShare} dst.view.write (Elt F) fd (src.view.read (Elt F) fs) Finset.univ)
            -∗ semVal (V d (cV L) (jV L), SemLoc.dma sm) 0 -∗ owes (V d (cV L) (jV L)) O (insert (SemLoc.dma sm, none) W)
            -∗ wp frame (wpE defs₀ 𝒱₀ (V d (cV L) (jV L)) none) Set.univ (k ⟨⟩) Q)
        -∗ wp frame (wpE defs₀ 𝒱₀ (V d (cV L) (jV L)) none) Set.univ
            (Prog.op (.enqueueDma src (.here dst) (.dma sm) hsrc hdst hty) fun _ => Prog.op (.waitDma2 sm src dst hsrc' hdst') k) Q) := by
  iintro ⟨#Hlv, Hs, Hd, Hv, HO⟩ Hk
  iapply (Transfers.wp_dmaLocal (countersEmb (U := UU)) 𝒱₀ (V d (cV L) (jV L)) none (src := src) (dst := dst) (sm := .dma sm) (fs := fs) (fd := fd) (q := fullShare)
    (Sd := dst.view.set) (none : HIx 1) (dst.view.amount (.dma sm)) rfl (View.amount_pos _ _ hs) (Finset.Subset.refl _)) $$ [Hs Hd Hv]
  · isplitl [Hs]; · iexact Hs
    isplitl [Hd]; · iexact Hd
    iexact Hv
  iintro Hf
  iapply (Transfers.wp_waitLocalO (countersEmb (U := UU)) 𝒱₀ (V d (cV L) (jV L)) none (srcw := src) (dstw := dst) (none : HIx 1) (N := dst.view.amount (.dma sm)) rfl (O := O) (W := W)) $$ [Hf HO]
  · isplitl [Hf]; · iexact Hf
    isplitl [HO]; · iexact HO
    iapply ((K (F := F)).mayWait_none (SemLoc.dma sm) hO); iexact Hlv
  iintro ⟨⟨Hd, Hs⟩, Hv, HO⟩
  iapply Hk $$ [Hs] [Hd] [Hv] [HO]
  · iexact Hs
  · iexact Hd
  · iexact Hv
  · iexact HO

/-! ## One group of eight channels -/

/-- Element `z` of the group at offset `off`, as an index of the array. -/
def grpIdx (off : Fin 2 → ℕ) (inb : ∀ a, off a + S1x32768.size a ≤ S32x262144.size a) (z : S32768.Idx) : S32x262144.Idx :=
  (Rect.unit (s := S32x262144) off S1x32768.size inb).idx (Shape.reshapeEquiv squeezes_S1x32768_S32768.numel_eq z)

theorem squeeze_idx (z : S32768.Idx) :
    ((Shape.reshapeEquiv squeezes_S1x32768_S32768.numel_eq z : S1x32768.Idx) 0).val = 0
      ∧ ((Shape.reshapeEquiv squeezes_S1x32768_S32768.numel_eq z : S1x32768.Idx) 1).val = (z 0).val := by
  have h := Shape.rowMajor_reshapeEquiv squeezes_S1x32768_S32768.numel_eq z
  generalize Shape.reshapeEquiv squeezes_S1x32768_S32768.numel_eq z = u at h
  have h2 := Shape.rowMajor_val_two (d := ![1, 32768]) u
  have h1 := Shape.rowMajor_val_one (d := ![32768]) z
  have u0 : (u 0).val < 1 := (u 0).isLt
  have e : (u 0).val * 32768 + (u 1).val = (z 0).val := (h2.symm.trans h).trans h1
  omega

theorem grpIdx_0 (off : Fin 2 → ℕ) (inb) (z : S32768.Idx) : (grpIdx off inb z 0).val = off 0 := by
  unfold grpIdx; rw [LoadRect.idx_apply]
  have := (squeeze_idx z).1
  change off 0 + 1 * _ = _
  omega

theorem grpIdx_1 (off : Fin 2 → ℕ) (inb) (z : S32768.Idx) : (grpIdx off inb z 1).val = off 1 + (z 0).val := by
  unfold grpIdx; rw [LoadRect.idx_apply]
  have := (squeeze_idx z).2
  change off 1 + 1 * _ = _
  omega

/-- The index of a flat position of a row, of the array of rows and of the array of indices. -/
def rowY (a : Fin 32) (n : ℕ) : S32x262144.Idx := ix2 a ⟨n % 262144, Nat.mod_lt _ (by decide)⟩
def rowI (a : Fin 32) (n : ℕ) : S32x4096.Idx := ix2 a ⟨n % 4096, Nat.mod_lt _ (by decide)⟩

/-- The kernel's result: element `(b, 4096 c + p)` is element `(b, 4096 c + idx[b, p])` of the input. -/
def outOf {e : EltTy} (fy : S32x262144.Idx → Elt F e) (fx : S32x4096.Idx → BitVec 32) : S32x262144.Idx → Elt F e :=
  fun y => fy (rowY (y 0) ((y 1).val / 4096 * 4096 + (fx (rowI (y 0) ((y 1).val % 4096))).toNat))

abbrev yC (off : Fin 2 → ℕ) (inb : ∀ a, off a + S1x32768.size a ≤ S32x262144.size a) : Memref sig .scVector .hbm S32768 .f32 :=
  (yV.slice (Rect.unit (s := S32x262144) off S1x32768.size inb) (fun _ => rfl)).squeeze S32768 squeezes_S1x32768_S32768
abbrev oC (off : Fin 2 → ℕ) (inb : ∀ a, off a + S1x32768.size a ≤ S32x262144.size a) : Memref sig .scVector .hbm S32768 .f32 :=
  (oV.slice (Rect.unit (s := S32x262144) off S1x32768.size inb) (fun _ => rfl)).squeeze S32768 squeezes_S1x32768_S32768

/-- The gathered buffer written to its group is the result there. -/
theorem out_agree (off : Fin 2 → ℕ) (inb : ∀ a, off a + S1x32768.size a ≤ S32x262144.size a) (b : Fin 32) (n : ℕ) (hoff : off = ![b.val, n]) (hn : n % 32768 = 0)
    (fy fd : S32x262144.Idx → Elt F .f32) (fx : S32x4096.Idx → BitVec 32) (hfx : ∀ p, (fx p).toNat < 4096) (fi : S4096.Idx → BitVec 32) (hfi : ∀ p, p < 4096 → fi (ixI p) = fx (rowI b p))
    (fb : S32768.Idx → Elt F .f32) (hfb : ∀ z, fb z = fy (grpIdx off inb z)) (i : S32x262144.Idx) (hi : i ∈ (oC off inb).view.set) :
    (oC off inb).view.write (Elt F) fd (gat fi fb) Finset.univ i = outOf fy fx i := by
  obtain ⟨z, -, rfl⟩ := Finset.mem_map.mp hi
  refine (View.write_emb_of_mem (v := (oC off inb).view) fd _ (Finset.mem_univ z)).trans ?_
  refine (cast_eq _ _).trans ?_
  change gat fi fb z = outOf fy fx (grpIdx off inb z)
  have hz : (z 0).val < 32768 := (z 0).isLt
  have g0 := grpIdx_0 off inb z
  have g1 := grpIdx_1 off inb z
  have hb0 : grpIdx off inb z 0 = b := Fin.ext (by rw [g0, hoff]; rfl)
  have o1 : off 1 = n := by rw [hoff]; rfl
  rw [o1] at g1
  have hlt : n + (z 0).val < 262144 := g1 ▸ (grpIdx off inb z 1).isLt
  unfold gat outOf
  rw [hfb]
  have hidx : fi (ixI ((z 0).val % 4096)) = fx (rowI (grpIdx off inb z 0) ((grpIdx off inb z 1).val % 4096)) := by
    rw [hb0, hfi _ (Nat.mod_lt _ (by decide)), g1]
    congr 2; omega
  have hw := hfx (rowI (grpIdx off inb z 0) ((grpIdx off inb z 1).val % 4096))
  rw [hidx]
  generalize (fx (rowI (grpIdx off inb z 0) ((grpIdx off inb z 1).val % 4096))).toNat = w at hw ⊢
  congr 1
  have hq : ((ixB ((z 0).val / 4096 * 4096 + w)) 0).val = (z 0).val / 4096 * 4096 + w := by
    change ((z 0).val / 4096 * 4096 + w) % 32768 = _; omega
  rw [hb0, g1]
  refine (ix2_eta (n0 := 32) (n1 := 262144) _).symm.trans ?_
  unfold rowY
  refine (ix2_inj _ _ _ _).mpr ⟨Fin.ext ?_, Fin.ext ?_⟩
  · rw [grpIdx_0, hoff]; rfl
  · rw [grpIdx_1, o1, hq]
    change _ = ((n + (z 0).val) / 4096 * 4096 + w) % 262144
    omega

theorem pts_sX (L : grid1.Coords) (d : Dev nD) (f) : (sX.view.loc (V d (cV L) (jV L)) ↦[sX.view.set]{fullShare} f : sProp 𝕄) = (sX.view.loc (V d (cV L) (jV L)) ↦{fullShare} f) := by
  rw [show sX.view.set = Finset.univ from View.set_whole _]
theorem pts_sO (L : grid1.Coords) (d : Dev nD) (f) : (sO.view.loc (V d (cV L) (jV L)) ↦[sO.view.set]{fullShare} f : sProp 𝕄) = (sO.view.loc (V d (cV L) (jV L)) ↦{fullShare} f) := by
  rw [show sO.view.set = Finset.univ from View.set_whole _]
theorem pts_sI (L : grid1.Coords) (d : Dev nD) (f) : (sI.view.loc (V d (cV L) (jV L)) ↦[sI.view.set]{fullShare} f : sProp 𝕄) = (sI.view.loc (V d (cV L) (jV L)) ↦{fullShare} f) := by
  rw [show sI.view.set = Finset.univ from View.set_whole _]

/-- One group: copied in, gathered by the loop, copied out. -/
theorem chunk (L : grid1.Coords) (d : Dev nD) (off : Fin 2 → ℕ) (inb inb' : ∀ a, off a + S1x32768.size a ≤ S32x262144.size a) (b : Fin 32) (n : ℕ)
    (hoff : off = ![b.val, n]) (hn : n % 32768 = 0) (fy fo : S32x262144.Idx → Elt F .f32) (fx : S32x4096.Idx → BitVec 32)
    (hfx : ∀ p, (fx p).toNat < 4096) (fi : S4096.Idx → BitVec 32) (hfi : ∀ p, p < 4096 → fi (ixI p) = fx (rowI b p))
    (body : Fin k1_t1_loop.trips → BitVec 32 → Prog (TpuEff nD τ sig (Elt F) Λ₀ (.scVector (cV L) (jV L))) (BitVec 32))
    (hbody : ∀ fb k acc, Inv L d fi fb k.val ⊢ WP (F := F) L d (body k acc) fun _ => Inv L d fi fb (k.val + 1))
    {s₁ s₂ : DmaSem sig} {hs₁ hd₁ ht₁ hs₁' hd₁' hs₂ hd₂ ht₂ hs₂' hd₂'} {hok : k1_t1_loop.OK}
    {O : CellTallies nD τ sig (HIx 1)} (hO : ∀ g, O g none = 0) (W : Waits sig (HIx 1))
    {α : Type} {k : PUnit → Prog (TpuEff nD τ sig (Elt F) Λ₀ (.scVector (cV L) (jV L))) α} {Q : α → sProp 𝕄} :
    iprop(levAts (K (F := F)).L (K (F := F)).lev
        ∗ ((yC off inb).view.loc (V d (cV L) (jV L)) ↦[(yC off inb).view.set]{fullShare} fy)
        ∗ ((oC off inb').view.loc (V d (cV L) (jV L)) ↦[(oC off inb').view.set]{fullShare} fo)
        ∗ (sI.view.loc (V d (cV L) (jV L)) ↦{fullShare} (fi : S4096.Idx → Elt F .i32))
        ∗ (∃ f, sX.view.loc (V d (cV L) (jV L)) ↦{fullShare} f) ∗ (∃ f, sO.view.loc (V d (cV L) (jV L)) ↦{fullShare} f)
        ∗ semVal (V d (cV L) (jV L), SemLoc.dma s₁) 0 ∗ semVal (V d (cV L) (jV L), SemLoc.dma s₂) 0 ∗ owes (V d (cV L) (jV L)) O W)
      ⊢ iprop((((yC off inb).view.loc (V d (cV L) (jV L)) ↦[(yC off inb).view.set]{fullShare} fy)
            -∗ ((oC off inb').view.loc (V d (cV L) (jV L)) ↦[(oC off inb').view.set]{fullShare} outOf fy fx)
            -∗ (sI.view.loc (V d (cV L) (jV L)) ↦{fullShare} (fi : S4096.Idx → Elt F .i32))
            -∗ (∃ f, sX.view.loc (V d (cV L) (jV L)) ↦{fullShare} f) -∗ (∃ f, sO.view.loc (V d (cV L) (jV L)) ↦{fullShare} f)
            -∗ semVal (V d (cV L) (jV L), SemLoc.dma s₁) 0 -∗ semVal (V d (cV L) (jV L), SemLoc.dma s₂) 0
            -∗ owes (V d (cV L) (jV L)) O (insert (SemLoc.dma s₂, none) (insert (SemLoc.dma s₁, none) W))
            -∗ wp frame (wpE defs₀ 𝒱₀ (V d (cV L) (jV L)) none) Set.univ (k ⟨⟩) Q)
        -∗ wp frame (wpE defs₀ 𝒱₀ (V d (cV L) (jV L)) none) Set.univ
            (Prog.op (.enqueueDma (yC off inb) (.here sX) (.dma s₁) hs₁ hd₁ ht₁) fun _ => Prog.op (.waitDma2 s₁ (yC off inb) sX hs₁' hd₁') fun _ =>
              Scf.Loop.for k1_t1_loop hok 0#32 body >>= fun _ =>
                Prog.op (.enqueueDma sO (.here (oC off inb')) (.dma s₂) hs₂ hd₂ ht₂) fun _ => Prog.op (.waitDma2 s₂ sO (oC off inb') hs₂' hd₂') k) Q) := by
  iintro ⟨#Hlv, Hy, Ho, Hi, ⟨%fX, HX⟩, ⟨%fO, HO⟩, Hs1, Hs2, Hw⟩ Hk
  ihave HX' := (Entails.of_eq (pts_sX (F := F) L d fX).symm) $$ HX
  iapply (copyWait L d (yC off inb) sX (by decide) fy fX hO W) $$ [Hy HX' Hs1 Hw]
  · isplitr; · iexact Hlv
    isplitl [Hy]; · iexact Hy
    isplitl [HX']; · iexact HX'
    isplitl [Hs1]; · iexact Hs1
    iexact Hw
  iintro Hy HX Hs1 Hw
  have hfb : sX.view.write (Elt F) fX ((yC off inb).view.read (Elt F) fy) Finset.univ = fun z => fy (grpIdx off inb z) := by
    refine (View.write_whole_univ _ _ _).trans ?_
    rfl
  rw [hfb]
  ihave HX' := (Entails.of_eq (pts_sX (F := F) L d _)) $$ HX
  iapply (Scf.wp_for_bind _ _ _ _ _ _ hok 0#32 body (fun j _ => Inv L d fi (fun z => fy (grpIdx off inb z)) j) (fun k' acc => hbody _ k' acc)) $$ [Hi HX' HO]
  · unfold Inv
    isplitl [Hi]; · iexact Hi
    isplitl [HX']; · iexact HX'
    iexists fO
    isplitr
    · ipureintro; intro y hy; omega
    · iexact HO
  iintro %acc HI
  unfold Inv
  icases HI with ⟨Hi, HX, ⟨%fg, %hg, HO⟩⟩
  obtain rfl := Done.all hg
  ihave HO' := (Entails.of_eq (pts_sO (F := F) L d _).symm) $$ HO
  have hag : ∀ i ∈ (oC off inb').view.set, (oC off inb').view.write (Elt F) fo (sO.view.read (Elt F) (gat fi (fun z => fy (grpIdx off inb z)))) Finset.univ i = outOf fy fx i := fun i hi =>
    out_agree off inb' b n hoff hn fy fo fx hfx fi hfi (fun z => fy (grpIdx off inb z)) (fun z => Eq.refl (fy (grpIdx off inb z))) i hi
  iapply (copyWait L d sO (oC off inb') (by decide) _ fo hO (insert (SemLoc.dma s₁, none) W)) $$ [HO' Ho Hs2 Hw]
  · isplitr; · iexact Hlv
    isplitl [HO']; · iexact HO'
    isplitl [Ho]; · iexact Ho
    isplitl [Hs2]; · iexact Hs2
    iexact Hw
  iintro HO Ho Hs2 Hw
  ihave HO' := (Entails.of_eq (pts_sO (F := F) L d _)) $$ HO
  ihave Ho' := (Entails.of_eq (pointsTo_congr hag)) $$ Ho
  iapply Hk $$ [Hy] [Ho'] [Hi] [HX] [HO'] [Hs1] [Hs2] [Hw]
  · iexact Hy
  · iexact Ho'
  · iexact Hi
  · iexists _; iexact HX
  · iexists _; iexact HO'
  · iexact Hs1
  · iexact Hs2
  · iexact Hw

/-! ## The task's state between two groups -/

theorem mem_yC (off : Fin 2 → ℕ) (inb : ∀ a, off a + S1x32768.size a ≤ S32x262144.size a) (b : Fin 32) (n : ℕ) (hoff : off = ![b.val, n]) (i : S32x262144.Idx) :
    i ∈ (Rect.unit (s := S32x262144) off S1x32768.size inb).set ↔ (i 0 = b ∧ n ≤ (i 1).val ∧ (i 1).val < n + 32768) := by
  subst hoff
  rw [Rect.mem_set_unit]
  constructor
  · intro h
    have h0 : b.val ≤ (i 0).val ∧ (i 0).val < b.val + 1 := h 0
    have h1 : n ≤ (i 1).val ∧ (i 1).val < n + 32768 := h 1
    exact ⟨Fin.ext (by omega), h1⟩
  · rintro ⟨h0, h1⟩ a
    match a with
    | ⟨0, _⟩ =>
      subst h0
      exact (⟨le_refl _, Nat.lt_succ_self _⟩ : (i 0).val ≤ (i 0).val ∧ (i 0).val < (i 0).val + 1)
    | ⟨1, _⟩ => exact h1

theorem set_yC (off : Fin 2 → ℕ) (inb : ∀ a, off a + S1x32768.size a ≤ S32x262144.size a) : (yC off inb).view.set = (Rect.unit (s := S32x262144) off S1x32768.size inb).set := by
  show (((View.whole (main_v14_scv : Ref sig .scVector)).slice (Rect.unit (s := S32x262144) off S1x32768.size inb)).reshape _ _).set = _
  rw [View.set_reshape, View.set_slice]; exact Finset.map_refl
theorem set_oC (off : Fin 2 → ℕ) (inb : ∀ a, off a + S1x32768.size a ≤ S32x262144.size a) : (oC off inb).view.set = (Rect.unit (s := S32x262144) off S1x32768.size inb).set := by
  show (((View.whole (main_v15_scv : Ref sig .scVector)).slice (Rect.unit (s := S32x262144) off S1x32768.size inb)).reshape _ _).set = _
  rw [View.set_reshape, View.set_slice]; exact Finset.map_refl

/-- A row of the array of rows, as a set of indices. -/
def rowSet (b : Fin 32) : Finset S32x262144.Idx := Finset.univ.filter fun y => (y 0).val = b.val
theorem mem_rowSet {b : Fin 32} {y : S32x262144.Idx} : y ∈ rowSet b ↔ y 0 = b := by
  unfold rowSet
  rw [Finset.mem_filter]
  exact ⟨fun h => Fin.ext h.2, fun h => ⟨Finset.mem_univ _, congrArg Fin.val h⟩⟩

/-- The output row after `g` groups: the result in the first `g` groups, the launch contents elsewhere. -/
def mixOf (fy fo : S32x262144.Idx → Elt F .f32) (fx : S32x4096.Idx → BitVec 32) (g : ℕ) : S32x262144.Idx → Elt F .f32 :=
  fun y => if (y 1).val < 32768 * g then outOf fy fx y else fo y

/-- What the task holds between two groups: its row of the input, its row of the output with `g` groups final, the row's
    indices in tile memory, the two row buffers at any contents, its semaphores at zero, and what it owes. -/
def St (L : grid1.Coords) (d : Dev nD) (b : Fin 32) (fy fo : S32x262144.Idx → Elt F .f32) (fx : S32x4096.Idx → BitVec 32) (fi : S4096.Idx → BitVec 32)
    (O : CellTallies nD τ sig (HIx 1)) (W : Waits sig (HIx 1)) (g : ℕ) : sProp 𝕄 :=
  iprop(((yV : Memref sig .scVector .hbm S32x262144 .f32).view.loc (V d (cV L) (jV L)) ↦[rowSet b]{fullShare} fy)
    ∗ ((oV : Memref sig .scVector .hbm S32x262144 .f32).view.loc (V d (cV L) (jV L)) ↦[rowSet b]{fullShare} mixOf fy fo fx g)
    ∗ (sI.view.loc (V d (cV L) (jV L)) ↦{fullShare} (fi : S4096.Idx → Elt F .i32))
    ∗ (∃ f, sX.view.loc (V d (cV L) (jV L)) ↦{fullShare} f) ∗ (∃ f, sO.view.loc (V d (cV L) (jV L)) ↦{fullShare} f)
    ∗ ownSems0 (V d (cV L) (jV L)) ∗ ∃ W', ⌜∀ p ∈ W', p ∈ W ∨ p.2 = none⌝ ∗ owes (V d (cV L) (jV L)) O W')

theorem group (L : grid1.Coords) (d : Dev nD) (g : ℕ) (hg : g < 8) (off : Fin 2 → ℕ) (inb inb' : ∀ a, off a + S1x32768.size a ≤ S32x262144.size a) (b : Fin 32)
    (hoff : off = ![b.val, 32768 * g]) (fy fo : S32x262144.Idx → Elt F .f32) (fx : S32x4096.Idx → BitVec 32)
    (hfx : ∀ p, (fx p).toNat < 4096) (fi : S4096.Idx → BitVec 32) (hfi : ∀ p, p < 4096 → fi (ixI p) = fx (rowI b p))
    (body : Fin k1_t1_loop.trips → BitVec 32 → Prog (TpuEff nD τ sig (Elt F) Λ₀ (.scVector (cV L) (jV L))) (BitVec 32))
    (hbody : ∀ fb k acc, Inv L d fi fb k.val ⊢ WP (F := F) L d (body k acc) fun _ => Inv L d fi fb (k.val + 1))
    {s₁ s₂ : DmaSem sig} (hs₁₂ : s₂ ≠ s₁) (hsc₁ : (SemLoc.dma s₁ : SemLoc sig).isScoped .scVector = true) (hsc₂ : (SemLoc.dma s₂ : SemLoc sig).isScoped .scVector = true)
    {hs₁ hd₁ ht₁ hs₁' hd₁' hs₂ hd₂ ht₂ hs₂' hd₂'} {hok : k1_t1_loop.OK}
    {O : CellTallies nD τ sig (HIx 1)} (hO : ∀ g, O g none = 0) (W : Waits sig (HIx 1))
    {α : Type} {k : PUnit → Prog (TpuEff nD τ sig (Elt F) Λ₀ (.scVector (cV L) (jV L))) α} {Q : α → sProp 𝕄} :
    iprop(levAts (K (F := F)).L (K (F := F)).lev ∗ St L d b fy fo fx fi O W g)
      ⊢ iprop((St L d b fy fo fx fi O W (g + 1)
            -∗ wp frame (wpE defs₀ 𝒱₀ (V d (cV L) (jV L)) none) Set.univ (k ⟨⟩) Q)
        -∗ wp frame (wpE defs₀ 𝒱₀ (V d (cV L) (jV L)) none) Set.univ
            (Prog.op (.enqueueDma (yC off inb) (.here sX) (.dma s₁) hs₁ hd₁ ht₁) fun _ => Prog.op (.waitDma2 s₁ (yC off inb) sX hs₁' hd₁') fun _ =>
              Scf.Loop.for k1_t1_loop hok 0#32 body >>= fun _ =>
                Prog.op (.enqueueDma sO (.here (oC off inb')) (.dma s₂) hs₂ hd₂ ht₂) fun _ => Prog.op (.waitDma2 s₂ sO (oC off inb') hs₂' hd₂') k) Q) := by
  have hsub : (Rect.unit (s := S32x262144) off S1x32768.size inb).set ⊆ rowSet b := fun i hi => mem_rowSet.mpr ((mem_yC off inb b _ hoff i).mp hi).1
  unfold St
  iintro ⟨#Hlv, Hy, Ho, Hi, HX, HO, Hsem, %W', %hW', Hw⟩ Hk
  ihave Hy' := ((pointsTo_split_subset hsub).1) $$ Hy
  icases Hy' with ⟨Hy, Hyr⟩
  ihave Ho' := ((pointsTo_split_subset hsub).1) $$ Ho
  icases Ho' with ⟨Ho, Hor⟩
  ihave Hy' := (Entails.of_eq (show (((yV : Memref sig .scVector .hbm S32x262144 .f32).view.loc (V d (cV L) (jV L)) ↦[(Rect.unit (s := S32x262144) off S1x32768.size inb).set]{fullShare} fy : sProp 𝕄))
    = ((yC off inb).view.loc (V d (cV L) (jV L)) ↦[(yC off inb).view.set]{fullShare} fy) by rw [set_yC])) $$ Hy
  ihave Ho' := (Entails.of_eq (show (((oV : Memref sig .scVector .hbm S32x262144 .f32).view.loc (V d (cV L) (jV L)) ↦[(Rect.unit (s := S32x262144) off S1x32768.size inb).set]{fullShare} mixOf fy fo fx g : sProp 𝕄))
    = ((oC off inb').view.loc (V d (cV L) (jV L)) ↦[(oC off inb').view.set]{fullShare} mixOf fy fo fx g) by rw [set_oC])) $$ Ho
  have m1 : ((V d (cV L) (jV L), SemLoc.dma s₁) : GSem nD τ sig) ∈ ownCells (V d (cV L) (jV L)) := mem_ownCells.mpr ⟨rfl, hsc₁⟩
  have m2 : ((V d (cV L) (jV L), SemLoc.dma s₂) : GSem nD τ sig) ∈ (ownCells (V d (cV L) (jV L))).erase (V d (cV L) (jV L), SemLoc.dma s₁) :=
    Finset.mem_erase.mpr ⟨fun e => hs₁₂ (SemLoc.dma.inj (Prod.mk.inj e).2), mem_ownCells.mpr ⟨rfl, hsc₂⟩⟩
  have hsems : (ownSems0 (V d (cV L) (jV L)) : sProp 𝕄) = iprop(semVal (V d (cV L) (jV L), SemLoc.dma s₁) 0 ∗ semVal (V d (cV L) (jV L), SemLoc.dma s₂) 0
      ∗ bigSep (((ownCells (V d (cV L) (jV L))).erase (V d (cV L) (jV L), SemLoc.dma s₁)).erase (V d (cV L) (jV L), SemLoc.dma s₂)) fun g => semVal g 0) := by
    unfold SparseCore.Cfg.ownSems0
    rw [SparseCore.bigSep_erase' m1, SparseCore.bigSep_erase' m2]
  ihave Hsem' := (Entails.of_eq hsems) $$ Hsem
  icases Hsem' with ⟨Hs1, Hs2, Hsr⟩
  iapply (chunk L d off inb inb' b (32768 * g) hoff (by omega) fy (mixOf fy fo fx g) fx hfx fi hfi body hbody hO W') $$ [Hy' Ho' Hi HX HO Hs1 Hs2 Hw]
  · isplitr; · iexact Hlv
    isplitl [Hy']; · iexact Hy'
    isplitl [Ho']; · iexact Ho'
    isplitl [Hi]; · iexact Hi
    isplitl [HX]; · iexact HX
    isplitl [HO]; · iexact HO
    isplitl [Hs1]; · iexact Hs1
    isplitl [Hs2]; · iexact Hs2
    iexact Hw
  iintro Hy Ho Hi HX HO Hs1 Hs2 Hw
  ihave Hy' := (Entails.of_eq (show (((yV : Memref sig .scVector .hbm S32x262144 .f32).view.loc (V d (cV L) (jV L)) ↦[(Rect.unit (s := S32x262144) off S1x32768.size inb).set]{fullShare} fy : sProp 𝕄))
    = ((yC off inb).view.loc (V d (cV L) (jV L)) ↦[(yC off inb).view.set]{fullShare} fy) by rw [set_yC]).symm) $$ Hy
  ihave Ho' := (Entails.of_eq (show (((oV : Memref sig .scVector .hbm S32x262144 .f32).view.loc (V d (cV L) (jV L)) ↦[(Rect.unit (s := S32x262144) off S1x32768.size inb).set]{fullShare} outOf fy fx : sProp 𝕄))
    = ((oC off inb').view.loc (V d (cV L) (jV L)) ↦[(oC off inb').view.set]{fullShare} outOf fy fx) by rw [set_oC]).symm) $$ Ho
  have e1 : ∀ i ∈ (Rect.unit (s := S32x262144) off S1x32768.size inb).set, outOf fy fx i = mixOf fy fo fx (g + 1) i := fun i hi => by
    have := ((mem_yC off inb b _ hoff i).mp hi).2
    unfold mixOf
    rw [if_pos (by omega)]
  have e2 : ∀ i ∈ rowSet b \ (Rect.unit (s := S32x262144) off S1x32768.size inb).set, mixOf fy fo fx g i = mixOf fy fo fx (g + 1) i := fun i hi => by
    obtain ⟨h1, h2⟩ := Finset.mem_sdiff.mp hi
    rw [mem_yC off inb b _ hoff] at h2
    have h3 := mem_rowSet.mp h1
    unfold mixOf
    by_cases hlt : (i 1).val < 32768 * g
    · rw [if_pos hlt, if_pos (by omega)]
    · rw [if_neg hlt, if_neg (fun h => h2 ⟨h3, by omega, by omega⟩)]
  ihave Ho := (Entails.of_eq (pointsTo_congr e1)) $$ Ho'
  ihave Hor' := (Entails.of_eq (pointsTo_congr e2)) $$ Hor
  iapply Hk
  isplitl [Hy' Hyr]
  · iapply ((pointsTo_split_subset hsub).2)
    isplitl [Hy'] <;> iassumption
  isplitl [Ho Hor']
  · iapply ((pointsTo_split_subset hsub).2)
    isplitl [Ho] <;> iassumption
  isplitl [Hi]; · iexact Hi
  isplitl [HX]; · iexact HX
  isplitl [HO]; · iexact HO
  isplitl [Hs1 Hs2 Hsr]
  · rw [hsems]
    isplitl [Hs1]; · iexact Hs1
    isplitl [Hs2] <;> iassumption
  iexists (insert (SemLoc.dma s₂, none) (insert (SemLoc.dma s₁, none) W'))
  isplitr
  · ipureintro; intro p hp
    rcases Finset.mem_insert.mp hp with rfl | hp
    · exact .inr rfl
    rcases Finset.mem_insert.mp hp with rfl | hp
    · exact .inr rfl
    exact hW' p hp
  · iexact Hw

end Cert.Proof.TileIdeal
end
-- ==== Proof.TaskIdeal.lean ====
/-
  One vector subcore's task, whole: it fetches the indices of its row, then does the eight groups one after another. From its
  row of the input, its row of the indices and its row of the output at any contents it ends with the output row gathered.
-/
module

public import proofs.«01_k».proof.Proof.BodyIdeal

@[expose] public section

set_option maxRecDepth 16384

noncomputable section

namespace Cert.Proof.TileIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The row of a task -/

/-- The row that subcore `L 1` of SparseCore `L 0` handles. -/
def rowOf (L : grid1.Coords) : Fin 32 :=
  ⟨2 * (L 1).val + (L 0).val, by
    have h0 : (L 0).val < 2 := (L 0).isLt
    have h1 : (L 1).val < 16 := (L 1).isLt
    omega⟩

/-- A row of the array of indices, as a set of indices. -/
def rowSetI (b : Fin 32) : Finset S32x4096.Idx := Finset.univ.filter fun y => (y 0).val = b.val
theorem mem_rowSetI {b : Fin 32} {y : S32x4096.Idx} : y ∈ rowSetI b ↔ y 0 = b := by
  unfold rowSetI
  rw [Finset.mem_filter]
  exact ⟨fun h => Fin.ext h.2, fun h => ⟨Finset.mem_univ _, congrArg Fin.val h⟩⟩

/-- The task's row of the indices, as the copy names it. -/
abbrev iC (L : grid1.Coords) : Memref sig .scVector .hbm S4096 .i32 :=
  (iV.slice (Rect.unit (s := S32x4096) (k1_off1 L) S1x4096.size (k1_off1_inb L)) (fun _ => rfl)).squeeze S4096 squeezes_S1x4096_S4096

theorem set_iC (L : grid1.Coords) : (iC L).view.set = rowSetI (rowOf L) := by
  have e : (iC L).view.set = (Rect.unit (s := S32x4096) (k1_off1 L) S1x4096.size (k1_off1_inb L)).set := by
    show (((View.whole (main_arg4_scv : Ref sig .scVector)).slice (Rect.unit (s := S32x4096) (k1_off1 L) S1x4096.size (k1_off1_inb L))).reshape _ _).set = _
    rw [View.set_reshape, View.set_slice]; exact Finset.map_refl
  rw [e]
  ext i
  rw [Rect.mem_set_unit, mem_rowSetI]
  have ho0 : k1_off1 L 0 = (rowOf L).val := by rw [k1_off1_eq]; rfl
  have ho1 : k1_off1 L 1 = 0 := by rw [k1_off1_eq]; rfl
  constructor
  · intro h
    have h0 : k1_off1 L 0 ≤ (i 0).val ∧ (i 0).val < k1_off1 L 0 + 1 := h 0
    exact Fin.ext (by omega)
  · intro h a
    match a with
    | ⟨0, _⟩ =>
      have hv : (i 0).val = (rowOf L).val := congrArg Fin.val h
      exact (⟨by omega, by omega⟩ : k1_off1 L 0 ≤ (i 0).val ∧ (i 0).val < k1_off1 L 0 + 1)
    | ⟨1, _⟩ =>
      have hv : (i 1).val < 4096 := (i 1).isLt
      exact (⟨by omega, by omega⟩ : k1_off1 L 1 ≤ (i 1).val ∧ (i 1).val < k1_off1 L 1 + 4096)

/-- Element `z` of the task's row of the indices, as an index of the array. -/
def iIdx (L : grid1.Coords) (z : S4096.Idx) : S32x4096.Idx :=
  (Rect.unit (s := S32x4096) (k1_off1 L) S1x4096.size (k1_off1_inb L)).idx (Shape.reshapeEquiv squeezes_S1x4096_S4096.numel_eq z)

theorem iIdx_eq (L : grid1.Coords) (p : ℕ) (hp : p < 4096) : iIdx L (ixI p) = rowI (rowOf L) p := by
  have ho0 : k1_off1 L 0 = (rowOf L).val := by rw [k1_off1_eq]; rfl
  have ho1 : k1_off1 L 1 = 0 := by rw [k1_off1_eq]; rfl
  have hz : (ixI p 0).val = p := Nat.mod_eq_of_lt hp
  have h := Shape.rowMajor_reshapeEquiv squeezes_S1x4096_S4096.numel_eq (ixI p)
  have e0 : (iIdx L (ixI p) 0).val = k1_off1 L 0 + 1 * ((Shape.reshapeEquiv squeezes_S1x4096_S4096.numel_eq (ixI p) : S1x4096.Idx) 0).val := rfl
  have e1 : (iIdx L (ixI p) 1).val = k1_off1 L 1 + 1 * ((Shape.reshapeEquiv squeezes_S1x4096_S4096.numel_eq (ixI p) : S1x4096.Idx) 1).val := rfl
  generalize Shape.reshapeEquiv squeezes_S1x4096_S4096.numel_eq (ixI p) = u at h e0 e1
  have h2 := Shape.rowMajor_val_two (d := ![1, 4096]) u
  have h1 := Shape.rowMajor_val_one (d := ![4096]) (ixI p)
  have u0 : (u 0).val < 1 := (u 0).isLt
  have e : (u 0).val * 4096 + (u 1).val = (ixI p 0).val := (h2.symm.trans h).trans h1
  refine (ix2_eta (n0 := 32) (n1 := 4096) _).symm.trans ?_
  unfold rowI
  refine (ix2_inj _ _ _ _).mpr ⟨Fin.ext ?_, Fin.ext ?_⟩
  · omega
  · change _ = p % 4096
    omega

/-! ## What a tile owns -/

theorem ownBufs_V (L : grid1.Coords) (d : Dev nD) :
    (ownBufs (V d (cV L) (jV L)) : sProp 𝕄) = iprop((∃ f, sI.view.loc (V d (cV L) (jV L)) ↦{fullShare} f) ∗ (∃ f, sX.view.loc (V d (cV L) (jV L)) ↦{fullShare} f) ∗ (∃ f, sO.view.loc (V d (cV L) (jV L)) ↦{fullShare} f)
      ∗ bigSep ((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2))
        fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]
  rw [SparseCore.bigSep_erase' (Finset.mem_erase.mpr ⟨fun e => absurd (Proc.devRef_injective _ e) (show (cc1_scratch2 : Ref sig .scVector) ≠ cc1_scratch1 by decide),
    Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

/-! ## The task -/

variable (L : grid1.Coords) (d : Dev nD)

/-- The three rows a task works on, the output row at contents `f`. -/
def rows (fy : S32x262144.Idx → Elt F .f32) (fx : S32x4096.Idx → BitVec 32) (f : S32x262144.Idx → Elt F .f32) : sProp 𝕄 :=
  iprop(((yV : Memref sig .scVector .hbm S32x262144 .f32).view.loc (V d (cV L) (jV L)) ↦[rowSet (rowOf L)]{fullShare} fy)
    ∗ ((iV : Memref sig .scVector .hbm S32x4096 .i32).view.loc (V d (cV L) (jV L)) ↦[rowSetI (rowOf L)]{fullShare} (fx : S32x4096.Idx → Elt F .i32))
    ∗ ((oV : Memref sig .scVector .hbm S32x262144 .f32).view.loc (V d (cV L) (jV L)) ↦[rowSet (rowOf L)]{fullShare} f))

set_option maxHeartbeats 4000000 in
theorem tile_body (hF : (K (F := F)).Facts) (fy fo : S32x262144.Idx → Elt F .f32) (fx : S32x4096.Idx → BitVec 32) (hfx : ∀ p, (fx p).toNat < 4096)
    {O : CellTallies nD τ sig (HIx 1)} (hO : ∀ g, O g none = 0) (W : Waits sig (HIx 1)) (hy hi ho h5 h6 h7) :
    iprop(levAts (K (F := F)).L (K (F := F)).lev ∗ emp ∗ rows L d fy fx fo
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k L yV hy iV hi oV ho sI h5 sX h6 sO h7 cc1_scoped0 cc1_scoped1 cc1_scoped2 cc1_scoped3 cc1_scoped4 cc1_scoped5 cc1_scoped6 cc1_scoped7 cc1_scoped8
            cc1_scoped9 cc1_scoped10 cc1_scoped11 cc1_scoped12 cc1_scoped13 cc1_scoped14 cc1_scoped15 cc1_scoped16)
          fun _ => iprop(rows L d fy fx (outOf fy fx)
            ∗ scopedBufs (V d (cV L) (jV L)) ∗ scopedSems0 (V d (cV L) (jV L)) ∗ ∃ W', ⌜∀ p ∈ W', p ∈ W ∨ p.2 = none⌝ ∗ owes (V d (cV L) (jV L)) O W') := by
  rw [(K (F := F)).scopedBufs_V hF d (cV L) (jV L), SparseCore.Cfg.scopedSems0_V d (cV L) (jV L), ownBufs_V]
  rw [cc1_k_eq_skeleton]
  unfold cc1_k_skel
  rw [k1_part9_eq_skeleton, k1_part10_eq_skeleton, k1_part11_eq_skeleton, k1_part12_eq_skeleton, k1_part13_eq_skeleton]
  unfold k1_part9_skel k1_part10_skel k1_part11_skel k1_part12_skel k1_part13_skel
  simp only [Prog.lift, Prog.bind_op, Prog.bind_ret, Prog.pure_eq_ret, bind_assoc]
  have hfi : ∀ p, p < 4096 → (fun z => fx (iIdx L z)) (ixI p) = fx (rowI (rowOf L) p) := fun p hp => congrArg fx (iIdx_eq L p hp)
  have m0 : ((V d (cV L) (jV L), SemLoc.dma cc1_scoped0.sem) : GSem nD τ sig) ∈ ownCells (V d (cV L) (jV L)) := mem_ownCells.mpr ⟨rfl, rfl⟩
  have hsems : (ownSems0 (V d (cV L) (jV L)) : sProp 𝕄) = iprop(semVal (V d (cV L) (jV L), SemLoc.dma cc1_scoped0.sem) 0
      ∗ bigSep ((ownCells (V d (cV L) (jV L))).erase (V d (cV L) (jV L), SemLoc.dma cc1_scoped0.sem)) fun g => semVal g 0) := by
    unfold SparseCore.Cfg.ownSems0
    rw [SparseCore.bigSep_erase' m0]
  unfold rows
  iintro ⟨#Hlv, -, ⟨Hy, Hi, Ho⟩, ⟨⟨%fI, HI⟩, HX, HO, Hbr⟩, Hsem, Hw⟩
  ihave Hsem' := (Entails.of_eq hsems) $$ Hsem
  icases Hsem' with ⟨Hs0, Hsr⟩
  ihave Hi' := (Entails.of_eq (show (((iV : Memref sig .scVector .hbm S32x4096 .i32).view.loc (V d (cV L) (jV L)) ↦[rowSetI (rowOf L)]{fullShare} (fx : S32x4096.Idx → Elt F .i32) : sProp 𝕄))
    = ((iC L).view.loc (V d (cV L) (jV L)) ↦[(iC L).view.set]{fullShare} (fx : S32x4096.Idx → Elt F .i32)) by rw [set_iC])) $$ Hi
  ihave HI' := (Entails.of_eq (pts_sI (F := F) L d fI).symm) $$ HI
  iapply (copyWait L d (iC L) sI (by decide) (fx : S32x4096.Idx → Elt F .i32) fI hO W) $$ [Hi' HI' Hs0 Hw]
  · isplitr; · iexact Hlv
    isplitl [Hi']; · iexact Hi'
    isplitl [HI']; · iexact HI'
    isplitl [Hs0]; · iexact Hs0
    iexact Hw
  iintro Hi' HI' Hs0 Hw
  have hfI : sI.view.write (Elt F) fI ((iC L).view.read (Elt F) (fx : S32x4096.Idx → Elt F .i32)) Finset.univ = ((fun z => fx (iIdx L z)) : S4096.Idx → Elt F .i32) := by
    refine (View.write_whole_univ _ _ _).trans ?_
    rfl
  rw [hfI]
  ihave HI := (Entails.of_eq (pts_sI (F := F) L d _)) $$ HI'
  ihave Hst : (St L d (rowOf L) fy fo fx (fun z => fx (iIdx L z)) O W 0) $$ [Hy Ho HI HX HO Hs0 Hsr Hw]
  · unfold St
    isplitl [Hy]; · iexact Hy
    isplitl [Ho]
    · rw [show mixOf fy fo fx 0 = fo from funext fun y => if_neg (Nat.not_lt_zero _)]
      iexact Ho
    isplitl [HI]; · iexact HI
    isplitl [HX]; · iexact HX
    isplitl [HO]; · iexact HO
    isplitl [Hs0 Hsr]
    · rw [hsems]
      isplitl [Hs0] <;> iassumption
    iexists (insert (SemLoc.dma cc1_scoped0.sem, none) W)
    isplitr
    · ipureintro; intro p hp
      rcases Finset.mem_insert.mp hp with rfl | hp
      · exact .inr rfl
      exact .inl hp
    · iexact Hw
  iapply (group L d 0 (by decide) (k1_off2 L) (k1_off2_inb L) (k1_off2_inb L) (rowOf L) (k1_off2_eq L) fy fo fx hfx (fun z => fx (iIdx L z)) hfi _
    (fun fb k acc => trip L d (fun z => fx (iIdx L z)) fb (fun p => hfx _) yV hy iV hi oV ho h5 h6 h7 cc1_scoped0 cc1_scoped1 cc1_scoped2 cc1_scoped3 cc1_scoped4 cc1_scoped5 cc1_scoped6 cc1_scoped7 cc1_scoped8
            cc1_scoped9 cc1_scoped10 cc1_scoped11 cc1_scoped12 cc1_scoped13 cc1_scoped14 cc1_scoped15 cc1_scoped16 k acc)
    (s₁ := cc1_scoped1.sem) (s₂ := cc1_scoped2.sem) (by decide) rfl rfl hO W) $$ [Hst]
  · isplitr; · iexact Hlv
    iexact Hst
  iintro Hst
  iapply (group L d 1 (by decide) (k1_off12 L) (k1_off12_inb L) (k1_off12_inb L) (rowOf L) (k1_off12_eq L) fy fo fx hfx (fun z => fx (iIdx L z)) hfi _
    (fun fb k acc => trip L d (fun z => fx (iIdx L z)) fb (fun p => hfx _) yV hy iV hi oV ho h5 h6 h7 cc1_scoped0 cc1_scoped1 cc1_scoped2 cc1_scoped3 cc1_scoped4 cc1_scoped5 cc1_scoped6 cc1_scoped7 cc1_scoped8
            cc1_scoped9 cc1_scoped10 cc1_scoped11 cc1_scoped12 cc1_scoped13 cc1_scoped14 cc1_scoped15 cc1_scoped16 k acc)
    (s₁ := cc1_scoped3.sem) (s₂ := cc1_scoped4.sem) (by decide) rfl rfl hO W) $$ [Hst]
  · isplitr; · iexact Hlv
    iexact Hst
  iintro Hst
  iapply (group L d 2 (by decide) (k1_off22 L) (k1_off22_inb L) (k1_off22_inb L) (rowOf L) (k1_off22_eq L) fy fo fx hfx (fun z => fx (iIdx L z)) hfi _
    (fun fb k acc => trip L d (fun z => fx (iIdx L z)) fb (fun p => hfx _) yV hy iV hi oV ho h5 h6 h7 cc1_scoped0 cc1_scoped1 cc1_scoped2 cc1_scoped3 cc1_scoped4 cc1_scoped5 cc1_scoped6 cc1_scoped7 cc1_scoped8
            cc1_scoped9 cc1_scoped10 cc1_scoped11 cc1_scoped12 cc1_scoped13 cc1_scoped14 cc1_scoped15 cc1_scoped16 k acc)
    (s₁ := cc1_scoped5.sem) (s₂ := cc1_scoped6.sem) (by decide) rfl rfl hO W) $$ [Hst]
  · isplitr; · iexact Hlv
    iexact Hst
  iintro Hst
  iapply (group L d 3 (by decide) (k1_off32 L) (k1_off32_inb L) (k1_off32_inb L) (rowOf L) (k1_off32_eq L) fy fo fx hfx (fun z => fx (iIdx L z)) hfi _
    (fun fb k acc => trip L d (fun z => fx (iIdx L z)) fb (fun p => hfx _) yV hy iV hi oV ho h5 h6 h7 cc1_scoped0 cc1_scoped1 cc1_scoped2 cc1_scoped3 cc1_scoped4 cc1_scoped5 cc1_scoped6 cc1_scoped7 cc1_scoped8
            cc1_scoped9 cc1_scoped10 cc1_scoped11 cc1_scoped12 cc1_scoped13 cc1_scoped14 cc1_scoped15 cc1_scoped16 k acc)
    (s₁ := cc1_scoped7.sem) (s₂ := cc1_scoped8.sem) (by decide) rfl rfl hO W) $$ [Hst]
  · isplitr; · iexact Hlv
    iexact Hst
  iintro Hst
  iapply (group L d 4 (by decide) (k1_off42 L) (k1_off42_inb L) (k1_off42_inb L) (rowOf L) (k1_off42_eq L) fy fo fx hfx (fun z => fx (iIdx L z)) hfi _
    (fun fb k acc => trip L d (fun z => fx (iIdx L z)) fb (fun p => hfx _) yV hy iV hi oV ho h5 h6 h7 cc1_scoped0 cc1_scoped1 cc1_scoped2 cc1_scoped3 cc1_scoped4 cc1_scoped5 cc1_scoped6 cc1_scoped7 cc1_scoped8
            cc1_scoped9 cc1_scoped10 cc1_scoped11 cc1_scoped12 cc1_scoped13 cc1_scoped14 cc1_scoped15 cc1_scoped16 k acc)
    (s₁ := cc1_scoped9.sem) (s₂ := cc1_scoped10.sem) (by decide) rfl rfl hO W) $$ [Hst]
  · isplitr; · iexact Hlv
    iexact Hst
  iintro Hst
  iapply (group L d 5 (by decide) (k1_off52 L) (k1_off52_inb L) (k1_off52_inb L) (rowOf L) (k1_off52_eq L) fy fo fx hfx (fun z => fx (iIdx L z)) hfi _
    (fun fb k acc => trip L d (fun z => fx (iIdx L z)) fb (fun p => hfx _) yV hy iV hi oV ho h5 h6 h7 cc1_scoped0 cc1_scoped1 cc1_scoped2 cc1_scoped3 cc1_scoped4 cc1_scoped5 cc1_scoped6 cc1_scoped7 cc1_scoped8
            cc1_scoped9 cc1_scoped10 cc1_scoped11 cc1_scoped12 cc1_scoped13 cc1_scoped14 cc1_scoped15 cc1_scoped16 k acc)
    (s₁ := cc1_scoped11.sem) (s₂ := cc1_scoped12.sem) (by decide) rfl rfl hO W) $$ [Hst]
  · isplitr; · iexact Hlv
    iexact Hst
  iintro Hst
  iapply (group L d 6 (by decide) (k1_off62 L) (k1_off62_inb L) (k1_off62_inb L) (rowOf L) (k1_off62_eq L) fy fo fx hfx (fun z => fx (iIdx L z)) hfi _
    (fun fb k acc => trip L d (fun z => fx (iIdx L z)) fb (fun p => hfx _) yV hy iV hi oV ho h5 h6 h7 cc1_scoped0 cc1_scoped1 cc1_scoped2 cc1_scoped3 cc1_scoped4 cc1_scoped5 cc1_scoped6 cc1_scoped7 cc1_scoped8
            cc1_scoped9 cc1_scoped10 cc1_scoped11 cc1_scoped12 cc1_scoped13 cc1_scoped14 cc1_scoped15 cc1_scoped16 k acc)
    (s₁ := cc1_scoped13.sem) (s₂ := cc1_scoped14.sem) (by decide) rfl rfl hO W) $$ [Hst]
  · isplitr; · iexact Hlv
    iexact Hst
  iintro Hst
  iapply (group L d 7 (by decide) (k1_off72 L) (k1_off72_inb L) (k1_off72_inb L) (rowOf L) (k1_off72_eq L) fy fo fx hfx (fun z => fx (iIdx L z)) hfi _
    (fun fb k acc => trip L d (fun z => fx (iIdx L z)) fb (fun p => hfx _) yV hy iV hi oV ho h5 h6 h7 cc1_scoped0 cc1_scoped1 cc1_scoped2 cc1_scoped3 cc1_scoped4 cc1_scoped5 cc1_scoped6 cc1_scoped7 cc1_scoped8
            cc1_scoped9 cc1_scoped10 cc1_scoped11 cc1_scoped12 cc1_scoped13 cc1_scoped14 cc1_scoped15 cc1_scoped16 k acc)
    (s₁ := cc1_scoped15.sem) (s₂ := cc1_scoped16.sem) (by decide) rfl rfl hO W) $$ [Hst]
  · isplitr; · iexact Hlv
    iexact Hst
  iintro Hst
  rw [wp_ret]
  unfold St
  icases Hst with ⟨Hy, Ho, HI, HX, HO, Hsem, Hw⟩
  isplitl [Hy Hi' Ho]
  · isplitl [Hy]; · iexact Hy
    isplitl [Hi']
    · rw [set_iC]; iexact Hi'
    · rw [show mixOf fy fo fx 8 = outOf fy fx from funext fun y => if_pos (show (y 1).val < 262144 from (y 1).isLt)]
      iexact Ho
  isplitl [HI HX HO Hbr]
  · isplitl [HI]
    · iexists _; iexact HI
    isplitl [HX]; · iexact HX
    isplitl [HO]; · iexact HO
    iexact Hbr
  isplitl [Hsem]; · iexact Hsem
  iexact Hw

end Cert.Proof.TileIdeal
end
-- ==== Proof.AugIdeal.lean ====
/-
  The TensorCore kernel's body at one grid point, run by the executor.
-/
module

public import proofs.«01_k».proof.Proof.TileIdeal
public import proofs.«01_k».proof.Proof.Gen.KernelIdeal.Points

@[expose] public section

set_option maxRecDepth 65536

noncomputable section

namespace Cert.Proof.TileIdeal

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

noncomputable def augRun (c : Dev nD) (i : grid0.Coords) (M2 : Memref sig .tc .smem S32 .i32) (h2 : M2.IsWhole) (M3 : Memref sig .tc .smem S2 .i32) (h3 : M3.IsWhole)
    (M4 : Memref sig .tc .vmem S1x8x4096 .f32) (h4 : M4.IsWhole) (M5 : Memref sig .tc .vmem S1x8x1 .f32) (h5 : M5.IsWhole)
    (M6 : Memref sig .tc .vmem S1x8x4096 .f32) (h6 : M6.IsWhole) (M7 : Memref sig .tc .vmem S1x8x4096 .f32) (h7 : M7.IsWhole)
    (f2 : Bf (F := F) c M2) (f3 : Bf (F := F) c M3) (f4 : Bf (F := F) c M4) (f5 : Bf (F := F) c M5) (f6 : Bf (F := F) c M6) (f7 : Bf (F := F) c M7) :
    { W : Bf (F := F) c M6 × Bf (F := F) c M7 // ∀ (E : Set ℕ) (Q : PUnit → sProp 𝕄),
        iprop(pt c M2 f2 ∗ pt c M3 f3 ∗ pt c M4 f4 ∗ pt c M5 f5 ∗ pt c M6 f6 ∗ pt c M7 f7
            ∗ (iprop(pt c M2 f2 ∗ pt c M3 f3 ∗ pt c M4 f4 ∗ pt c M5 f5 ∗ pt c M6 W.1 ∗ pt c M7 W.2) -∗ Q ⟨⟩))
          ⊢ wp frame (wpE (defs₀ (F := F)) Variants.none c none) E (cc0__aug_tc_kernel i M2 h2 M3 h3 M4 h4 M5 h5 M6 h6 M7 h7) Q } := by
  refine ⟨(?_, ?_), fun E Q => ?run⟩
  case run =>
    iintro ⟨H2, H3, H4, H5, H6, H7, Hk⟩
    rw [cc0__aug_tc_kernel_eq_skeleton]
    unfold cc0__aug_tc_kernel_skel
    sl_exec!
    sl_step
    iapply Hk
    isplitl [H2]; · iexact H2
    isplitl [H3]; · iexact H3
    isplitl [H4]; · iexact H4
    isplitl [H5]; · iexact H5
    isplitl [H6]; · iexact H6
    iexact H7

end Cert.Proof.TileIdeal
end
-- ==== Proof.AugRegion.lean ====
/-
  The TensorCore kernel's pipeline as one region of @main: at every grid point the body leaves the four input
  blocks as fetched and the output block at the value its run gives; the region is entered from the unscoped
  buffers at any valuation and left with the output array at the write-backs of those blocks.
-/
module

public import proofs.«01_k».proof.Proof.AugIdeal
public import proofs.«01_k».proof.Proof.Gen.KernelIdeal.Launch
public import Idealize.ShloMosaic.Lib.Pipeline.RegionsLoop
public import Idealize.ShloMosaic.Lib.Pipeline.FrameBody

@[expose] public section

set_option maxRecDepth 65536

noncomputable section

namespace Cert.Proof.TileIdeal

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig (HIx 1) (Elt F) ℕ UU ℕ

/-- No pipeline of the program prefetches a table: the admissibility is trivial. -/
abbrev adm : (p : Fin 1) → (pcfgs (F := F) p).Adm := fun p => (cfgs p).toPCfg_adm

variable (W : (c : Dev nD) → (b : Ref sig .tc) → Buf (Elt F) ((c : Thread nD τ).loc b))

/-- Window `w`'s block at point `t`, read off its array at the entry valuation. -/
abbrev blkAt (c : Dev nD) (w : Fin 5) (t : Fin cfg0.N) : ((cfg0.win w).xblock (cfg0.grid.coords t)).Idx → Elt F (cfg0.win w).elt :=
  ((cfg0.win w).blk t).view.read (Elt F) (W c (Pipeline.arrRef spec0 w))

/-- The staging buffer of window `w` at point `t`, holding its block. -/
abbrev held0 (c : Dev nD) (t : Fin cfg0.N) : Bf (F := F) c (st0_0 t) := (hstage0_0 ((cfg0.slots t 0).cast nbuf0_0)).unread (blkAt W c 0 t)
abbrev held1 (c : Dev nD) (t : Fin cfg0.N) : Bf (F := F) c (st0_1 t) := (hstage0_1 ((cfg0.slots t 1).cast nbuf0_1)).unread (blkAt W c 1 t)
abbrev held2 (c : Dev nD) (t : Fin cfg0.N) : Bf (F := F) c (st0_2 t) := (hstage0_2 ((cfg0.slots t 2).cast nbuf0_2)).unread (blkAt W c 2 t)
abbrev held3 (c : Dev nD) (t : Fin cfg0.N) : Bf (F := F) c (st0_3 t) := (hstage0_3 ((cfg0.slots t 3).cast nbuf0_3)).unread (blkAt W c 3 t)

theorem set_of_whole {sp : Space} {S : Shape} {e : EltTy} (M : Memref sig .tc sp S e) (h : M.IsWhole) : M.view.set = Finset.univ := by
  obtain ⟨b, h1, h2, h3, h⟩ := h
  subst h1 h2 h3
  cases h
  exact View.set_whole ..

/-- A whole memref owned at `X` is its buffer held at the contents that read `X`, and back. -/
theorem pt_of_owns (c : Dev nD) {sp : Space} {S : Shape} {e : EltTy} (M : Memref sig .tc sp S e) (h : M.IsWhole) (X : S.Idx → Elt F e) :
    (owns (c : Thread nD τ) M fullShare X : sProp 𝕄) ⊢ pt c M (h.unread X) := by
  have hs : M.view.set = Finset.univ := set_of_whole M h
  unfold owns
  rw [hs]
  iintro ⟨%f, %hf, H⟩
  obtain rfl := h.eq_unread hf
  iexact H

theorem owns_of_pt (c : Dev nD) {sp : Space} {S : Shape} {e : EltTy} (M : Memref sig .tc sp S e) (h : M.IsWhole) (f : Bf (F := F) c M)
    (X : S.Idx → Elt F e) (hX : M.view.read (Elt F) f = X) : pt c M f ⊢ (owns (c : Thread nD τ) M fullShare X : sProp 𝕄) := by
  have hs : M.view.set = Finset.univ := set_of_whole M h
  unfold owns
  rw [hs]
  iintro H
  iexists f; isplitr; · ipureintro; exact hX
  iexact H

/-- What the body leaves in the output's staging buffer at point `t`. -/
def left (c : Dev nD) (t : Fin cfg0.N) : S1x8x4096.Idx → F .f32 :=
  (st0_4 t).view.read (Elt F) ((st0_4 t).view.writes (Elt F) (st0_4 t).view.junk
    (augRun.sl.H6_8 c (grid0.coords t) (st0_0 t) (st0_1 t) (st0_2 t) (st0_3 t) (Memref.whole cc0_scratch0) (held0 W c t) (held1 W c t) (held2 W c t) (held3 W c t)))

/-- The pairs a core may have waited on before the region: those at level zero. -/
def low (c : Dev nD) : Set (SemLoc sig × HIx 1) := {p | (K (F := F)).lev (T c, p.1) p.2 ≤ 0}

/-- The scoped buffer no window stages, held at something: the kernel's scratch. -/
abbrev Φc (c : Dev nD) : sProp 𝕄 := Pipeline.scopedRest (Ix := HIx 1) (Name := ℕ) (U := UU) (Lvl := ℕ) (Val := Elt F) spec0 c

/-- The region's proof data, from the valuation `W`. -/
def dat (c : Dev nD) : Dat τ (Elt F) (HIx 1) ℕ UU ℕ cfg0 c where
  A w := W c (Pipeline.arrRef spec0 w)
  after w t := match w with
    | ⟨0, _⟩ => blkAt W c 0 t
    | ⟨1, _⟩ => blkAt W c 1 t
    | ⟨2, _⟩ => blkAt W c 2 t
    | ⟨3, _⟩ => blkAt W c 3 t
    | ⟨4, _⟩ => left W c t
  Φ _ := Φc c
  q _ := fullShare
  owed _ := (K (F := F)).Otc c 0
  recorded _ := low (F := F) c

def pdats : (p : Fin 1) → (c : Dev nD) → Dat τ (Elt F) (HIx 1) ℕ UU ℕ (Pipeline.pin (pcfgs (F := F)) adm p) c
  | ⟨0, _⟩ => fun c => dat W c

theorem before_0 (c : Dev nD) (t : Fin cfg0.N) (d) : (dat W c).before 0 t d = blkAt W c 0 t :=
  (dat W c).before_in_eq_fetched 0 rfl (fun _ => rfl) (fun _ _ _ => rfl) (fun _ => rfl) t d
theorem before_1 (c : Dev nD) (t : Fin cfg0.N) (d) : (dat W c).before 1 t d = blkAt W c 1 t :=
  (dat W c).before_in_eq_fetched 1 rfl (fun _ => rfl) (fun _ _ _ => rfl) (fun _ => rfl) t d
theorem before_2 (c : Dev nD) (t : Fin cfg0.N) (d) : (dat W c).before 2 t d = blkAt W c 2 t :=
  (dat W c).before_in_eq_fetched 2 rfl (fun _ => rfl) (fun _ _ _ => rfl) (fun _ => rfl) t d
theorem before_3 (c : Dev nD) (t : Fin cfg0.N) (d) : (dat W c).before 3 t d = blkAt W c 3 t :=
  (dat W c).before_in_eq_fetched 3 rfl (fun _ => rfl) (fun _ _ _ => rfl) (fun _ => rfl) t d

/-- The output buffer after the run, whatever the two written buffers held. -/
theorem run_fst (c : Dev nD) (i : grid0.Coords) (M2 : Memref sig .tc .smem S32 .i32) (h2 : M2.IsWhole) (M3 : Memref sig .tc .smem S2 .i32) (h3 : M3.IsWhole)
    (M4 : Memref sig .tc .vmem S1x8x4096 .f32) (h4 : M4.IsWhole) (M5 : Memref sig .tc .vmem S1x8x1 .f32) (h5 : M5.IsWhole)
    (M6 : Memref sig .tc .vmem S1x8x4096 .f32) (h6 : M6.IsWhole) (M7 : Memref sig .tc .vmem S1x8x4096 .f32) (h7 : M7.IsWhole)
    (f2 : Bf (F := F) c M2) (f3 : Bf (F := F) c M3) (f4 : Bf (F := F) c M4) (f5 : Bf (F := F) c M5) (f6 : Bf (F := F) c M6) (f7 : Bf (F := F) c M7) :
    (augRun c i M2 h2 M3 h3 M4 h4 M5 h5 M6 h6 M7 h7 f2 f3 f4 f5 f6 f7).1.1
      = M6.view.writes (Elt F) M6.view.junk (augRun.sl.H6_8 c i M2 M3 M4 M5 M7 f2 f3 f4 f5) := by
  unfold augRun
  dsimp only []

attribute [local irreducible] augRun augRun.sl.H6_8 in
theorem body_obligation (c : Dev nD) : BodyObligation (dat W c) (defs₀ (F := F)) 𝒱₀ none Set.univ := fun t => by
  rw [bigSep_W0, bigSep_W0]
  rw [show (dat W c).Φ t.castSucc = Φc c from rfl, show (dat W c).Φ t.succ = Φc c from rfl,
    show (dat W c).owesAt none t.succ = (dat W c).owesAt none t.castSucc from rfl]
  dsimp only []
  simp only [before_0, before_1, before_2, before_3]
  unfold Φc
  rw [scopedRest0_eq]
  iintro ⟨HΦ, Howes, ⟨%d0, H0⟩, ⟨%d1, H1⟩, ⟨%d2, H2⟩, ⟨%d3, H3⟩, ⟨%d4, H4⟩⟩
  icases HΦ with ⟨%f7, HΦ⟩
  ihave H0 := pt_of_owns c (st0_0 t) (hstage0_0 ((cfg0.slots t 0).cast nbuf0_0)) (blkAt W c 0 t) $$ H0
  ihave H1 := pt_of_owns c (st0_1 t) (hstage0_1 ((cfg0.slots t 1).cast nbuf0_1)) (blkAt W c 1 t) $$ H1
  ihave H2 := pt_of_owns c (st0_2 t) (hstage0_2 ((cfg0.slots t 2).cast nbuf0_2)) (blkAt W c 2 t) $$ H2
  ihave H3 := pt_of_owns c (st0_3 t) (hstage0_3 ((cfg0.slots t 3).cast nbuf0_3)) (blkAt W c 3 t) $$ H3
  ihave H4 := pt_of_owns c (st0_4 t) (hstage0_4 ((cfg0.slots t 4).cast nbuf0_4)) _ $$ H4
  iapply ((augRun c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (Memref.whole cc0_scratch0) (Memref.isWhole_whole _)
    (held0 W c t) (held1 W c t) (held2 W c t) (held3 W c t) _ f7).2 Set.univ _)
  isplitl [H0]; · iexact H0
  isplitl [H1]; · iexact H1
  isplitl [H2]; · iexact H2
  isplitl [H3]; · iexact H3
  isplitl [H4]; · iexact H4
  isplitl [HΦ]; · iexact HΦ
  iintro ⟨H0, H1, H2, H3, H4, H5⟩
  isplitl [H5]; · iexists _; iexact H5
  isplitl [Howes]; · iexact Howes
  isplitl [H0]
  · iapply owns_of_pt c (st0_0 t) (hstage0_0 ((cfg0.slots t 0).cast nbuf0_0)) (held0 W c t) (blkAt W c 0 t) (Memref.IsWhole.read_unread _ _); iexact H0
  isplitl [H1]
  · iapply owns_of_pt c (st0_1 t) (hstage0_1 ((cfg0.slots t 1).cast nbuf0_1)) (held1 W c t) (blkAt W c 1 t) (Memref.IsWhole.read_unread _ _); iexact H1
  isplitl [H2]
  · iapply owns_of_pt c (st0_2 t) (hstage0_2 ((cfg0.slots t 2).cast nbuf0_2)) (held2 W c t) (blkAt W c 2 t) (Memref.IsWhole.read_unread _ _); iexact H2
  isplitl [H3]
  · iapply owns_of_pt c (st0_3 t) (hstage0_3 ((cfg0.slots t 3).cast nbuf0_3)) (held3 W c t) (blkAt W c 3 t) (Memref.IsWhole.read_unread _ _); iexact H3
  iapply owns_of_pt c (st0_4 t) (hstage0_4 ((cfg0.slots t 4).cast nbuf0_4)) (augRun c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (Memref.whole cc0_scratch0) (Memref.isWhole_whole _)
    (held0 W c t) (held1 W c t) (held2 W c t) (held3 W c t) ((hstage0_4 ((cfg0.slots t 4).cast nbuf0_4)).unread ((dat W c).before 4 t d4)) f7).1.1 (left W c t) (by rw [run_fst]; rfl); iexact H4

/-! ## The region over the unscoped buffers -/

/-- The output array after the region, as the library computes it: the write-backs of the blocks `left`. -/
def made (c : Dev nD) : Buf (Elt F) ((c : Thread nD τ).loc main_v13) := (dat W c).arrAt 4 cfg0.N

variable (Wp : (c : Dev nD) → (b : Ref sig .tc) → Buf (Elt F) ((c : Thread nD τ).loc b))

set_option backward.isDefEq.respectTransparency.types false in
/-- The region, entered with every unscoped buffer at `W c` and the core owing its handshakes, having waited on nothing
    above level zero; left with the output array at `made W c`, everything else as it was. -/
def reg (hWp_out : ∀ c, Wp c main_v13 = made W c) (hWp_ne : ∀ c (b : Ref sig .tc), b ≠ main_v13 → Wp c b = W c b) :
    Pipeline.RegionSeg (pcfgs (F := F)) adm (pdats W) none defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation W c).loose
  hwaits c := Pipeline.cellsWaits_of_cut (Pipeline.pin pcfgs adm) (pdats W) none 0 c 0 ((K (F := F)).Otc c 0) (fun _ => rfl)
    (fun _ _ => Finset.mem_univ _) (fun _ _ => Nat.le_refl 0) fun g i h => ⟨Finset.mem_univ _, by
      cases i with
      | none => exact absurd ((K (F := F)).lev_of_Otc_pos h) (by rw [SparseCore.Cfg.lev_none]; omega)
      | some q => exact (K (F := F)).lev_some_pos g q⟩
  pre c := iprop(unscopedBufs c (W c) ∗ ∃ A, ⌜(K (F := F)).WBelow (T c) A 0⌝ ∗ owes (c : Thread nD τ) ((K (F := F)).Otc c 0) A)
  post c := iprop(unscopedBufs c (Wp c) ∗ ∃ A, ⌜(K (F := F)).WBelow (T c) A 0⌝ ∗ owes (c : Thread nD τ) ((K (F := F)).Otc c 0) A)
  X _ := BI.emp
  Y _ := BI.emp
  Z c := Pipeline.unscopedRest (Ix := HIx 1) (Name := ℕ) (U := UU) (Lvl := ℕ) spec0 c (W c)
  hentry c := by
    rw [Pipeline.ownSems0_none]
    have hsplit := Pipeline.arrays_of_unscopedBufs (p := 0) (pcfgs (F := F)) adm (pdats W) (launch0).win (launch0).arr_whole c
      ((pdats W 0 c).share_full fun _ => rfl) (W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%A, %hA, HO⟩; iexists A; isplitr; · ipureintro; exact fun p hp => Or.inl (hA p hp)
      iexact HO
    isplitr; · iempintro
    iexact Hrest
  hin c := by
    rw [show (pdats W 0 c).Φ 0 = Φc c from rfl]
    iintro ⟨-, -, Hr⟩; iexact Hr
  hout c := by
    rw [Pipeline.ownSems0_none, show (pdats W 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch0).win (launch0).arr_whole c
      (pdats W) ((pdats W 0 c).share_full fun _ => rfl) (W c) (Wp c) ((pdats W 0 c).arrAt · cfg0.N)
      (fun w => by
        fin_cases w
        · exact ((pdats W 0 c).arrAt_in 0 rfl _).trans (hWp_ne c main_arg2 (by decide)).symm
        · exact ((pdats W 0 c).arrAt_in 1 rfl _).trans (hWp_ne c main_v12 (by decide)).symm
        · exact ((pdats W 0 c).arrAt_in 2 rfl _).trans (hWp_ne c main_arg0 (by decide)).symm
        · exact ((pdats W 0 c).arrAt_in 3 rfl _).trans (hWp_ne c main_v11 (by decide)).symm
        · exact (hWp_out c).symm)
      (fun b hb => hWp_ne c b fun h => hb (h ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%A, %hA, HO⟩; iexists A; isplitr
    · ipureintro
      intro p hp
      rcases hA hp with h | ⟨w, s, h⟩
      · exact h
      · rw [h]; exact Nat.le_refl 0
    iexact HO

end Cert.Proof.TileIdeal
end
-- ==== Proof.LaunchIdeal.lean ====
/-
  The launch: the rows that the 32 tasks take from the TensorCore and bring back, @main around the two calls, and the
  whole program's run: every argument kept, the result gathered from what the TensorCore's region made, every semaphore
  at zero.
-/
module

public import proofs.«01_k».proof.Proof.TaskIdeal
public import proofs.«01_k».proof.Proof.AugRegion
public import Idealize.ShloMosaic.Lib.SparseCore.Quiescent
public import Idealize.ShloMosaic.Lib.StableHlo.Run
public import Idealize.ShloMosaic.Lib.Pipeline.FrameTail

@[expose] public section

set_option maxRecDepth 16384

noncomputable section

namespace Cert.Proof.TileIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type} [FloatOps F] [Named F]

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

abbrev iLoc (d : Dev nD) : Loc nD τ sig := (SparseCore.T d).loc main_arg4
abbrev yLoc (d : Dev nD) : Loc nD τ sig := (SparseCore.T d).loc main_v14
abbrev oLoc (d : Dev nD) : Loc nD τ sig := (SparseCore.T d).loc main_v15
abbrev rLoc (d : Dev nD) : Loc nD τ sig := (SparseCore.T d).loc main_v16

variable (m : (ℓ : Loc nD τ sig) → Buf (Elt F) ℓ) (ρ : Dev nD → PrngReg)

/-- Every index read names a row element. -/
def PreOK : Prop := ∀ (d : Dev nD) (p : S32x4096.Idx), (show BitVec 32 from m (iLoc d) p).toNat < 4096

/-- The host's operations before the TensorCore's call: the channels' scale, and the key words. -/
def hostOps : List (HloOp τ sig (Elt F)) :=
  [StableHlo.nullary main_cst (constant S_ .f32 0x3DCCCCCD#32),
   StableHlo.unary main_cst main_v0 (broadcastInDim S32x64x1 ![] bcast_S_S32x64x1 : (⟨S_, .f32⟩ : BufTy).Contents (Elt F) → (⟨S32x64x1, .f32⟩ : BufTy).Contents (Elt F)),
   StableHlo.binary main_arg3 main_v0 main_v1 (cmpf .olt : (⟨S32x64x1, .f32⟩ : BufTy).Contents (Elt F) → (⟨S32x64x1, .f32⟩ : BufTy).Contents (Elt F) → (⟨S32x64x1, .i1⟩ : BufTy).Contents (Elt F)),
   StableHlo.unary main_v1 main_v2 (uitofp .f32 : (⟨S32x64x1, .i1⟩ : BufTy).Contents (Elt F) → (⟨S32x64x1, .f32⟩ : BufTy).Contents (Elt F)),
   StableHlo.unary main_arg1 main_v3 (broadcastInDim S32x64x1 ![0, 1] bcast_S32x64_S32x64x1_0_1 : (⟨S32x64, .f32⟩ : BufTy).Contents (Elt F) → (⟨S32x64x1, .f32⟩ : BufTy).Contents (Elt F)),
   StableHlo.nullary main_cst_0 (constant S_ .f32 0x3F800000#32),
   StableHlo.unary main_cst_0 main_v4 (broadcastInDim S32x64x1 ![] bcast_S_S32x64x1 : (⟨S_, .f32⟩ : BufTy).Contents (Elt F) → (⟨S32x64x1, .f32⟩ : BufTy).Contents (Elt F)),
   StableHlo.binary main_v4 main_v2 main_v5 (subf : (⟨S32x64x1, .f32⟩ : BufTy).Contents (Elt F) → (⟨S32x64x1, .f32⟩ : BufTy).Contents (Elt F) → (⟨S32x64x1, .f32⟩ : BufTy).Contents (Elt F)),
   StableHlo.nullary main_cst_1 (constant S_ .f32 0x3F800000#32),
   StableHlo.unary main_cst_1 main_v6 (broadcastInDim S32x64x1 ![] bcast_S_S32x64x1 : (⟨S_, .f32⟩ : BufTy).Contents (Elt F) → (⟨S32x64x1, .f32⟩ : BufTy).Contents (Elt F)),
   StableHlo.binary main_v6 main_v3 main_v7 (subf : (⟨S32x64x1, .f32⟩ : BufTy).Contents (Elt F) → (⟨S32x64x1, .f32⟩ : BufTy).Contents (Elt F) → (⟨S32x64x1, .f32⟩ : BufTy).Contents (Elt F)),
   StableHlo.binary main_v5 main_v7 main_v8 (mulf : (⟨S32x64x1, .f32⟩ : BufTy).Contents (Elt F) → (⟨S32x64x1, .f32⟩ : BufTy).Contents (Elt F) → (⟨S32x64x1, .f32⟩ : BufTy).Contents (Elt F)),
   StableHlo.nullary main_cst_2 (constant S_ .f32 0x3F800000#32),
   StableHlo.unary main_cst_2 main_v9 (broadcastInDim S32x64x1 ![] bcast_S_S32x64x1 : (⟨S_, .f32⟩ : BufTy).Contents (Elt F) → (⟨S32x64x1, .f32⟩ : BufTy).Contents (Elt F)),
   StableHlo.binary main_v9 main_v3 main_v10 (subf : (⟨S32x64x1, .f32⟩ : BufTy).Contents (Elt F) → (⟨S32x64x1, .f32⟩ : BufTy).Contents (Elt F) → (⟨S32x64x1, .f32⟩ : BufTy).Contents (Elt F)),
   StableHlo.binary main_v8 main_v10 main_v11 (addf : (⟨S32x64x1, .f32⟩ : BufTy).Contents (Elt F) → (⟨S32x64x1, .f32⟩ : BufTy).Contents (Elt F) → (⟨S32x64x1, .f32⟩ : BufTy).Contents (Elt F)),
   StableHlo.unary main_arg5 main_v12 (id : (⟨S2, .i32⟩ : BufTy).Contents (Elt F) → (⟨S2, .i32⟩ : BufTy).Contents (Elt F))]

/-- The launch valuation; the one the TensorCore's region is entered at; the one it leaves. -/
def V0 (d : Dev nD) : Valuation τ sig (Elt F) := fun b => m (d, b)
def Vh (d : Dev nD) : Valuation τ sig (Elt F) := StableHlo.after hostOps (V0 m d)
def Wh (d : Dev nD) (b : Ref sig .tc) : Buf (Elt F) ((d.tc : Thread nD τ).loc b) := Vh m d (Proc.devRef .tc b)
def Vg (d : Dev nD) : Valuation τ sig (Elt F) := Function.update (Vh m d) (Proc.devRef .tc (main_v13 : Ref sig .tc)) (made (Wh m) d)
def Wg (d : Dev nD) (b : Ref sig .tc) : Buf (Elt F) ((d.tc : Thread nD τ).loc b) := Vg m d (Proc.devRef .tc b)

/-- The rows as the host's reshape hands them to the SparseCore's call, the indices, and the result of the whole program. -/
def yOf (d : Dev nD) : S32x262144.Idx → Elt F .f32 := shapeCast S32x262144 (made (Wh m) d) shapeCasts_S32x64x4096_S32x262144
def iOf (d : Dev nD) : S32x4096.Idx → BitVec 32 := m (iLoc d)
def resOf (d : Dev nD) : S32x64x4096.Idx → Elt F .f32 := shapeCast S32x64x4096 (outOf (yOf m d) (iOf m d)) shapeCasts_S32x262144_S32x64x4096

def coordsV (c : Fin (grid1.bound 0)) (s : Fin (grid1.bound 1)) : grid1.Coords :=
  fun | 0 => c | 1 => s | ⟨_ + 2, h⟩ => absurd h (Nat.not_lt.2 (Nat.le_add_left _ _))

abbrev taskOf (c : Fin ((K (F := F)).nCore 0)) (i : Fin ((K (F := F)).nSub 0)) : grid1.Coords := coordsV ⟨c.val, c.isLt⟩ ⟨i.val, i.isLt⟩

/-- What a task takes and brings back. -/
def goOf (d : Dev nD) (c : Fin ((K (F := F)).nCore 0)) (i : Fin ((K (F := F)).nSub 0)) : sProp 𝕄 :=
  rows (taskOf (F := F) c i) d (yOf m d) (iOf m d) (m (oLoc d))
def tdOf (d : Dev nD) (c : Fin ((K (F := F)).nCore 0)) (i : Fin ((K (F := F)).nSub 0)) : sProp 𝕄 :=
  rows (taskOf (F := F) c i) d (yOf m d) (iOf m d) (outOf (yOf m d) (iOf m d))

instance rows_storable (L : grid1.Coords) (d : Dev nD) (fy : S32x262144.Idx → Elt F .f32) (fx : S32x4096.Idx → BitVec 32) (f : S32x262144.Idx → Elt F .f32) :
    BI.Storable (upEmb : UEmb _ 𝕄) (rows L d fy fx f) := by unfold rows; infer_instance
instance goOf_storable (d c i) : BI.Storable (upEmb : UEmb _ 𝕄) (goOf m d c i) := by unfold goOf; infer_instance
instance tdOf_storable (d c i) : BI.Storable (upEmb : UEmb _ 𝕄) (tdOf m d c i) := by unfold tdOf; infer_instance

/-- The call hands each SparseCore the rows of its tasks, each task its own three rows. -/
def P : (K (F := F)).Pay (nD := nD) (Val := Elt F) (Name := ℕ) (U := UU) where
  st := fun q d c => match q with | 0 => bigSep Finset.univ fun i => goOf m d c i
  dn := fun q d c => match q with | 0 => bigSep Finset.univ fun i => tdOf m d c i
  go := fun q d c i => match q with | 0 => goOf m d c i
  td := fun q d c i => match q with | 0 => tdOf m d c i
  x := fun _ _ => iprop(emp)

instance P_storable : (P (F := F) m).IsStorable where
  st q d c := match q with | 0 => (inferInstance : BI.Storable (upEmb : UEmb _ 𝕄) (bigSep Finset.univ fun i => goOf m d c i))
  dn q d c := match q with | 0 => (inferInstance : BI.Storable (upEmb : UEmb _ 𝕄) (bigSep Finset.univ fun i => tdOf m d c i))
  go q d c i := match q with | 0 => goOf_storable m d c i
  td q d c i := match q with | 0 => tdOf_storable m d c i

theorem defs₀_vector (c : Fin τ.nSC) (s : Fin τ.nSub) :
    defs₀ (F := F) (.scVector c s) 1 ()
      = SparseCore.onTile hcore1 hsub1 (fun c s => cc1_k (coordsV c s)
          yV (Memref.isWhole_whole _) iV (Memref.isWhole_whole _) oV (Memref.isWhole_whole _)
          sI (Memref.isWhole_whole _) sX (Memref.isWhole_whole _) sO (Memref.isWhole_whole _) cc1_scoped0 cc1_scoped1 cc1_scoped2 cc1_scoped3 cc1_scoped4 cc1_scoped5 cc1_scoped6 cc1_scoped7 cc1_scoped8
            cc1_scoped9 cc1_scoped10 cc1_scoped11 cc1_scoped12 cc1_scoped13 cc1_scoped14 cc1_scoped15 cc1_scoped16) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body (coordsV ⟨_, hc.1⟩ ⟨_, hc.2⟩) d hF (yOf m d) (m (oLoc d)) (iOf m d) (hpre d) hO W _ _ _ _ _ _).trans (wp_mono frame _ _ fun _ => obl_post)

theorem vecSplit : (K (F := F)).VecSplit' (P m) 0 := by
  intro d c
  show (bigSep Finset.univ fun i => goOf m d c i) ⊢ |={Set.univ}=> iprop((bigSep Finset.univ fun i => goOf m d c i)
    ∗ ((bigSep Finset.univ fun i => tdOf m d c i) -∗ (bigSep Finset.univ fun i => tdOf m d c i)))
  iintro H; imodintro
  isplitl [H]; · iexact H
  iintro H; iexact H

/-! ## The rows of the tasks are the arrays -/

/-- The row of task `(c, i)`. -/
def rowN (c : Fin 2) (i : Fin 16) : Fin 32 := ⟨2 * i.val + c.val, by omega⟩

theorem rowN_inj {c c' : Fin 2} {i i' : Fin 16} (h : rowN c i = rowN c' i') : c = c' ∧ i = i' := by
  have := congrArg Fin.val h
  simp only [rowN] at this
  exact ⟨Fin.ext (by omega), Fin.ext (by omega)⟩

theorem rowN_surj (b : Fin 32) : ∃ c i, b = rowN c i :=
  ⟨⟨b.val % 2, by omega⟩, ⟨b.val / 2, by omega⟩, Fin.ext (by simp only [rowN]; omega)⟩

omit [FloatOps F] [Named F] in
/-- An array held whole is held row by row, whatever picks an element's row. -/
theorem pts_rows {ℓ : Loc nD τ sig} (rw' : Fin 32 → Finset (Idx ℓ)) (of : Idx ℓ → Fin 32) (hrow : ∀ b y, y ∈ rw' b ↔ of y = b) (f : Buf (Elt F) ℓ) :
    (ℓ ↦{fullShare} f : sProp 𝕄) = bigSep Finset.univ fun c : Fin 2 => bigSep Finset.univ fun i : Fin 16 => ℓ ↦[rw' (rowN c i)]{fullShare} f := by
  have hdis : ∀ a b, a ≠ b → Disjoint (rw' a) (rw' b) := fun a b hab =>
    Finset.disjoint_left.mpr fun y h1 h2 => hab (((hrow a y).mp h1).symm.trans ((hrow b y).mp h2))
  rw [bigSep_congr fun c _ => (pointsTo_biUnion Finset.univ (ℓ := ℓ) (q := fullShare) (f := f) (fun i => rw' (rowN c i))
    fun i _ i' _ hne => hdis _ _ fun e => hne (rowN_inj e).2).symm]
  rw [← pointsTo_biUnion Finset.univ (ℓ := ℓ) (fun c : Fin 2 => Finset.univ.biUnion fun i => rw' (rowN c i)) fun c _ c' _ hne =>
    Finset.disjoint_left.mpr fun y h1 h2 => by
      obtain ⟨i, -, hi⟩ := Finset.mem_biUnion.mp h1
      obtain ⟨i', -, hi'⟩ := Finset.mem_biUnion.mp h2
      exact hne (rowN_inj (((hrow _ y).mp hi).symm.trans ((hrow _ y).mp hi'))).1]
  congr 1
  refine (Finset.eq_univ_iff_forall.mpr fun y => ?_).symm
  obtain ⟨c, i, e⟩ := rowN_surj (of y)
  exact Finset.mem_biUnion.mpr ⟨c, Finset.mem_univ _, Finset.mem_biUnion.mpr ⟨i, Finset.mem_univ _, (hrow _ y).mpr e⟩⟩

theorem rowOf_task (c : Fin 2) (i : Fin 16) : rowOf (coordsV c i) = rowN c i := rfl

/-- The three arrays, split among the tasks. -/
theorem arrays_rows (d : Dev nD) (f : S32x262144.Idx → Elt F .f32) :
    (bigSep Finset.univ fun c : Fin 2 => bigSep Finset.univ fun i : Fin 16 => rows (coordsV c i) d (yOf m d) (iOf m d) f : sProp 𝕄)
      = iprop((yLoc d ↦{fullShare} yOf m d) ∗ (iLoc d ↦{fullShare} m (iLoc d)) ∗ (oLoc d ↦{fullShare} f)) := by
  rw [pts_rows (ℓ := yLoc d) rowSet (fun y => y 0) (fun _ _ => mem_rowSet) (yOf m d), pts_rows (ℓ := iLoc d) rowSetI (fun y => y 0) (fun _ _ => mem_rowSetI) (m (iLoc d)),
    pts_rows (ℓ := oLoc d) rowSet (fun y => y 0) (fun _ _ => mem_rowSet) f]
  rw [← bigSep_sep', ← bigSep_sep']
  refine bigSep_congr fun c _ => ?_
  rw [← bigSep_sep', ← bigSep_sep']
  rfl

theorem st0_eq (d : Dev nD) : (bigSep Finset.univ fun c : Fin ((K (F := F)).nCore 0) => (P m).st 0 d c)
    = iprop((yLoc d ↦{fullShare} yOf m d) ∗ (iLoc d ↦{fullShare} m (iLoc d)) ∗ (oLoc d ↦{fullShare} m (oLoc d))) :=
  arrays_rows m d (m (oLoc d))
theorem dn0_eq (d : Dev nD) : (bigSep Finset.univ fun c : Fin ((K (F := F)).nCore 0) => (P m).dn 0 d c)
    = iprop((yLoc d ↦{fullShare} yOf m d) ∗ (iLoc d ↦{fullShare} m (iLoc d)) ∗ (oLoc d ↦{fullShare} outOf (yOf m d) (iOf m d))) :=
  arrays_rows m d (outOf (yOf m d) (iOf m d))

/-! ## The launch element -/

def u₀ : UU := (initOf (K (F := F)).hsCells (K (F := F)).hsToks, (initOf (Pipeline.cells cfgs cellOf_inj) (Pipeline.launchToks cfgs cellOf_inj), 1))

omit [FloatOps F] [Named F] in
theorem bigSep_emp' {I : Type} (s : Finset I) : (bigSep s fun _ => iprop(emp)) = (iprop(emp) : sProp 𝕄) := bigSep_emp_const s

/-- What the launch deals each TensorCore for its pipeline. -/
abbrev G (d : Dev nD) : sProp 𝕄 :=
  iprop((bigSep Finset.univ fun p : Fin 1 => Pipeline.cellsGhost (Pipeline.pin (pcfgs (F := F)) adm) EP p d) ∗ (bigSep Finset.univ fun p : Fin 1 => Pipeline.toksInit (Pipeline.pin (pcfgs (F := F)) adm) EP p d))

omit [FloatOps F] [Named F] in
theorem G_eq (d : Dev nD) : G (F := F) d
    = iprop(Pipeline.cellsGhost (Pipeline.pin (pcfgs (F := F)) adm) EP 0 d ∗ Pipeline.toksInit (Pipeline.pin (pcfgs (F := F)) adm) EP 0 d) := by
  unfold G
  rw [show (Finset.univ : Finset (Fin 1)) = {0} from rfl, bigSep_singleton, bigSep_singleton]

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H := (own_pair_emb embR _ _) $$ HR
  icases H with ⟨HP, -⟩
  ihave HG := (Pipeline.fund_ghost (Pipeline.pin (pcfgs (F := F)) adm) EP cellOf_inj) $$ HP
  imod HG with ⟨H1, H2⟩
  imodintro
  isplitl [HH]; · iexact HH
  isplitl [H1 H2]
  · rw [bigSep_sep']
    isplitl [H1] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev i' : DevRef τ sig := Proc.devRef .tc (main_arg4 : Ref sig .tc)
abbrev y' : DevRef τ sig := Proc.devRef .tc (main_v14 : Ref sig .tc)
abbrev o' : DevRef τ sig := Proc.devRef .tc (main_v15 : Ref sig .tc)
abbrev r' : DevRef τ sig := Proc.devRef .tc (main_v16 : Ref sig .tc)
abbrev op1 : HloOp τ sig (Elt F) := StableHlo.reshape main_v13 main_v14 (rfl : (.f32 : EltTy) = .f32) shapeCasts_S32x64x4096_S32x262144
abbrev op2 : HloOp τ sig (Elt F) := StableHlo.reshape main_v15 main_v16 (rfl : (.f32 : EltTy) = .f32) shapeCasts_S32x262144_S32x64x4096

/-- The three arrays of the SparseCore's call, and the TensorCore's. -/
abbrev S3 : Finset (DevRef τ sig) := {y', i', o'}
abbrev UC : Finset (DevRef τ sig) := Pipeline.ucRefs τ sig

/-- The valuations at the SparseCore's call, after it, and at the end. -/
def Vy (d : Dev nD) : Valuation τ sig (Elt F) := (op1 (F := F)).result (Vg m d)
def Vo (d : Dev nD) : Valuation τ sig (Elt F) := Function.update (Vy m d) o' (outOf (yOf m d) (iOf m d))
def Vz (d : Dev nD) : Valuation τ sig (Elt F) := (op2 (F := F)).result (Vo m d)

/-- What the host's operations write. -/
def wr : List (Ref sig .tc) := [main_cst, main_v0, main_v1, main_v2, main_v3, main_cst_0, main_v4, main_v5, main_cst_1, main_v6, main_v7, main_v8,
  main_cst_2, main_v9, main_v10, main_v11, main_v12]

theorem Vh_of (d : Dev nD) {b : Ref sig .tc} (h : b ∉ wr) : Vh m d (Proc.devRef .tc b) = m ((d.tc : Thread nD τ).loc b) :=
  StableHlo.after_of_writes_sub (W := wr) hostOps _ (StableHlo.forall_writes_sub_of_map rfl) h

theorem Vg_of (d : Dev nD) {b : Ref sig .tc} (h : b ∉ wr) (h13 : b ≠ main_v13) : Vg m d (Proc.devRef .tc b) = m ((d.tc : Thread nD τ).loc b) :=
  (Function.update_of_ne (fun e => h13 (Proc.devRef_injective _ e)) _ _).trans (Vh_of m d h)

theorem Vy_of (d : Dev nD) {b : Ref sig .tc} (h : b ∉ wr) (h13 : b ≠ main_v13) (h14 : b ≠ main_v14) : Vy m d (Proc.devRef .tc b) = m ((d.tc : Thread nD τ).loc b) :=
  (StableHlo.reshape_result_ne' _ _ _ _ _ h14).trans (Vg_of m d h h13)

theorem Vy_y (d : Dev nD) : Vy m d y' = yOf m d := by
  unfold Vy
  rw [StableHlo.reshape_result']
  unfold Vg
  rw [Function.update_self]
  rfl

theorem Vz_of (d : Dev nD) {b : Ref sig .tc} (h : b ∉ wr) (h13 : b ≠ main_v13) (h14 : b ≠ main_v14) (h15 : b ≠ main_v15) (h16 : b ≠ main_v16) :
    Vz m d (Proc.devRef .tc b) = m ((d.tc : Thread nD τ).loc b) :=
  (StableHlo.reshape_result_ne' _ _ _ _ _ h16).trans
    ((Function.update_of_ne (fun e => h15 (Proc.devRef_injective _ e)) _ _).trans (Vy_of m d h h13 h14))

theorem Vz_r (d : Dev nD) : Vz m d r' = resOf m d := by
  unfold Vz
  rw [StableHlo.reshape_result']
  unfold Vo
  rw [Function.update_self]
  rfl

omit [FloatOps F] [Named F] in
theorem held_S3 (d : Dev nD) (W : Valuation τ sig (Elt F)) :
    (held (T d) S3 W : sProp 𝕄) = iprop((yLoc d ↦{fullShare} W y') ∗ (iLoc d ↦{fullShare} W i') ∗ (oLoc d ↦{fullShare} W o')) := by
  unfold held S3
  rw [SparseCore.bigSep_insert' (by decide), SparseCore.bigSep_insert' (by decide), bigSep_singleton]

theorem S3_sub : S3 ⊆ UC := fun b hb => by
  simp only [Finset.mem_insert, Finset.mem_singleton] at hb
  rcases hb with rfl | rfl | rfl
  · exact Pipeline.devRef_mem_ucRefs rfl
  · exact Pipeline.devRef_mem_ucRefs rfl
  · exact Pipeline.devRef_mem_ucRefs rfl

/-- The call's arrays taken out of what is held, and put back with the output written. -/
theorem held_take (d : Dev nD) : (held (T d) UC (Vy m d) : sProp 𝕄)
    = iprop(((yLoc d ↦{fullShare} yOf m d) ∗ (iLoc d ↦{fullShare} m (iLoc d)) ∗ (oLoc d ↦{fullShare} m (oLoc d))) ∗ held (T d) (UC \ S3) (Vy m d)) := by
  rw [StableHlo.held_sub_split _ S3_sub, held_S3, Vy_y, show Vy m d i' = m (iLoc d) from Vy_of m d (by decide) (by decide) (by decide),
    show Vy m d o' = m (oLoc d) from Vy_of m d (by decide) (by decide) (by decide)]

theorem held_put (d : Dev nD) : (held (T d) UC (Vo m d) : sProp 𝕄)
    = iprop(((yLoc d ↦{fullShare} yOf m d) ∗ (iLoc d ↦{fullShare} m (iLoc d)) ∗ (oLoc d ↦{fullShare} outOf (yOf m d) (iOf m d))) ∗ held (T d) (UC \ S3) (Vy m d)) := by
  rw [StableHlo.held_sub_split _ S3_sub, held_S3,
    show Vo m d y' = yOf m d from (Function.update_of_ne (show y' ≠ o' by decide) _ _).trans (Vy_y m d),
    show Vo m d i' = m (iLoc d) from (Function.update_of_ne (show i' ≠ o' by decide) _ _).trans (Vy_of m d (by decide) (by decide) (by decide)),
    show Vo m d o' = outOf (yOf m d) (iOf m d) from Function.update_self _ _ _,
    StableHlo.held_congr (S := UC \ S3) _ (V := Vo m d) (V' := Vy m d) fun b hb => Function.update_of_ne (fun e => (Finset.mem_sdiff.mp hb).2 (by rw [e]; decide)) _ _]

theorem ops_sub : (hostOps (F := F)).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub ..,
    StableHlo.nullary_bufs_sub .., StableHlo.unary_bufs_sub .., StableHlo.binary_bufs_sub .., StableHlo.nullary_bufs_sub .., StableHlo.unary_bufs_sub ..,
    StableHlo.binary_bufs_sub .., StableHlo.binary_bufs_sub .., StableHlo.nullary_bufs_sub .., StableHlo.unary_bufs_sub .., StableHlo.binary_bufs_sub ..,
    StableHlo.binary_bufs_sub .., StableHlo.unary_bufs_sub ..⟩

theorem ops_uc (op : HloOp τ sig (Elt F)) (h : op ∈ hostOps) : op.bufs ⊆ UC :=
  Pipeline.sub_ucRefs op ((List.forall_iff_forall_mem.mp ops_sub) op h)
theorem ops_fresh (op : HloOp τ sig (Elt F)) (h : op ∈ hostOps) : op.fresh = ∅ := by
  unfold hostOps at h
  (repeat (cases h with | head => rfl | tail _ h => ?_)); exact nomatch h

theorem hop1 : (op1 (F := F)).bufs ⊆ UC := Pipeline.sub_ucRefs _ (StableHlo.reshape_bufs_sub ..)
theorem hop2 : (op2 (F := F)).bufs ⊆ UC := Pipeline.sub_ucRefs _ (StableHlo.reshape_bufs_sub ..)

/-- @main after the host's operations. -/
def rest (d : Dev nD) : Prog (TpuEff nD τ sig (Elt F) (SparseCore.Sig (ΛP (F := F)) 1) .tc) PUnit := do
  Prog.lift (.customCall (SparseCore.inner (Pipeline.entry 0)) ())
  hlo rfl (op1 (F := F)) (fun _ => .ret ⟨⟩)
  (K (F := F)).run d 0
  hlo rfl (op2 (F := F)) (fun _ => .ret ⟨⟩)
  pure ⟨⟩

theorem main_eq (d : Dev nD) : main (F := F) d = StableHlo.seq hostOps >>= fun _ => rest d := by
  rw [StableHlo.seq_bind_seqK]; rfl

instance : (EP (F := F)).LandsIn (upEmb : UEmb _ (MT nD τ sig (HIx 1) (Elt F) ℕ UU ℕ)) := by unfold EP; infer_instance

theorem unscoped_Wh (d : Dev nD) : (unscopedBufs d (Wh m d) : sProp 𝕄) = held (T d) UC (Vh m d) := Pipeline.unscopedBufs_held d (Vh m d)
theorem unscoped_Wg (d : Dev nD) : (unscopedBufs d (Wg m d) : sProp 𝕄) = held (T d) UC (Vg m d) := Pipeline.unscopedBufs_held d (Vg m d)
theorem unscoped_V0 (d : Dev nD) : (unscopedBufs d (fun b => m ((SparseCore.T d).loc b)) : sProp 𝕄) = held (T d) UC (V0 m d) :=
  Pipeline.unscopedBufs_held d (V0 m d)

/-- The region's record at the valuations of this run. -/
def regM : Pipeline.RegionSeg (pcfgs (F := F)) adm (pdats (Wh m)) none defs₀ 𝒱₀ (K (F := F)).L (K (F := F)).lev 0 :=
  reg (Wh m) (Wg m) (fun d => by unfold Wg Vg; exact Function.update_self _ _ _) fun _ _ h => Function.update_of_ne (fun e => h (Proc.devRef_injective _ e)) _ _

/-- What @main leaves the claim: every unscoped buffer, at the end's valuation. -/
abbrev FIN (d : Dev nD) : sProp 𝕄 := held (T d) UC (Vz m d)

omit [FloatOps F] [Named F] in
/-- The TensorCore's state before the call: what it owes, having waited on nothing above level zero, and the rest. -/
theorem tcSt_split (d : Dev nD) : ∃ R : sProp 𝕄, (K (F := F)).tcSt EH d 0
    = iprop((∃ A, ⌜(K (F := F)).WBelow (T d) A 0⌝ ∗ owes (T d) ((K (F := F)).Otc d 0) A) ∗ R) := ⟨_, rfl⟩

set_option backward.isDefEq.respectTransparency.types false in
/-- @main on device `d`'s TensorCore: the host's operations, the region, the reshape, the call, the reshape back. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  obtain ⟨R, hR⟩ := tcSt_split (F := F) d
  rw [unscoped_V0, main_eq, G_eq, hR]
  iintro ⟨#Hctx, Hst, ⟨Hb, Hheld, Hts, -⟩, ⟨Hg, Ht⟩⟩
  iapply (StableHlo.wp_seq 𝒱 none Set.univ d UC (fun _ => rest d) hostOps ops_uc ops_fresh (V0 m d)) $$ [Hb Hheld]
  · isplitl [Hb]; · iexact Hb
    iexact Hheld
  iintro ⟨Hb, Hheld⟩
  unfold rest
  simp only [wp_bind, wp_pure]
  icases Hst with ⟨Howes, Hrest⟩
  iapply ((K (F := F)).wp_liftProg (D (F := F)) 𝒱 (T d) Set.univ none (.op (.customCall (Pipeline.entry 0) ()) .ret) _)
  iapply (Pipeline.RegionSeg.wp (pcfgs (F := F)) adm (pdats (Wh m)) none cellOf_inj EP defs₀ 𝒱₀ (K (F := F)).L (K (F := F)).lev (regM m) d none
    (fun u hu => nomatch hu) .ret _) $$ [Hb Hheld Howes Hg Ht Hrest Hts]
  isplitl [Hrest Hts]
  · iintro ⟨Hb, Hpost⟩
    ihave Hp := (Entails.of_eq (show (regM m).post d = iprop(held (T d) UC (Vg m d) ∗ ∃ A, ⌜(K (F := F)).WBelow (T d) A 0⌝ ∗ owes (T d) ((K (F := F)).Otc d 0) A) by
      rw [← unscoped_Wg]; rfl)) $$ Hpost
    icases Hp with ⟨Hheld, Howes⟩
    rw [wp_ret]; imodintro
    iapply (wp_hlo_within 𝒱 (SparseCore.T d) none Set.univ (op := op1) (S := UC) hop1 (V := Vg m d)) $$ [Hb Hheld]
    · isplitl [Hb]; · iexact Hb
      iexact Hheld
    iintro ⟨Hb, Hheld⟩
    rw [show (op1 (F := F)).result (Vg m d) = Vy m d from rfl]
    ihave Hh := (Entails.of_eq (held_take (F := F) m d)) $$ Hheld
    icases Hh with ⟨Hthree, Hothers⟩
    rw [wp_ret]; imodintro
    iapply ((K (F := F)).wp_run (D (F := F)) 𝒱 (EH := EH) (P := P m) κ d 0) $$ [Howes Hrest Hthree Hothers Hb Hts]
    isplitr; · iexact Hctx
    isplitl [Howes Hrest]
    · rw [show ((0 : Fin 1) : ℕ) = 0 from rfl, hR]
      isplitl [Howes]; · iexact Howes
      iexact Hrest
    isplitl [Hthree]
    · rw [st0_eq]; iexact Hthree
    iintro ⟨Hst, Hdn⟩
    ihave Hdn' := (Entails.of_eq (dn0_eq m d)) $$ Hdn
    iapply (wp_hlo_within 𝒱 (SparseCore.T d) none Set.univ (op := op2) (S := UC) hop2 (V := Vo m d)) $$ [Hb Hdn' Hothers]
    · isplitl [Hb]; · iexact Hb
      rw [held_put]
      isplitl [Hdn']; · iexact Hdn'
      iexact Hothers
    iintro ⟨Hb, Hheld⟩
    rw [wp_ret]; imodintro; imodintro
    isplitl [Hst]; · iexact Hst
    isplitl [Hheld]; · iexact Hheld
    isplitl [Hb] <;> iassumption
  isplitl [Hb]; · iexact Hb
  isplitl [Hheld Howes]
  · rw [show (regM m).pre d = iprop(unscopedBufs d (Wh m d) ∗ ∃ A, ⌜(K (F := F)).WBelow (T d) A 0⌝ ∗ owes (d.tc : Thread nD τ) ((K (F := F)).Otc d 0) A) from rfl,
      unscoped_Wh]
    isplitl [Hheld]; · iexact Hheld
    iexact Howes
  isplitr
  · iapply ((K (F := F)).ctx_levAts κ); iexact Hctx
  isplitl [Hg]
  · iexact Hg
  iexact Ht

/-- Every unscoped buffer of `d`'s TensorCore at the end's valuation. -/
def fq (d : Dev nD) (s' : Phys nD τ sig (Elt F)) : Prop := ∀ b ∈ UC, s'.mem.mem (d, b) = Vz m d b

theorem hfin (d : Dev nD) (s' : Phys nD τ sig (Elt F)) : iprop(FIN m d ∗ SI s') ⊢ (⌜fq m d s'⌝ : sProp 𝕄) :=
  (pointsTo_read_all UC (fun b => (d, b)) (fun b => Vz m d b) s').trans sep_elim_left

/-! ## The program's run -/

/-- The final memory: the arguments as launched, the result gathered; every semaphore at zero. -/
def QC : PUnit × MemSt nD τ sig (Elt F) → Prop :=
  fun r => (∀ c : Dev nD, (∀ b ∈ [main_arg0, main_arg1, main_arg2, main_arg3, main_arg4, main_arg5], r.2.mem ((c.tc : Thread nD τ).loc b) = m ((c.tc : Thread nD τ).loc b))
    ∧ r.2.mem (rLoc c) = resOf m c) ∧ r.2.sem = fun _ => 0

theorem args_kept (d : Dev nD) (b : Ref sig .tc) (h : b ∈ [main_arg0, main_arg1, main_arg2, main_arg3, main_arg4, main_arg5]) :
    (Proc.devRef .tc b : DevRef τ sig) ∈ UC ∧ Vz m d (Proc.devRef .tc b) = m ((d.tc : Thread nD τ).loc b) := by
  have hs : ∀ b ∈ [main_arg0, main_arg1, main_arg2, main_arg3, main_arg4, main_arg5], b.isScoped = false ∧ b ∉ wr ∧ b ≠ main_v13 ∧ b ≠ main_v14 ∧ b ≠ main_v15 ∧ b ≠ main_v16 := by decide
  obtain ⟨h0, h1, h2, h3, h4, h5⟩ := hs b h
  exact ⟨Pipeline.devRef_mem_ucRefs h0, Vz_of m d h1 h2 h3 h4 h5⟩

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => G d) (FIN m) (u₀ (F := F)) (sep_elim_left.trans (hu₀ m)) (hmain m ρ) (fq m) (hfin m) (QC m) (fun s h hz =>
      ⟨fun c => ⟨fun b hb => (h c _ (args_kept m c b hb).1).trans (args_kept m c b hb).2,
        (h c r' (Pipeline.devRef_mem_ucRefs rfl)).trans (Vz_r m c)⟩, hz⟩)

end Cert.Proof.TileIdeal
end
-- ==== Proof.Spec.lean ====
/-
  The noise of one vector of counters, written once: twenty rounds of threefry, the bits to a uniform in `(-1, 1)`, the inverse
  error function by its two polynomials. Every function is on vectors of any shape and acts element by element.
-/
module

public import proofs.«01_k».proof.KernelIdeal

@[expose] public section

noncomputable section

namespace Cert.Proof.Spec

open Idealize.ShloMosaic

variable {F : FTy → Type} [FloatOps F] {S : Shape}

/-- Rotation left by `n`, given with `m = 32 - n`. -/
def rot (n m : BitVec 32) (x : IVec S 32) : IVec S 32 := ori (shli x (broadcast S n)) (shrui x (broadcast S m))
/-- One round. -/
def rnd (n m : BitVec 32) (p : IVec S 32 × IVec S 32) : IVec S 32 × IVec S 32 :=
  (addi p.1 p.2, xori (rot n m p.2) (addi p.1 p.2))
/-- The keys added after four rounds. -/
def inj (a b k : BitVec 32) (p : IVec S 32 × IVec S 32) : IVec S 32 × IVec S 32 :=
  (addi p.1 (broadcast S a), addi (addi p.2 (broadcast S b)) (broadcast S k))
def evens (p : IVec S 32 × IVec S 32) : IVec S 32 × IVec S 32 := rnd 6#32 26#32 (rnd 26#32 6#32 (rnd 15#32 17#32 (rnd 13#32 19#32 p)))
def odds (p : IVec S 32 × IVec S 32) : IVec S 32 × IVec S 32 := rnd 24#32 8#32 (rnd 16#32 16#32 (rnd 29#32 3#32 (rnd 17#32 15#32 p)))
/-- The third key. -/
def ks (k0 k1 : BitVec 32) : BitVec 32 := Scalar.xori (Scalar.xori k0 k1) 466688986#32
/-- Threefry of the two words `x0`, `x1` under the keys `k0`, `k1`, before the first keys are added. -/
def threefry (k0 k1 : BitVec 32) (p : IVec S 32 × IVec S 32) : IVec S 32 × IVec S 32 :=
  inj (ks k0 k1) k0 5#32 (evens (inj k1 (ks k0 k1) 4#32 (odds (inj k0 k1 3#32 (evens (inj (ks k0 k1) k0 2#32 (odds
    (inj k1 (ks k0 k1) 1#32 (evens p)))))))))
/-- The random bits of the counters `x`, whose high words are zero. -/
def bits (k0 k1 : BitVec 32) (x : IVec S 32) : IVec S 32 :=
  xori (threefry k0 k1 (broadcast S k0, addi x (broadcast S k1))).1 (threefry k0 k1 (broadcast S k0, addi x (broadcast S k1))).2

/-- A constant given by its bits, at every element. -/
abbrev cst (S : Shape) (w : BitVec 32) : FVec F S .f32 := broadcast S (Scalar.ofBits .f32 w : F .f32)
/-- The bits as a number in `[1, 2)`. -/
def mant (b : IVec S 32) : FVec F S .f32 := bitcastToFloat .f32 (ori (shrui b (broadcast S 9#32)) (broadcast S 1065353216#32))
/-- The uniform as the kernel scales it. -/
def unif (span off : F .f32) (b : IVec S 32) : FVec F S .f32 :=
  maximumf (cst S 0xBF7FFFFF#32) (addf (mulf (mant b) (broadcast S span)) (broadcast S off))
/-- One step of Horner's rule. -/
def horn (w : BitVec 32) (x p : FVec F S .f32) : FVec F S .f32 := addf (mulf p x) (cst S w)
/-- `w = -log ((1 - x) (1 + x))`, as the kernel has it. -/
def logK (x : FVec F S .f32) : FVec F S .f32 :=
  subf (cst S 0x00000000#32) (log (mulf (subf (cst S 0x3F800000#32) x) (addf (cst S 0x3F800000#32) x)))
def central (y : FVec F S .f32) : FVec F S .f32 :=
  horn 0x3FC02E2F#32 y (horn 0x3E7C8F63#32 y (horn 0xBB88E4EF#32 y (horn 0xBAA45408#32 y (horn 0x396532DB#32 y (horn 0xB6935AC1#32 y (horn 0xB66C7357#32 y (horn 0x34B84B36#32 y (cst S 0x32F16588#32))))))))
def tail (y : FVec F S .f32) : FVec F S .f32 :=
  horn 0x40354F7E#32 y (horn 0x3F8036DB#32 y (horn 0x3C1AA57E#32 y (horn 0xBBF9C5D7#32 y (horn 0x3BBC127B#32 y (horn 0xBB70BDE7#32 y
    (horn 0x3AB0DC72#32 y (horn 0x38D3B56B#32 y (cst S 0xB951F09B#32))))))))
/-- The inverse error function at `x`, from `w = -log (1 - x²)`. -/
def erfinv (w x : FVec F S .f32) : FVec F S .f32 :=
  mulf (select (cmpf .olt w (cst S 0x40A00000#32)) (central (subf w (cst S 0x40200000#32))) (tail (subf (sqrt w) (cst S 0x40400000#32)))) x
/-- A standard normal from a uniform `x` in `(-1, 1)` and its `w`. -/
def normal (w x : FVec F S .f32) : FVec F S .f32 := mulf (cst S 0x3FB504F3#32) (erfinv w x)

/-! ## One element -/

/-- The shape of one element. -/
abbrev S0 : Shape := ⟨0, ![]⟩
/-- The random bits of one counter. -/
def bit (k0 k1 n : BitVec 32) : BitVec 32 := bits (S := S0) k0 k1 (fun _ => n) fun a => a.elim0
/-- The uniform of one counter's bits. -/
def uni (span off : F .f32) (b : BitVec 32) : F .f32 := unif (S := S0) span off (fun _ => b) fun a => a.elim0
def lgK (x : F .f32) : F .f32 := logK (S := S0) (fun _ => x) fun a => a.elim0
def nrm (w x : F .f32) : F .f32 := normal (S := S0) (fun _ => w) (fun _ => x) fun a => a.elim0
/-- The noise of one counter. -/
def noise (span off : F .f32) (k0 k1 n : BitVec 32) : F .f32 := nrm (lgK (uni span off (bit k0 k1 n))) (uni span off (bit k0 k1 n))

theorem rnd_fst (n m : BitVec 32) (p : IVec S 32 × IVec S 32) (y : S.Idx) : (rnd n m p).1 y = IntOp.addi (p.1 y) (p.2 y) := rfl
theorem bits_at (k0 k1 : BitVec 32) (x : IVec S 32) (y : S.Idx) : bits k0 k1 x y = bit k0 k1 (x y) := rfl
theorem unif_at (span off : F .f32) (b : IVec S 32) (y : S.Idx) : unif span off b y = uni span off (b y) := rfl
theorem logK_at (x : FVec F S .f32) (y : S.Idx) : logK x y = lgK (x y) := rfl
theorem normal_at (w x : FVec F S .f32) (y : S.Idx) : normal w x y = nrm (w y) (x y) := rfl

end Cert.Proof.Spec
-- ==== Proof.AugVal.lean ====
/-
  What the TensorCore kernel leaves in its output block at a grid point, element by element: the scale times the shifted row
  plus the noise of the element's counter.
-/
module

public import proofs.«01_k».proof.Proof.AugIdeal
public import proofs.«01_k».proof.Proof.Spec
public import Idealize.ShloMosaic.Lib.Pipeline.Value
public import Idealize.ShloMosaic.Lib.Pipeline.ReadBack
public import Idealize.ShloMosaic.Lib.Pointwise.Index

@[expose] public section

set_option maxRecDepth 65536

noncomputable section

namespace Cert.Proof.TileIdeal

open Cert.KernelIdeal Cert.KernelIdeal.Gen
open Idealize.ShloMosaic

variable {F : FTy → Type} [FloatOps F] [Named F]

/-- The counters of a augChunk of 512 columns from `t0`. -/
def counters (base t0 : BitVec 32) : IVec S1x8x512 32 :=
  addi (addi (broadcast S1x8x512 base) (muli (iota .tc S1x8x512 32 [1] iota_S1x8x512_d1_w32) (broadcast S1x8x512 4096#32)))
    (addi (broadcast S1x8x512 t0) (iota .tc S1x8x512 32 [2] iota_S1x8x512_d2_w32))
abbrev span : F .f32 := Named.named κ "span" 0x40000000#32
abbrev off : F .f32 := Named.named κ "off" 0xC0400000#32
def chunkU (k0 k1 base t0 : BitVec 32) : FVec F S1x8x512 .f32 := Spec.unif span off (Spec.bits k0 k1 (counters base t0))
/-- What the kernel stores at a augChunk. -/
def augChunk (k0 k1 base t0 : BitVec 32) (sc : FVec F S1x8x1 .f32) (sh : FVec F S1x8x512 .f32) : FVec F S1x8x512 .f32 :=
  mulf (broadcastTo S1x8x512 sc broadcasts_S1x8x1_S1x8x512)
    (addf sh (mulf (Spec.cst S1x8x512 0x3CA3D70A#32) (Spec.normal (Spec.logK (chunkU k0 k1 base t0)) (chunkU k0 k1 base t0))))

/-- One element of the output: scale `sc`, shifted element `sh`, counter `n`. -/
def augAt (k0 k1 : BitVec 32) (sc sh : F .f32) (n : BitVec 32) : F .f32 :=
  FloatOps.mulf sc (FloatOps.addf sh (FloatOps.mulf (Scalar.ofBits .f32 0x3CA3D70A#32) (Spec.noise span off k0 k1 n)))

/-- The counter of element `(r, t)` of the block at `i`. -/
def counter (i : grid0.Coords) (r t : ℕ) : BitVec 32 := BitVec.ofNat 32 ((((i 0).val * 64 + (i 1).val * 8) + r) * 4096 + t)

theorem chunk_at (i : grid0.Coords) (k0 k1 : BitVec 32) (t0 : ℕ) (sc : FVec F S1x8x1 .f32) (sh : FVec F S1x8x512 .f32) (x : S1x8x512.Idx) :
    augChunk k0 k1 (augRun.sl.v23 i) (BitVec.ofNat 32 t0) sc sh x
      = augAt k0 k1 (sc (ix3 (n0 := 1) (n1 := 8) (n2 := 1) 0 (x 1) 0)) (sh x) (counter i (x 1).val (t0 + (x 2).val)) := by
  have hb : broadcastTo S1x8x512 sc broadcasts_S1x8x1_S1x8x512 x = sc (ix3 (n0 := 1) (n1 := 8) (n2 := 1) 0 (x 1) 0) :=
    broadcastTo_apply _ _ _ _ (fun a => by
      match a with
      | ⟨0, _⟩ => rfl
      | ⟨1, _⟩ => rfl
      | ⟨2, _⟩ => rfl)
  have hn : counters (augRun.sl.v23 i) (BitVec.ofNat 32 t0) x = counter i (x 1).val (t0 + (x 2).val) := by
    have h1 : iota .tc S1x8x512 32 [1] iota_S1x8x512_d1_w32 x = BitVec.ofNat 32 (x 1).val := congrArg (BitVec.ofNat 32) (by
      show 0 * _ + (x 1).val = _
      rw [Nat.zero_mul, Nat.zero_add])
    have h2 : iota .tc S1x8x512 32 [2] iota_S1x8x512_d2_w32 x = BitVec.ofNat 32 (x 2).val := congrArg (BitVec.ofNat 32) (by
      show 0 * _ + (x 2).val = _
      rw [Nat.zero_mul, Nat.zero_add])
    have hv : augRun.sl.v23 i = (BitVec.ofNat 32 (i 0).val * 64#32 + BitVec.ofNat 32 (i 1).val * 8#32) * 4096#32 := rfl
    show (augRun.sl.v23 i + iota .tc S1x8x512 32 [1] iota_S1x8x512_d1_w32 x * 4096#32)
      + (BitVec.ofNat 32 t0 + iota .tc S1x8x512 32 [2] iota_S1x8x512_d2_w32 x) = _
    rw [h1, h2, hv]
    unfold counter
    apply BitVec.eq_of_toNat_eq
    simp only [BitVec.toNat_add, BitVec.toNat_mul, BitVec.toNat_ofNat]
    omega
  show FloatOps.mulf (broadcastTo S1x8x512 sc broadcasts_S1x8x1_S1x8x512 x) (FloatOps.addf (sh x) (FloatOps.mulf (Scalar.ofBits .f32 0x3CA3D70A#32)
    (Spec.normal (Spec.logK (chunkU k0 k1 (augRun.sl.v23 i) (BitVec.ofNat 32 t0))) (chunkU k0 k1 (augRun.sl.v23 i) (BitVec.ofNat 32 t0)) x))) = _
  rw [hb, Spec.normal_at, Spec.logK_at]
  unfold chunkU
  rw [Spec.unif_at, Spec.bits_at, hn]
  rfl

section Pieces
variable (c : Dev nD) (i : grid0.Coords) (M2 : Memref sig .tc .smem S32 .i32) (M3 : Memref sig .tc .smem S2 .i32)
  (M4 : Memref sig .tc .vmem S1x8x4096 .f32) (M5 : Memref sig .tc .vmem S1x8x1 .f32) (M7 : Memref sig .tc .vmem S1x8x4096 .f32)
  (f2 : Bf (F := F) c M2) (f3 : Bf (F := F) c M3) (f4 : Bf (F := F) c M4) (f5 : Bf (F := F) c M5)

/-- The store of the augChunk from `t0`. -/
def piece (t0 : ℕ) (h : ∀ a, (![0, 0, t0] : Fin 3 → ℕ) a + S1x8x512.size a ≤ S1x8x4096.size a) : View.Piece (Elt F) S1x8x4096 .f32 :=
  ⟨Rect.unit (s := S1x8x4096) ![0, 0, t0] S1x8x512.size h, augChunk (augRun.sl.r_1 c M3 f3) (augRun.sl.r_2 c M3 f3) (augRun.sl.v23 i) (BitVec.ofNat 32 t0) (augRun.sl.v19 c M5 f5)
    (M7.view.readCov (augRun.sl.H7_1 c i M2 M4 f2 f4) (Rect.unit (s := S1x8x4096) ![0, 0, t0] S1x8x512.size h).toLoadRect)⟩

section
attribute [local irreducible] addi xori ori shli shrui muli addf subf mulf broadcast iota maximumf log sqrt select cmpf bitcastToFloat broadcastTo View.readCov View.readAt
set_option maxHeartbeats 4000000
/-- The run's eight stores. -/
theorem stores_eq : augRun.sl.H6_8 c i M2 M3 M4 M5 M7 f2 f3 f4 f5 =
    [piece c i M2 M3 M4 M5 M7 f2 f3 f4 f5 3584 inb_S1x8x4096_S1x8x512_0_0_3584, piece c i M2 M3 M4 M5 M7 f2 f3 f4 f5 3072 inb_S1x8x4096_S1x8x512_0_0_3072,
     piece c i M2 M3 M4 M5 M7 f2 f3 f4 f5 2560 inb_S1x8x4096_S1x8x512_0_0_2560, piece c i M2 M3 M4 M5 M7 f2 f3 f4 f5 2048 inb_S1x8x4096_S1x8x512_0_0_2048,
     piece c i M2 M3 M4 M5 M7 f2 f3 f4 f5 1536 inb_S1x8x4096_S1x8x512_0_0_1536, piece c i M2 M3 M4 M5 M7 f2 f3 f4 f5 1024 inb_S1x8x4096_S1x8x512_0_0_1024,
     piece c i M2 M3 M4 M5 M7 f2 f3 f4 f5 512 inb_S1x8x4096_S1x8x512_0_0_512, piece c i M2 M3 M4 M5 M7 f2 f3 f4 f5 0 inb_S1x8x4096_S1x8x512_0_0_0] := by rfl
end

/-- The scratch row, read off the run: the block rolled by the shift, zero where the roll wrapped. -/
theorem scratch_eq : augRun.sl.H7_1 c i M2 M4 f2 f4 = [⟨Rect.unit ![0, 0, 0] S1x8x4096.size inb_S1x8x4096_S1x8x4096_0_0_0,
    k0_pay2 (F := F) (augRun.sl.r c i M2 f2) (M4.view.readAt (Elt F) (Rect.unit ![0, 0, 0] S1x8x4096.size inb_S1x8x4096_S1x8x4096_0_0_0).toLoadRect f4)⟩] := by rfl

/-- The block the kernel leaves. -/
def block (sh k0 k1 : BitVec 32) (X : FVec F S1x8x4096 .f32) (sc : FVec F S1x8x1 .f32) : FVec F S1x8x4096 .f32 := fun y =>
  augAt k0 k1 (sc (ix3 (n0 := 1) (n1 := 8) (n2 := 1) 0 (y 1) 0)) (k0_pay2 (F := F) sh X y) (counter i (y 1).val (y 2).val)

theorem piece_of (t0 : ℕ) (h) (x : S1x8x512.Idx) : (piece (F := F) c i M2 M3 M4 M5 M7 f2 f3 f4 f5 t0 h).2 x
    = block i (augRun.sl.r c i M2 f2) (augRun.sl.r_1 c M3 f3) (augRun.sl.r_2 c M3 f3)
        (M4.view.readAt (Elt F) (Rect.unit ![0, 0, 0] S1x8x4096.size inb_S1x8x4096_S1x8x4096_0_0_0).toLoadRect f4) (augRun.sl.v19 c M5 f5)
        ((Rect.unit (s := S1x8x4096) ![0, 0, t0] S1x8x512.size h).emb x) := by
  refine (chunk_at i _ _ t0 _ _ x).trans ?_
  have e1 : ((Rect.unit (s := S1x8x4096) ![0, 0, t0] S1x8x512.size h).emb x) 1 = x 1 := Fin.ext (show 0 + 1 * (x 1).val = (x 1).val by omega)
  have e2 : (((Rect.unit (s := S1x8x4096) ![0, 0, t0] S1x8x512.size h).emb x) 2).val = t0 + (x 2).val := show t0 + 1 * (x 2).val = _ by omega
  unfold block
  rw [e1, e2, scratch_eq, View.readCov_fill _ _ _ _ _ (fun a => by
    match a with
    | ⟨0, _⟩ => rfl
    | ⟨1, _⟩ => rfl
    | ⟨2, _⟩ => rfl)]
  rfl

theorem mem_piece (t0 : ℕ) (h) (y : S1x8x4096.Idx) (h1 : t0 ≤ (y 2).val) (h2 : (y 2).val < t0 + 512) :
    y ∈ (piece (F := F) c i M2 M3 M4 M5 M7 f2 f3 f4 f5 t0 h).1.set :=
  (Rect.mem_set_unit (s := S1x8x4096) (inb := h)).mpr fun a => by
    match a with
    | ⟨0, _⟩ => exact ⟨Nat.zero_le _, (Nat.zero_add 1).symm ▸ (y 0).isLt⟩
    | ⟨1, _⟩ => exact ⟨Nat.zero_le _, (Nat.zero_add 8).symm ▸ (y 1).isLt⟩
    | ⟨2, _⟩ => exact ⟨h1, h2⟩

/-- What the run leaves in the output block. -/
theorem out_eq (M6 : Memref sig .tc .vmem S1x8x4096 .f32) :
    M6.view.read (Elt F) (M6.view.writes (Elt F) M6.view.junk (augRun.sl.H6_8 c i M2 M3 M4 M5 M7 f2 f3 f4 f5))
      = block i (augRun.sl.r c i M2 f2) (augRun.sl.r_1 c M3 f3) (augRun.sl.r_2 c M3 f3)
        (M4.view.readAt (Elt F) (Rect.unit ![0, 0, 0] S1x8x4096.size inb_S1x8x4096_S1x8x4096_0_0_0).toLoadRect f4) (augRun.sl.v19 c M5 f5) := by
  funext y
  rw [stores_eq]
  refine View.read_writes_apply_of_pieces _ _ _ _ ?_ y ?_
  · refine View.PiecesOf.mem ⟨?_, ?_, ?_, ?_, ?_, ?_, ?_, ?_, trivial⟩ <;> exact fun x => piece_of c i M2 M3 M4 M5 M7 f2 f3 f4 f5 _ _ x
  · have hy : (y 2).val < 4096 := (y 2).isLt
    rcases Nat.lt_or_ge (y 2).val 512 with h | h0
    · exact ⟨_, .tail _ (.tail _ (.tail _ (.tail _ (.tail _ (.tail _ (.tail _ (.head _))))))), mem_piece c i M2 M3 M4 M5 M7 f2 f3 f4 f5 0 _ y (by omega) (by omega)⟩
    rcases Nat.lt_or_ge (y 2).val 1024 with h | h1
    · exact ⟨_, .tail _ (.tail _ (.tail _ (.tail _ (.tail _ (.tail _ (.head _)))))), mem_piece c i M2 M3 M4 M5 M7 f2 f3 f4 f5 512 _ y (by omega) (by omega)⟩
    rcases Nat.lt_or_ge (y 2).val 1536 with h | h2
    · exact ⟨_, .tail _ (.tail _ (.tail _ (.tail _ (.tail _ (.head _))))), mem_piece c i M2 M3 M4 M5 M7 f2 f3 f4 f5 1024 _ y (by omega) (by omega)⟩
    rcases Nat.lt_or_ge (y 2).val 2048 with h | h3
    · exact ⟨_, .tail _ (.tail _ (.tail _ (.tail _ (.head _)))), mem_piece c i M2 M3 M4 M5 M7 f2 f3 f4 f5 1536 _ y (by omega) (by omega)⟩
    rcases Nat.lt_or_ge (y 2).val 2560 with h | h4
    · exact ⟨_, .tail _ (.tail _ (.tail _ (.head _))), mem_piece c i M2 M3 M4 M5 M7 f2 f3 f4 f5 2048 _ y (by omega) (by omega)⟩
    rcases Nat.lt_or_ge (y 2).val 3072 with h | h5
    · exact ⟨_, .tail _ (.tail _ (.head _)), mem_piece c i M2 M3 M4 M5 M7 f2 f3 f4 f5 2560 _ y (by omega) (by omega)⟩
    rcases Nat.lt_or_ge (y 2).val 3584 with h | h6
    · exact ⟨_, .tail _ (.head _), mem_piece c i M2 M3 M4 M5 M7 f2 f3 f4 f5 3072 _ y (by omega) (by omega)⟩
    exact ⟨_, .head _, mem_piece c i M2 M3 M4 M5 M7 f2 f3 f4 f5 3584 _ y (by omega) (by omega)⟩

end Pieces
end Cert.Proof.TileIdeal
end
-- ==== Proof.AugMade.lean ====
/-
  The array that the TensorCore kernel leaves, element by element: each block at its place, over the arrays it was
  fetched from.
-/
module

public import proofs.«01_k».proof.Proof.AugRegion
public import proofs.«01_k».proof.Proof.AugVal
public import Idealize.ShloMosaic.Lib.KernelVsHost
public import Idealize.ShloMosaic.Lib.Pipeline.Covers

@[expose] public section

set_option maxRecDepth 16384

noncomputable section

namespace Cert.Proof.TileIdeal

open Cert.KernelIdeal Cert.KernelIdeal.Gen

open Idealize.ShloMosaic
open Idealize.ShloMosaic.TcCoe Idealize.ShloMosaic.Tactic
open Idealize.ShloMosaic.SparseCore (S V T)
open Idealize.ShloMosaic.Pipeline (Dat Cfg Window BodyObligation)

/-! ## A row shifted, zero where the source is outside it -/

/-- A shift of at most 64 either way. -/
def Near (sh : BitVec 32) : Prop := -64 ≤ sh.toInt ∧ sh.toInt ≤ 64

/-- Element `t` of the row shifted by `sh`: element `t - sh`, or `z` where there is none. -/
def rollZ {α : Type} (z : α) (sh : BitVec 32) (row : Fin 4096 → α) (t : Fin 4096) : α :=
  if 0 ≤ (t.val : ℤ) - sh.toInt ∧ (t.val : ℤ) - sh.toInt < 4096 then row ⟨((t.val : ℤ) - sh.toInt).toNat % 4096, Nat.mod_lt _ (by decide)⟩ else z

theorem andi_bool (p q : Bool) : IntOp.andi (BitVec.ofBool p) (BitVec.ofBool q) = BitVec.ofBool (p && q) := by
  cases p <;> cases q <;> decide
theorem sel_bool {α : Type} (p : Bool) (a b : α) : Scalar.select (BitVec.ofBool p) a b = if p = true then a else b := by
  cases p <;> rfl

section
variable {F : FTy → Type} [FloatOps F] [Named F]

theorem pay2_at (sh : BitVec 32) (X : FVec F S1x8x4096 .f32) (y : S1x8x4096.Idx) (h : Near sh) :
    k0_pay2 (F := F) sh X y = rollZ (Scalar.ofBits .f32 0x00000000#32) sh (fun s => X (ix3 (n0 := 1) (n1 := 8) (n2 := 4096) 0 (y 1) s)) (y 2) := by
  have h2 : (y 2).val < 4096 := (y 2).isLt
  obtain ⟨ha, hb⟩ := h
  have hsh := BitVec.toInt_eq_toNat_cond sh
  have hlt := sh.isLt
  unfold k0_pay2
  dsimp only []
  rw [shapeCast_self]
  change Scalar.select (IntOp.andi (IntOp.cmpi .sge (iota .tc S1x8x4096 32 [2] _ y) sh) (IntOp.cmpi .slt (iota .tc S1x8x4096 32 [2] _ y) (4096#32 + sh)))
    (dynamicRotate 2 sh none X _ y) (Scalar.ofBits .f32 0x00000000#32) = _
  rw [iota_single_apply]
  rw [dynamicRotate_apply (s := S1x8x4096) 2 sh X _ y (ix3 (n0 := 1) (n1 := 8) (n2 := 4096) 0 (y 1) ⟨((y 2).val + 4096 - sh.toNat % 4096) % 4096, Nat.mod_lt _ (by decide)⟩) (fun b => by
    match b with
    | ⟨0, _⟩ => exact (show (0 : ℕ) = (y 0).val from by have : (y 0).val < 1 := (y 0).isLt; omega)
    | ⟨1, _⟩ => rfl
    | ⟨2, _⟩ => rfl)]
  have ht : (BitVec.ofNat 32 (y 2).val).toInt = (y 2).val := by
    rw [BitVec.toInt_eq_toNat_cond, BitVec.toNat_ofNat]; simp only [Nat.reducePow]; omega
  have hs : (4096#32 + sh).toInt = 4096 + sh.toInt := by
    rw [BitVec.toInt_eq_toNat_cond, BitVec.toNat_add, BitVec.toNat_ofNat]; simp only [Nat.reducePow, Nat.reduceMod]; split <;> split at hsh <;> omega
  simp only [IntOp.cmpi, andi_bool, sel_bool, BitVec.sle_eq_decide, BitVec.slt_eq_decide, Bool.and_eq_true, decide_eq_true_eq, ht, hs]
  unfold rollZ
  by_cases c : sh.toInt ≤ ((y 2).val : ℤ) ∧ ((y 2).val : ℤ) < 4096 + sh.toInt
  · rw [if_pos c, if_pos (by omega)]
    refine congrArg (fun s : Fin 4096 => X (ix3 (n0 := 1) (n1 := 8) (n2 := 4096) 0 (y 1) s)) (Fin.ext ?_)
    change ((y 2).val + 4096 - sh.toNat % 4096) % 4096 = (((y 2).val : ℤ) - sh.toInt).toNat % 4096
    split at hsh <;> omega
  · rw [if_neg c, if_neg (by omega)]
end

/-! ## The windows' places -/

section Places
variable {F : FTy → Type} [FloatOps F] [Named F]
variable (t : Fin cfg0.N)

/-- The grid point's two coordinates. -/
abbrev gi (t : Fin cfg0.N) : Fin 32 := (grid0.coords t) 0
abbrev gj (t : Fin cfg0.N) : Fin 8 := (grid0.coords t) 1

theorem gi_lt : (gi t).val < 32 := (gi t).isLt
theorem gj_lt : (gj t).val < 8 := (gj t).isLt
theorem nat_i : (BitVec.ofNat 32 (gi t).val).toNat = (gi t).val := by
  have := gi_lt t; rw [BitVec.toNat_ofNat]; exact Nat.mod_eq_of_lt (by omega)
theorem nat_j : (BitVec.ofNat 32 (gj t).val).toNat = (gj t).val := by
  have := gj_lt t; rw [BitVec.toNat_ofNat]; exact Nat.mod_eq_of_lt (by omega)

theorem emb_0 (j : S32.Idx) : ((cfg0.win 0).blk t).view.emb j = j := by
  funext a; apply Fin.ext
  match a with
  | ⟨0, _⟩ => show 0 * 32 + 1 * (j 0).val = (j 0).val; omega
theorem emb_1 (j : S2.Idx) : ((cfg0.win 1).blk t).view.emb j = j := by
  funext a; apply Fin.ext
  match a with
  | ⟨0, _⟩ => show 0 * 2 + 1 * (j 0).val = (j 0).val; omega

/-- Row `r` of the block is channel `8 j + r`. -/
def chan (r : Fin 8) : Fin 64 := ⟨(gj t).val * 8 + r.val, by have := gj_lt t; omega⟩

theorem emb_2 (j : S1x8x4096.Idx) : ((cfg0.win 2).blk t).view.emb j = ix3 (n0 := 32) (n1 := 64) (n2 := 4096) (gi t) (chan t (j 1)) (j 2) := by
  funext a; apply Fin.ext
  match a with
  | ⟨0, _⟩ => show (BitVec.ofNat 32 (gi t).val).toNat * 1 + 1 * (j 0).val = (gi t).val; rw [nat_i]; have : (j 0).val < 1 := (j 0).isLt; omega
  | ⟨1, _⟩ => show (BitVec.ofNat 32 (gj t).val).toNat * 8 + 1 * (j 1).val = (gj t).val * 8 + (j 1).val; rw [nat_j]; omega
  | ⟨2, _⟩ => show 0 * 4096 + 1 * (j 2).val = (j 2).val; omega
theorem emb_3 (j : S1x8x1.Idx) : ((cfg0.win 3).blk t).view.emb j = ix3 (n0 := 32) (n1 := 64) (n2 := 1) (gi t) (chan t (j 1)) 0 := by
  funext a; apply Fin.ext
  match a with
  | ⟨0, _⟩ => show (BitVec.ofNat 32 (gi t).val).toNat * 1 + 1 * (j 0).val = (gi t).val; rw [nat_i]; have : (j 0).val < 1 := (j 0).isLt; omega
  | ⟨1, _⟩ => show (BitVec.ofNat 32 (gj t).val).toNat * 8 + 1 * (j 1).val = (gj t).val * 8 + (j 1).val; rw [nat_j]; omega
  | ⟨2, _⟩ => show 0 * 1 + 1 * (j 2).val = 0; have : (j 2).val < 1 := (j 2).isLt; omega
theorem emb_4 (j : S1x8x4096.Idx) : ((cfg0.win 4).blk t).view.emb j = ix3 (n0 := 32) (n1 := 64) (n2 := 4096) (gi t) (chan t (j 1)) (j 2) := by
  funext a; apply Fin.ext
  match a with
  | ⟨0, _⟩ => show (BitVec.ofNat 32 (gi t).val).toNat * 1 + 1 * (j 0).val = (gi t).val; rw [nat_i]; have : (j 0).val < 1 := (j 0).isLt; omega
  | ⟨1, _⟩ => show (BitVec.ofNat 32 (gj t).val).toNat * 8 + 1 * (j 1).val = (gj t).val * 8 + (j 1).val; rw [nat_j]; omega
  | ⟨2, _⟩ => show 0 * 4096 + 1 * (j 2).val = (j 2).val; omega

/-- Every element is in some point's block. -/
theorem covered (y : S32x64x4096.Idx) : ∃ t : Fin cfg0.N, (cfg0.win 4).flush t = true ∧ y ∈ ((cfg0.win 4).blk t).view.set := by
  have h1 : (y 1).val < 64 := (y 1).isLt
  obtain ⟨t, ht⟩ := Pipeline.Grid.coords_surjective grid0 (fun a => match a with | ⟨0, _⟩ => y 0 | ⟨1, _⟩ => ⟨(y 1).val / 8, by show (y 1).val / 8 < 8; omega⟩)
  have hi : gi t = y 0 := congrFun ht 0
  have hj : (gj t).val = (y 1).val / 8 := congrArg Fin.val (congrFun ht 1)
  refine ⟨t, flush0_4 t, ?_⟩
  have h := ((cfg0.win 4).blk t).view.emb_mem_set (ix3 (n0 := 1) (n1 := 8) (n2 := 4096) 0 ⟨(y 1).val % 8, Nat.mod_lt _ (by decide)⟩ (y 2))
  rw [emb_4] at h
  have e : ix3 (n0 := 32) (n1 := 64) (n2 := 4096) (gi t) (chan t ⟨(y 1).val % 8, Nat.mod_lt _ (by decide)⟩) (y 2) = y := by
    funext a
    match a with
    | ⟨0, _⟩ => exact hi
    | ⟨1, _⟩ => exact Fin.ext (by show (gj t).val * 8 + (y 1).val % 8 = (y 1).val; omega)
    | ⟨2, _⟩ => rfl
  exact e ▸ h

variable (W : (c : Dev nD) → (b : Ref sig .tc) → Buf (Elt F) ((c : Thread nD τ).loc b)) (c : Dev nD)

theorem blk_0 : blkAt W c 0 t = (W c main_arg2 : IVec S32 32) := by
  funext j; show W c main_arg2 (((cfg0.win 0).blk t).view.emb j) = _; rw [emb_0]
theorem blk_1 : blkAt W c 1 t = (W c main_v12 : IVec S2 32) := by
  funext j; show W c main_v12 (((cfg0.win 1).blk t).view.emb j) = _; rw [emb_1]
theorem blk_2 (j : S1x8x4096.Idx) : blkAt W c 2 t j = (W c main_arg0 : FVec F S32x64x4096 .f32) (ix3 (n0 := 32) (n1 := 64) (n2 := 4096) (gi t) (chan t (j 1)) (j 2)) := by
  show W c main_arg0 (((cfg0.win 2).blk t).view.emb j) = _; rw [emb_2]
theorem blk_3 (j : S1x8x1.Idx) : blkAt W c 3 t j = (W c main_v11 : FVec F S32x64x1 .f32) (ix3 (n0 := 32) (n1 := 64) (n2 := 1) (gi t) (chan t (j 1)) 0) := by
  show W c main_v11 (((cfg0.win 3).blk t).view.emb j) = _; rw [emb_3]
end Places

/-! ## The array -/

section Made
variable (W : (c : Dev nD) → (b : Ref sig .tc) → Buf (Elt Ideal) ((c : Thread nD τ).loc b)) (c : Dev nD)

/-- What the kernel leaves, element by element, from the arrays it reads. -/
def augK (x : FVec Ideal S32x64x4096 .f32) (sh : IVec S32 32) (kn : IVec S2 32) (sc : FVec Ideal S32x64x1 .f32) : FVec Ideal S32x64x4096 .f32 := fun y =>
  augAt (kn (ix1 (n0 := 2) 0)) (kn (ix1 (n0 := 2) 1)) (sc (ix3 (n0 := 32) (n1 := 64) (n2 := 1) (y 0) (y 1) 0))
    (rollZ (Scalar.ofBits .f32 0x00000000#32) (sh (ix1 (n0 := 32) (y 0))) (fun s => x (ix3 (n0 := 32) (n1 := 64) (n2 := 4096) (y 0) (y 1) s)) (y 2))
    (BitVec.ofNat 32 (((y 0).val * 64 + (y 1).val) * 4096 + (y 2).val))

theorem readAt_unread {sp : Space} {S : Shape} {e : EltTy} (M : Memref sig .tc sp S e) (h : M.IsWhole) (X : S.Idx → Elt Ideal e) (r : Rect S) (x : r.shape.Idx) :
    M.view.readAt (Elt Ideal) r.toLoadRect (h.unread X) x = X (r.emb x) := by
  rw [View.readAt_apply, h.read_unread]; rfl

theorem left_eq (t : Fin cfg0.N) (hs : ∀ b, Near ((W c main_arg2 : IVec S32 32) b)) (j : S1x8x4096.Idx) :
    left W c t j = augK (W c main_arg0) (W c main_arg2) (W c main_v12) (W c main_v11) (ix3 (n0 := 32) (n1 := 64) (n2 := 4096) (gi t) (chan t (j 1)) (j 2)) := by
  have e0 : augRun.sl.r c (grid0.coords t) (st0_0 t) (held0 W c t) = (W c main_arg2 : IVec S32 32) (ix1 (n0 := 32) (gi t)) := by
    unfold augRun.sl.r
    rw [readAt_unread, blk_0]
    refine congrArg (W c main_arg2 : IVec S32 32) (funext fun a => Fin.ext ?_)
    match a with
    | ⟨0, _⟩ => exact (show (BitVec.ofNat 32 (gi t).val).toNat + 1 * 0 = (gi t).val by rw [nat_i, Nat.mul_zero, Nat.add_zero])
  have e1 : augRun.sl.r_1 c (st0_1 t) (held1 W c t) = (W c main_v12 : IVec S2 32) (ix1 (n0 := 2) 0) := by
    unfold augRun.sl.r_1
    rw [readAt_unread, blk_1]
    refine congrArg (W c main_v12 : IVec S2 32) (funext fun a => Fin.ext ?_)
    match a with
    | ⟨0, _⟩ => rfl
  have e2 : augRun.sl.r_2 c (st0_1 t) (held1 W c t) = (W c main_v12 : IVec S2 32) (ix1 (n0 := 2) 1) := by
    unfold augRun.sl.r_2
    rw [readAt_unread, blk_1]
    refine congrArg (W c main_v12 : IVec S2 32) (funext fun a => Fin.ext ?_)
    match a with
    | ⟨0, _⟩ => rfl
  have e3 : ∀ x : S1x8x4096.Idx, (st0_2 t).view.readAt (Elt Ideal) (Rect.unit ![0, 0, 0] S1x8x4096.size inb_S1x8x4096_S1x8x4096_0_0_0).toLoadRect (held2 W c t) x
      = (W c main_arg0 : FVec Ideal S32x64x4096 .f32) (ix3 (n0 := 32) (n1 := 64) (n2 := 4096) (gi t) (chan t (x 1)) (x 2)) := fun x => by
    rw [readAt_unread, blk_2]
    refine congrArg (W c main_arg0 : FVec Ideal S32x64x4096 .f32) (funext fun a => Fin.ext ?_)
    match a with
    | ⟨0, _⟩ => rfl
    | ⟨1, _⟩ => exact (show (gj t).val * 8 + (0 + 1 * (x 1).val) = (gj t).val * 8 + (x 1).val by omega)
    | ⟨2, _⟩ => exact (show 0 + 1 * (x 2).val = (x 2).val by omega)
  have e4 : ∀ x : S1x8x1.Idx, augRun.sl.v19 c (st0_3 t) (held3 W c t) x
      = (W c main_v11 : FVec Ideal S32x64x1 .f32) (ix3 (n0 := 32) (n1 := 64) (n2 := 1) (gi t) (chan t (x 1)) 0) := fun x => by
    unfold augRun.sl.v19
    rw [shapeCast_self, readAt_unread, blk_3]
    refine congrArg (W c main_v11 : FVec Ideal S32x64x1 .f32) (funext fun a => Fin.ext ?_)
    match a with
    | ⟨0, _⟩ => rfl
    | ⟨1, _⟩ => exact (show (gj t).val * 8 + (0 + 1 * (x 1).val) = (gj t).val * 8 + (x 1).val by omega)
    | ⟨2, _⟩ => rfl
  unfold left
  rw [out_eq]
  unfold block augK
  rw [pay2_at _ _ _ (by rw [e0]; exact hs _), e0, e1, e2, e4]
  have e5 : (fun s : Fin 4096 => (st0_2 t).view.readAt (Elt Ideal) (Rect.unit ![0, 0, 0] S1x8x4096.size inb_S1x8x4096_S1x8x4096_0_0_0).toLoadRect (held2 W c t)
        (ix3 (n0 := 1) (n1 := 8) (n2 := 4096) 0 (j 1) s))
      = fun s => (W c main_arg0 : FVec Ideal S32x64x4096 .f32) (ix3 (n0 := 32) (n1 := 64) (n2 := 4096) (gi t) (chan t (j 1)) s) := funext fun s => e3 _
  rw [e5]
  unfold counter
  have e6 : (((gi t).val * 64 + (gj t).val * 8) + (j 1).val) * 4096 + (j 2).val = ((gi t).val * 64 + ((gj t).val * 8 + (j 1).val)) * 4096 + (j 2).val := by omega
  exact congrArg (fun n => augAt _ _ _ _ (BitVec.ofNat 32 n)) e6

theorem made_eq (hs : ∀ b, Near ((W c main_arg2 : IVec S32 32) b)) :
    made W c = augK (W c main_arg0) (W c main_arg2) (W c main_v12) (W c main_v11) :=
  (dat W c).arrAt_eq_of_cover 4 (augK (W c main_arg0) (W c main_arg2) (W c main_v12) (W c main_v11)) (fun t _ => funext fun j => by
    show left W c t j = augK (W c main_arg0) (W c main_arg2) (W c main_v12) (W c main_v11) (((cfg0.win 4).blk t).view.emb j)
    rw [emb_4]; exact left_eq W c t hs j) covered

end Made

end Cert.Proof.TileIdeal
end
-- ==== Proof.RefLine.lean ====
/-
  A straight line of host operations that each write the next buffer and read earlier ones. After such a line every
  operation's own equation holds of the final contents: its result is its function of what its operands hold in the end.
-/
module

public import proofs.«01_k».proof.Proof.Gen.ReferenceIdeal
public import Idealize.ShloMosaic.Lib.StableHlo.Run

@[expose] public section

set_option maxRecDepth 16384

noncomputable section

namespace Cert.Proof.RefRun

open Cert.ReferenceIdeal Cert.ReferenceIdeal.Gen
open Idealize.ShloMosaic Idealize.ShloMosaic.TcCoe Idealize.SL.Sem Idealize.ShloMosaic.StableHlo

variable {F : FTy → Type} [FloatOps F]

/-- A reference as a buffer of the device. -/
abbrev at_ (r : Ref sig .tc) : DevRef τ sig := Proc.devRef .tc r

/-- The operation's own equation holds of the contents `V`. -/
def Holds (V : Valuation τ sig (Elt F)) (op : HloOp τ sig (Elt F)) : Prop := ∀ b ∈ op.writes, V b = op.result V b

/-- The operation writes buffer `n` alone, determines it, and reads only buffers before it. -/
structure Ok (n : ℕ) (op : HloOp τ sig (Elt F)) : Prop where
  writes : ∃ y : Ref sig .tc, op.writes = {at_ y} ∧ y.idx.val = n
  reads : ∀ V V' : Valuation τ sig (Elt F), (∀ r : Ref sig .tc, r.idx.val < n → V (at_ r) = V' (at_ r)) → ∀ b ∈ op.writes, op.result V b = op.result V' b
  sub : op.bufs ⊆ tcRefs τ sig
  fresh : op.fresh = ∅

/-- The line's operations write buffers `n`, `n + 1`, … in order. -/
def Line : ℕ → List (HloOp τ sig (Elt F)) → Prop
  | _, [] => True
  | n, op :: l => Ok n op ∧ Line (n + 1) l

theorem Line.append {l l' : List (HloOp τ sig (Elt F))} : ∀ {n : ℕ} (k : ℕ), Line n l → l.length = k → Line (n + k) l' → Line n (l ++ l') := by
  induction l with
  | nil => intro n k _ hk h'; subst hk; exact h'
  | cons op l ih =>
    intro n k h hk h'
    refine ⟨h.1, ih l.length h.2 rfl ?_⟩
    subst hk
    rw [show n + 1 + l.length = n + (op :: l).length from by rw [List.length_cons]; omega]
    exact h'

theorem Line.all {l : List (HloOp τ sig (Elt F))} : ∀ {n : ℕ}, Line n l → ∀ op ∈ l, op.bufs ⊆ tcRefs τ sig ∧ op.fresh = ∅ := by
  induction l with
  | nil => intro n _ op ho; cases ho
  | cons o l ih =>
    intro n h op ho
    rcases List.mem_cons.mp ho with rfl | ho
    · exact ⟨h.1.sub, h.1.fresh⟩
    · exact ih h.2 op ho

/-- A buffer before the line's first keeps its contents. -/
theorem Line.keep {l : List (HloOp τ sig (Elt F))} : ∀ {n : ℕ}, Line n l → ∀ (V : Valuation τ sig (Elt F)) (r : Ref sig .tc), r.idx.val < n → after l V (at_ r) = V (at_ r) := by
  induction l with
  | nil => intro n _ V r _; rfl
  | cons op l ih =>
    intro n h V r hr
    refine (ih h.2 (op.result V) r (Nat.lt_succ_of_lt hr)).trans (op.result_of_not_mem V fun hb => ?_)
    obtain ⟨y, hw, hy⟩ := h.1.writes
    rw [hw] at hb
    have := Proc.devRef_injective _ (Finset.mem_singleton.mp hb)
    rw [this] at hr
    omega

/-- After the line every operation's equation holds of the final contents. -/
theorem Line.holds {l : List (HloOp τ sig (Elt F))} : ∀ {n : ℕ}, Line n l → ∀ V : Valuation τ sig (Elt F), ∀ op ∈ l, Holds (after l V) op := by
  induction l with
  | nil => intro n _ V op ho; cases ho
  | cons o l ih =>
    intro n h V op ho
    rcases List.mem_cons.mp ho with rfl | ho
    · intro b hb
      obtain ⟨y, hw, hy⟩ := h.1.writes
      have e : b = at_ y := by rw [hw] at hb; exact Finset.mem_singleton.mp hb
      have e1 : after l (op.result V) b = op.result V b := by subst e; exact h.2.keep _ _ (by omega)
      refine e1.trans (h.1.reads _ _ (fun r hr => ?_) b hb)
      refine ((h.2.keep (op.result V) r (Nat.lt_succ_of_lt hr)).trans (op.result_of_not_mem V fun hc => ?_)).symm
      rw [hw] at hc
      have := Proc.devRef_injective _ (Finset.mem_singleton.mp hc)
      rw [this] at hr
      omega
    · exact ih h.2 _ op ho

section Ops
variable {n : ℕ} {x y a b c : Ref sig .tc}

theorem Ok.nullary {v : y.ty.Contents (Elt F)} {hy} (wy : y.idx.val = n) : Ok n (StableHlo.nullary (τ := τ) y v hy) where
  writes := ⟨y, rfl, wy⟩
  reads V V' _ d hd := by cases Finset.mem_singleton.mp hd; rw [nullary_result, nullary_result]
  sub := nullary_bufs_sub ..
  fresh := rfl
theorem Ok.unary {f : x.ty.Contents (Elt F) → y.ty.Contents (Elt F)} {hx hy} (wy : y.idx.val = n) (wx : x.idx.val < n) :
    Ok n (StableHlo.unary (τ := τ) x y f hx hy) where
  writes := ⟨y, rfl, wy⟩
  reads V V' h d hd := by cases Finset.mem_singleton.mp hd; rw [unary_result, unary_result]; exact congrArg f (h x wx)
  sub := unary_bufs_sub ..
  fresh := rfl
theorem Ok.binary {f : a.ty.Contents (Elt F) → b.ty.Contents (Elt F) → y.ty.Contents (Elt F)} {ha hb hy} (wy : y.idx.val = n)
    (wa : a.idx.val < n) (wb : b.idx.val < n) : Ok n (StableHlo.binary (τ := τ) a b y f ha hb hy) where
  writes := ⟨y, rfl, wy⟩
  reads V V' h d hd := by cases Finset.mem_singleton.mp hd; rw [binary_result, binary_result]; exact congrArg₂ f (h a wa) (h b wb)
  sub := binary_bufs_sub ..
  fresh := rfl
theorem Ok.ternary {f : c.ty.Contents (Elt F) → a.ty.Contents (Elt F) → b.ty.Contents (Elt F) → y.ty.Contents (Elt F)} {hc ha hb hy}
    (wy : y.idx.val = n) (wc : c.idx.val < n) (wa : a.idx.val < n) (wb : b.idx.val < n) :
    Ok n (StableHlo.ternary (τ := τ) c a b y f hc ha hb hy) where
  writes := ⟨y, rfl, wy⟩
  reads V V' h d hd := by
    cases Finset.mem_singleton.mp hd; rw [ternary_result, ternary_result]
    have hc := h c wc
    have ha := h a wa
    have hb := h b wb
    unfold at_ at hc ha hb
    rw [hc, ha, hb]
  sub := ternary_bufs_sub ..
  fresh := rfl
theorem Ok.reshape {he hn hx hy} (wy : y.idx.val = n) (wx : x.idx.val < n) :
    Ok n (StableHlo.reshape (τ := τ) (Val := Elt F) x y he hn hx hy) where
  writes := ⟨y, rfl, wy⟩
  reads V V' h d hd := by
    cases Finset.mem_singleton.mp hd; rw [reshape_result, reshape_result]
    have hx := h x wx
    unfold at_ at hx
    rw [hx]
  sub := reshape_bufs_sub ..
  fresh := rfl

variable {V : Valuation τ sig (Elt F)}

theorem Holds.nullary' {v : y.ty.Contents (Elt F)} {hy} (h : Holds V (StableHlo.nullary (τ := τ) y v hy)) : V (at_ y) = v :=
  (h _ (Finset.mem_singleton_self _)).trans (nullary_result ..)
theorem Holds.unary' {f : x.ty.Contents (Elt F) → y.ty.Contents (Elt F)} {hx hy} (h : Holds V (StableHlo.unary (τ := τ) x y f hx hy)) :
    V (at_ y) = f (V (at_ x)) := (h _ (Finset.mem_singleton_self _)).trans (unary_result ..)
theorem Holds.binary' {f : a.ty.Contents (Elt F) → b.ty.Contents (Elt F) → y.ty.Contents (Elt F)} {ha hb hy}
    (h : Holds V (StableHlo.binary (τ := τ) a b y f ha hb hy)) :
    V (at_ y) = f (V (at_ a)) (V (at_ b)) := (h _ (Finset.mem_singleton_self _)).trans (binary_result ..)
end Ops

section TOps
variable {T Tx Ty Ta Tb Tc : BufTy} {V : Valuation τ sig (Elt F)}

/-- What a typed reference holds. -/
def rd (V : Valuation τ sig (Elt F)) (x : TRef sig T) : T.Contents (Elt F) := x.ofBuf (V (at_ x.ref))

variable {x : TRef sig Tx} {y : TRef sig Ty} {a : TRef sig Ta} {b : TRef sig Tb} {c : TRef sig Tc}

theorem Holds.nullary {v : Ty.Contents (Elt F)} (h : Holds V (TRef.nullary y v)) : rd V y = v := by
  obtain ⟨ry, ey, _, _⟩ := y; subst ey; exact (h _ (Finset.mem_singleton_self _)).trans (nullary_result ..)
theorem Holds.unary {f : Tx.Contents (Elt F) → Ty.Contents (Elt F)} (h : Holds V (TRef.unary x y f)) : rd V y = f (rd V x) := by
  obtain ⟨ry, ey, _, _⟩ := y; obtain ⟨rx, ex, _, _⟩ := x; subst ey ex
  exact (h _ (Finset.mem_singleton_self _)).trans (unary_result ..)
theorem Holds.binary {f : Ta.Contents (Elt F) → Tb.Contents (Elt F) → Ty.Contents (Elt F)} (h : Holds V (TRef.binary a b y f)) :
    rd V y = f (rd V a) (rd V b) := by
  obtain ⟨ry, ey, _, _⟩ := y; obtain ⟨ra, ea, _, _⟩ := a; obtain ⟨rb, eb, _, _⟩ := b; subst ey ea eb
  exact (h _ (Finset.mem_singleton_self _)).trans (binary_result ..)
theorem Holds.ternary {f : Tc.Contents (Elt F) → Ta.Contents (Elt F) → Tb.Contents (Elt F) → Ty.Contents (Elt F)}
    (h : Holds V (TRef.ternary c a b y f)) : rd V y = f (rd V c) (rd V a) (rd V b) := by
  obtain ⟨ry, ey, _, _⟩ := y; obtain ⟨ra, ea, _, _⟩ := a; obtain ⟨rb, eb, _, _⟩ := b; obtain ⟨rc, ec, _, _⟩ := c; subst ey ea eb ec
  exact (h _ (Finset.mem_singleton_self _)).trans (ternary_result ..)
theorem cast_elt {e e' : EltTy} (h : e = e') (v : Elt F e) : (h ▸ v : Elt F e') = cast (congrArg (Elt F) h) v := by subst h; rfl
theorem Holds.reshape {he : Tx.elt = Ty.elt} {hn : Tx.shape.ShapeCasts Ty.shape} (h : Holds V (TRef.reshape x y he hn)) :
    rd V y = fun i => cast (congrArg (Elt F) he) (shapeCast Ty.shape (rd V x) hn i) := by
  obtain ⟨ry, ey, _, _⟩ := y; obtain ⟨rx, ex, _, _⟩ := x; subst ey ex
  refine (h _ (Finset.mem_singleton_self _)).trans ((reshape_result ..).trans ?_)
  funext i
  exact cast_elt _ _
end TOps

section Seq
variable {Λ : Labels}
/-- A program of the device's own. -/
abbrev Pg (F : FTy → Type) (Λ : Labels) : Type 1 := Prog (TpuEff nD τ sig (Elt F) Λ .tc) PUnit

theorem seq_step {op : HloOp τ sig (Elt F)} {k : Pg F Λ} {l : List (HloOp τ sig (Elt F))} (h : k = seq l) : ((hlo rfl op fun _ => .ret (⟨⟩ : PUnit)) >>= fun _ => k) = seq (op :: l) := by
  subst h; rfl
theorem seq_last {op : HloOp τ sig (Elt F)} : ((hlo rfl op fun _ => .ret (⟨⟩ : PUnit)) : Pg F Λ) = seq [op] := rfl
theorem seq_then {p k : Pg F Λ} {l l' : List (HloOp τ sig (Elt F))} (hp : p = seq l) (h : k = seq l') : (p >>= fun _ => k) = seq (l ++ l') := by
  subst hp h; exact (seq_append l l').symm
end Seq

end Cert.Proof.RefRun
end
-- ==== Proof.RefOps.lean ====
/-
  The reference's operations in order, one list per function it calls and one per stretch of @main, and the run: every
  buffer ends at what the line of all of them leaves.
-/
module

public import proofs.«01_k».proof.Proof.RefLine

@[expose] public section

set_option maxRecDepth 16384

noncomputable section

namespace Cert.Proof.RefRun

open Cert.ReferenceIdeal Cert.ReferenceIdeal.Gen
open Idealize.ShloMosaic Idealize.ShloMosaic.TcCoe Idealize.SL.Sem Idealize.ShloMosaic.StableHlo

variable {F : FTy → Type} [FloatOps F]

/-- The reference's programs. -/
abbrev Pr (F : FTy → Type) [FloatOps F] : Type 1 := Pg F (Pipeline.Sig Λ₀ (Fin 0) fun p => (pcfgs (F := F) p).Adm)

/-- A program with the list of operations it is the line of. -/
structure LineOf (p : Pr F) where
  ops : List (HloOp τ sig (Elt F))
  eq : p = seq ops

def LineOf.step {op : HloOp τ sig (Elt F)} {k : Pr F} (l : LineOf k) : LineOf ((hlo rfl op fun _ => .ret (⟨⟩ : PUnit)) >>= fun _ => k) := ⟨op :: l.ops, seq_step l.eq⟩
def LineOf.last {op : HloOp τ sig (Elt F)} : LineOf (F := F) (hlo rfl op fun _ => .ret (⟨⟩ : PUnit)) := ⟨[op], rfl⟩
def LineOf.stop : LineOf (F := F) (pure ⟨⟩) := ⟨[], rfl⟩
def LineOf.call {p k : Pr F} (l : LineOf p) (l' : LineOf k) : LineOf (p >>= fun _ => k) := ⟨l.ops ++ l'.ops, seq_then l.eq l'.eq⟩

def clipOps (arg0 arg1 arg2) (φ : fn_clip.Bufs) : LineOf (fn_clip.body (F := F) arg0 arg1 arg2 φ) := by
  delta fn_clip.body; repeat' first | exact LineOf.stop | refine LineOf.step ?_
def takeOps (arg0 arg1) (φ : fn_take_along_axis.Bufs) : LineOf (fn_take_along_axis.body (F := F) arg0 arg1 φ) := by
  delta fn_take_along_axis.body; repeat' first | exact LineOf.stop | refine LineOf.step ?_
def whereOps (arg0 arg1 arg2) (φ : fn_where.Bufs) : LineOf (fn_where.body (F := F) arg0 arg1 arg2 φ) := by
  delta fn_where.body; repeat' first | exact LineOf.stop | refine LineOf.step ?_
def tfOps0 (arg0 arg1 arg2 arg3) (φ : fn_threefry2x32.Bufs) : LineOf (fn_threefry2x32.body_part0 (F := F) arg0 arg1 arg2 arg3 φ) := by
  delta fn_threefry2x32.body_part0; repeat' first | exact LineOf.stop | refine LineOf.step ?_ | exact LineOf.last
def tfOps1 (arg0 arg1 arg2 arg3) (φ : fn_threefry2x32.Bufs) : LineOf (fn_threefry2x32.body_part1 (F := F) arg0 arg1 arg2 arg3 φ) := by
  delta fn_threefry2x32.body_part1; repeat' first | exact LineOf.stop | refine LineOf.step ?_ | exact LineOf.last
def tfOps2 (arg0 arg1 arg2 arg3) (φ : fn_threefry2x32.Bufs) : LineOf (fn_threefry2x32.body_part2 (F := F) arg0 arg1 arg2 arg3 φ) := by
  delta fn_threefry2x32.body_part2; repeat' first | exact LineOf.stop | refine LineOf.step ?_ | exact LineOf.last
def tfOps3 (arg0 arg1 arg2 arg3) (φ : fn_threefry2x32.Bufs) : LineOf (fn_threefry2x32.body_part3 (F := F) arg0 arg1 arg2 arg3 φ) := by
  delta fn_threefry2x32.body_part3; repeat' first | exact LineOf.stop | refine LineOf.step ?_ | exact LineOf.last
def tfOps (arg0 arg1 arg2 arg3) (φ : fn_threefry2x32.Bufs) : LineOf (fn_threefry2x32.body (F := F) arg0 arg1 arg2 arg3 φ) :=
  .call (tfOps0 ..) (.call (tfOps1 ..) (.call (tfOps2 ..) (tfOps3 ..)))
def uniformOps (arg0 arg1 arg2) (φ : fn_uniform.Bufs) : LineOf (fn_uniform.body (F := F) arg0 arg1 arg2 φ) := by
  delta fn_uniform.body; repeat' first | refine LineOf.call (tfOps ..) ?_ | exact LineOf.stop | refine LineOf.step ?_
def where0Ops (arg0 arg1 arg2) (φ : fn_where_0.Bufs) : LineOf (fn_where_0.body (F := F) arg0 arg1 arg2 φ) := by
  delta fn_where_0.body; repeat' first | exact LineOf.stop | refine LineOf.step ?_
def take1Ops (arg0 arg1) (φ : fn_take_along_axis_1.Bufs) : LineOf (fn_take_along_axis_1.body (F := F) arg0 arg1 φ) := by
  delta fn_take_along_axis_1.body; repeat' first | exact LineOf.stop | refine LineOf.step ?_
def mainOps0 (d : Dev nD) : LineOf (main_part0 (F := F) d) := by
  delta main_part0; repeat' first | refine LineOf.call (clipOps ..) ?_ | refine LineOf.call (takeOps ..) ?_ | refine LineOf.call (whereOps ..) ?_ | refine LineOf.call (uniformOps ..) ?_ | exact LineOf.stop | refine LineOf.step ?_ | exact LineOf.last
def mainOps1 (d : Dev nD) : LineOf (main_part1 (F := F) d) := by
  delta main_part1; repeat' first | refine LineOf.call (where0Ops ..) ?_ | exact LineOf.stop | refine LineOf.step ?_ | exact LineOf.last
def mainOps2 (d : Dev nD) : LineOf (main_part2 (F := F) d) := by
  delta main_part2; repeat' first | refine LineOf.call (take1Ops ..) ?_ | exact LineOf.stop | refine LineOf.step ?_ | exact LineOf.last
def mainOps (d : Dev nD) : LineOf (main (F := F) d) := .call (mainOps0 d) (.call (mainOps1 d) (mainOps2 d))

end Cert.Proof.RefRun
end
-- ==== Proof.RefTf.lean ====
/-
  The reference's twenty rounds of threefry: from the equations of its operations, what the two results hold.
-/
module

public import proofs.«01_k».proof.Proof.RefOps
public import proofs.«01_k».proof.Proof.Spec

@[expose] public section

set_option maxRecDepth 16384

noncomputable section

namespace Cert.Proof.RefRun

open Cert.ReferenceIdeal Cert.ReferenceIdeal.Gen
open Idealize.ShloMosaic Idealize.ShloMosaic.TcCoe Idealize.SL.Sem Idealize.ShloMosaic.StableHlo

variable {F : FTy → Type} [FloatOps F] {V : Valuation τ sig (Elt F)}

/-- Every operation of the list has its equation. -/
def All (V : Valuation τ sig (Elt F)) (l : List (HloOp τ sig (Elt F))) : Prop := ∀ op ∈ l, Holds V op
theorem All.cons {op : HloOp τ sig (Elt F)} {l : List (HloOp τ sig (Elt F))} (h : All V (op :: l)) : Holds V op ∧ All V l :=
  ⟨h op (List.mem_cons_self ..), fun o ho => h o (List.mem_cons_of_mem _ ho)⟩
theorem All.call {p k : Pr F} {l : LineOf p} {l' : LineOf k} (h : All V (l.call l').ops) : All V l.ops ∧ All V l'.ops :=
  ⟨fun o ho => h o (List.mem_append_left _ ho), fun o ho => h o (List.mem_append_right _ ho)⟩

abbrev N3 : BufTy := ⟨S32x64x4096, .i32⟩
abbrev N0 : BufTy := ⟨S_, .i32⟩
abbrev bc3 {α : Type} (x : S_.Idx → α) : S32x64x4096.Idx → α := broadcastInDim S32x64x4096 ![] bcast_S_S32x64x4096 x

theorem bc3_const {α : Type} (x : S_.Idx → α) (k : α) (h : x = fun _ => k) : bc3 x = broadcast S32x64x4096 k := by subst h; rfl
theorem shl_host (x : IVec S32x64x4096 32) (n : BitVec 32) (h : n.toNat < 32) : Host.shli x (broadcast S32x64x4096 n) = shli x (broadcast S32x64x4096 n) := by
  funext i
  change IntOp.shli .host (x i) n = IntOp.shli .vector (x i) n
  unfold IntOp.shli; rw [if_pos h, if_pos h]
theorem shr_host (x : IVec S32x64x4096 32) (n : BitVec 32) (h : n.toNat < 32) : Host.shrui x (broadcast S32x64x4096 n) = shrui x (broadcast S32x64x4096 n) := by
  funext i
  change IntOp.shrui .host (x i) n = IntOp.shrui .vector (x i) n
  unfold IntOp.shrui; rw [if_pos h, if_pos h]
theorem xori_comm (x y : IVec S32x64x4096 32) : xori x y = xori y x := funext fun i => BitVec.xor_comm _ _

/-- One round's nine operations. -/
theorem All.round {x0 x1 s b l b' r o x : TRef sig N3} {c c' : TRef sig N0} {n m : BitVec 32} {L : List (HloOp τ sig (Elt F))}
    (h : All V (TRef.binary x0 x1 s addi :: TRef.nullary c (constantI S_ 32 n) :: TRef.unary c b (broadcastInDim S32x64x4096 ![] bcast_S_S32x64x4096) ::
      TRef.binary x1 b l Host.shli :: TRef.nullary c' (constantI S_ 32 m) :: TRef.unary c' b' (broadcastInDim S32x64x4096 ![] bcast_S_S32x64x4096) ::
      TRef.binary x1 b' r Host.shrui :: TRef.binary l r o ori :: TRef.binary s o x xori :: L))
    (hn : n.toNat < 32) (hm : m.toNat < 32) {p : IVec S32x64x4096 32 × IVec S32x64x4096 32} (hp : (rd V x0, rd V x1) = p) :
    (rd V s, rd V x) = Spec.rnd n m p ∧ All V L := by
  subst hp
  obtain ⟨h1, h⟩ := h.cons; obtain ⟨h2, h⟩ := h.cons; obtain ⟨h3, h⟩ := h.cons; obtain ⟨h4, h⟩ := h.cons; obtain ⟨h5, h⟩ := h.cons
  obtain ⟨h6, h⟩ := h.cons; obtain ⟨h7, h⟩ := h.cons; obtain ⟨h8, h⟩ := h.cons; obtain ⟨h9, h⟩ := h.cons
  refine ⟨Prod.ext h1.binary ?_, h⟩
  refine h9.binary.trans ?_
  rw [h8.binary, h7.binary, h6.unary, h5.nullary, h4.binary, h3.unary, h2.nullary, h1.binary]
  rw [show broadcastInDim S32x64x4096 ![] bcast_S_S32x64x4096 (constantI S_ 32 n) = broadcast S32x64x4096 n from rfl,
    show broadcastInDim S32x64x4096 ![] bcast_S_S32x64x4096 (constantI S_ 32 m) = broadcast S32x64x4096 m from rfl, shl_host _ _ hn, shr_host _ _ hm]
  exact xori_comm _ _

/-- The seven operations that add the keys. -/
theorem All.keys {x0 x1 ba s bb t bk u : TRef sig N3} {a b c : TRef sig N0} {k : BitVec 32} {L : List (HloOp τ sig (Elt F))}
    (h : All V (TRef.unary a ba (broadcastInDim S32x64x4096 ![] bcast_S_S32x64x4096) :: TRef.binary x0 ba s addi ::
      TRef.unary b bb (broadcastInDim S32x64x4096 ![] bcast_S_S32x64x4096) :: TRef.binary x1 bb t addi ::
      TRef.nullary c (constantI S_ 32 k) :: TRef.unary c bk (broadcastInDim S32x64x4096 ![] bcast_S_S32x64x4096) :: TRef.binary t bk u addi :: L))
    {ka kb : BitVec 32} (ha : rd V a = fun _ => ka) (hb : rd V b = fun _ => kb)
    {p : IVec S32x64x4096 32 × IVec S32x64x4096 32} (hp : (rd V x0, rd V x1) = p) :
    (rd V s, rd V u) = Spec.inj ka kb k p ∧ All V L := by
  subst hp
  obtain ⟨h1, h⟩ := h.cons; obtain ⟨h2, h⟩ := h.cons; obtain ⟨h3, h⟩ := h.cons; obtain ⟨h4, h⟩ := h.cons; obtain ⟨h5, h⟩ := h.cons
  obtain ⟨h6, h⟩ := h.cons; obtain ⟨h7, h⟩ := h.cons
  refine ⟨Prod.ext ?_ ?_, h⟩
  · refine h2.binary.trans ?_
    rw [h1.unary, ha]; rfl
  · refine h7.binary.trans ?_
    rw [h6.unary, h5.nullary, h4.binary, h3.unary, hb]; rfl

theorem tf_val (a0 a1 a2 a3) (φ : fn_threefry2x32.Bufs) (h : All V (tfOps (F := F) a0 a1 a2 a3 φ).ops) {k0 k1 : BitVec 32}
    (h0 : rd V a0 = fun _ => k0) (h1 : rd V a1 = fun _ => k1) :
    (rd V φ.v171, rd V φ.v175) = Spec.threefry k0 k1 (addi (rd V a2) (broadcast _ k0), addi (rd V a3) (broadcast _ k1)) := by
  obtain ⟨e0, h⟩ := h.cons; obtain ⟨e1, h⟩ := h.cons; obtain ⟨e2, h⟩ := h.cons; obtain ⟨e3, h⟩ := h.cons
  obtain ⟨e4, h⟩ := h.cons; obtain ⟨e5, h⟩ := h.cons; obtain ⟨e6, h⟩ := h.cons
  have hk : rd V φ.v1 = fun _ => Spec.ks k0 k1 := by rw [e2.binary, e1.nullary, e0.binary, h0, h1]; rfl
  have hp : (rd V φ.v3, rd V φ.v5) = (addi (rd V a2) (broadcast _ k0), addi (rd V a3) (broadcast _ k1)) := by
    rw [e4.binary, e6.binary, e3.unary, e5.unary, h0, h1]; rfl
  obtain ⟨hp, h⟩ := h.round (by decide) (by decide) hp
  obtain ⟨hp, h⟩ := h.round (by decide) (by decide) hp
  obtain ⟨hp, h⟩ := h.round (by decide) (by decide) hp
  obtain ⟨hp, h⟩ := h.round (by decide) (by decide) hp
  obtain ⟨hp, h⟩ := h.keys h1 hk hp
  obtain ⟨hp, h⟩ := h.round (by decide) (by decide) hp
  obtain ⟨hp, h⟩ := h.round (by decide) (by decide) hp
  obtain ⟨hp, h⟩ := h.round (by decide) (by decide) hp
  obtain ⟨hp, h⟩ := h.round (by decide) (by decide) hp
  obtain ⟨hp, h⟩ := h.keys hk h0 hp
  obtain ⟨hp, h⟩ := h.round (by decide) (by decide) hp
  obtain ⟨hp, h⟩ := h.round (by decide) (by decide) hp
  obtain ⟨hp, h⟩ := h.round (by decide) (by decide) hp
  obtain ⟨hp, h⟩ := h.round (by decide) (by decide) hp
  obtain ⟨hp, h⟩ := h.keys h0 h1 hp
  obtain ⟨hp, h⟩ := h.round (by decide) (by decide) hp
  obtain ⟨hp, h⟩ := h.round (by decide) (by decide) hp
  obtain ⟨hp, h⟩ := h.round (by decide) (by decide) hp
  obtain ⟨hp, h⟩ := h.round (by decide) (by decide) hp
  obtain ⟨hp, h⟩ := h.keys h1 hk hp
  obtain ⟨hp, h⟩ := h.round (by decide) (by decide) hp
  obtain ⟨hp, h⟩ := h.round (by decide) (by decide) hp
  obtain ⟨hp, h⟩ := h.round (by decide) (by decide) hp
  obtain ⟨hp, h⟩ := h.round (by decide) (by decide) hp
  obtain ⟨hp, h⟩ := h.keys hk h0 hp
  exact hp

end Cert.Proof.RefRun
end
-- ==== Proof.RefFns.lean ====
/-
  What the functions that the reference calls leave, element by element: the uniform. The clip, the gather along the last axis and the
  masked choice are in `RefGather`.
-/
module

public import proofs.«01_k».proof.Proof.RefTf
public import Idealize.ShloMosaic.Lib.Pointwise.Index
public import Idealize.ShloMosaic.Lib.Pipeline.Value
public import Idealize.ShloMosaic.Lib.ReduceAll

@[expose] public section

set_option maxRecDepth 16384

noncomputable section

namespace Cert.Proof.RefRun

open Cert.ReferenceIdeal Cert.ReferenceIdeal.Gen
open Idealize.ShloMosaic Idealize.ShloMosaic.TcCoe Idealize.SL.Sem Idealize.ShloMosaic.StableHlo

variable {F : FTy → Type} [FloatOps F] {V : Valuation τ sig (Elt F)}

/-- The one index of a scalar. -/
abbrev pt : S_.Idx := fun a => a.elim0
/-- The place of an element in row-major order. -/
def flat (y : S32x64x4096.Idx) : ℕ := ((y 0).val * 64 + (y 1).val) * 4096 + (y 2).val

theorem flat_lt (y : S32x64x4096.Idx) : flat y < 8388608 := by
  have h0 : (y 0).val < 32 := (y 0).isLt
  have h1 : (y 1).val < 64 := (y 1).isLt
  have h2 : (y 2).val < 4096 := (y 2).isLt
  unfold flat; omega

/-! ## The uniform -/

/-- The uniform of one counter's bits, scaled to `[lo, hi)`. -/
def uniR (lo hi : F .f32) (b : BitVec 32) : F .f32 :=
  FloatOps.maximumf lo (FloatOps.addf (FloatOps.mulf (FloatOps.subf (Spec.mant (F := F) (S := Spec.S0) (fun _ => b) fun a => a.elim0)
    (Scalar.ofBits .f32 0x3F800000#32)) (FloatOps.subf hi lo)) lo)

theorem count_lo (y : S32x64x4096.Idx) :
    BitVec.setWidth 32 (IntOp.addi (IntOp.addi (IntOp.muli 262144#64 (BitVec.ofNat 64 (y 0).val)) (IntOp.muli 4096#64 (BitVec.ofNat 64 (y 1).val)))
      (IntOp.muli 1#64 (BitVec.ofNat 64 (y 2).val))) = BitVec.ofNat 32 (flat y) := by
  have h0 : (y 0).val < 32 := (y 0).isLt
  have h1 : (y 1).val < 64 := (y 1).isLt
  have h2 : (y 2).val < 4096 := (y 2).isLt
  refine BitVec.eq_of_toNat_eq ?_
  simp only [IntOp.addi, IntOp.muli, BitVec.toNat_setWidth, BitVec.toNat_add, BitVec.toNat_mul, BitVec.toNat_ofNat, flat]
  omega
theorem count_hi (y : S32x64x4096.Idx) :
    BitVec.setWidth 32 (IntOp.shrui .host (IntOp.addi (IntOp.addi (IntOp.muli 262144#64 (BitVec.ofNat 64 (y 0).val)) (IntOp.muli 4096#64 (BitVec.ofNat 64 (y 1).val)))
      (IntOp.muli 1#64 (BitVec.ofNat 64 (y 2).val))) 32#64) = 0#32 := by
  have h0 : (y 0).val < 32 := (y 0).isLt
  have h1 : (y 1).val < 64 := (y 1).isLt
  have h2 : (y 2).val < 4096 := (y 2).isLt
  unfold IntOp.shrui
  rw [if_pos (by decide)]
  refine BitVec.eq_of_toNat_eq ?_
  simp only [IntOp.addi, IntOp.muli, BitVec.toNat_setWidth, BitVec.toNat_add, BitVec.toNat_mul, BitVec.toNat_ofNat, BitVec.toNat_ushiftRight, BitVec.ushiftRight_eq', Nat.shiftRight_eq_div_pow,
    Nat.reducePow, Nat.reduceMod]
  omega

theorem key_at (x : IVec S2 32) (n : ℕ) (hn : n < 2) (h : S2.Slices ![n] S1) :
    shapeCast S_ (extractStridedSlice S1 ![n] x h) shapeCasts_S1_S_ = fun _ => x (ix1 (n0 := 2) ⟨n, hn⟩) := by
  funext j
  rw [shapeCast_apply _ _ j (ix1 (n0 := 1) 0) (by
    have h1 : (S1.rowMajor (ix1 (n0 := 1) 0)).val < 1 := lt_of_lt_of_eq (Fin.isLt _) (by decide)
    have h2 : (S_.rowMajor j).val < 1 := lt_of_lt_of_eq (Fin.isLt _) (by decide)
    change (S1.rowMajor (ix1 (n0 := 1) 0)).val = (S_.rowMajor j).val
    omega)]
  unfold extractStridedSlice
  refine congrArg x (funext fun a => Fin.ext ?_)
  match a with
  | ⟨0, _⟩ => rfl

set_option maxHeartbeats 2000000 in
theorem uniform_val (a0 a1 a2) (φ : fn_uniform.Bufs) (h : All V (uniformOps (F := F) a0 a1 a2 φ).ops) (y : S32x64x4096.Idx) :
    rd V φ.v36 y = uniR (rd V a1 pt) (rd V a2 pt) (Spec.bit (rd V a0 (ix1 (n0 := 2) 0)) (rd V a0 (ix1 (n0 := 2) 1)) (BitVec.ofNat 32 (flat y))) := by
  obtain ⟨e0, h⟩ := h.cons; obtain ⟨e1, h⟩ := h.cons; obtain ⟨e2, h⟩ := h.cons; obtain ⟨e3, h⟩ := h.cons; obtain ⟨e4, h⟩ := h.cons
  obtain ⟨e5, h⟩ := h.cons; obtain ⟨e6, h⟩ := h.cons; obtain ⟨e7, h⟩ := h.cons; obtain ⟨e8, h⟩ := h.cons; obtain ⟨e9, h⟩ := h.cons
  obtain ⟨e10, h⟩ := h.cons; obtain ⟨e11, h⟩ := h.cons; obtain ⟨e12, h⟩ := h.cons; obtain ⟨e13, h⟩ := h.cons; obtain ⟨e14, h⟩ := h.cons
  obtain ⟨e15, h⟩ := h.cons; obtain ⟨e16, h⟩ := h.cons; obtain ⟨e17, h⟩ := h.cons; obtain ⟨e18, h⟩ := h.cons; obtain ⟨e19, h⟩ := h.cons
  obtain ⟨e20, h⟩ := h.cons; obtain ⟨e21, h⟩ := h.cons; obtain ⟨e22, h⟩ := h.cons; obtain ⟨e23, h⟩ := h.cons; obtain ⟨e24, h⟩ := h.cons
  obtain ⟨ht, h⟩ := h.call
  obtain ⟨f0, h⟩ := h.cons; obtain ⟨f1, h⟩ := h.cons; obtain ⟨f2, h⟩ := h.cons; obtain ⟨f3, h⟩ := h.cons; obtain ⟨f4, h⟩ := h.cons
  obtain ⟨f5, h⟩ := h.cons; obtain ⟨f6, h⟩ := h.cons; obtain ⟨f7, h⟩ := h.cons; obtain ⟨f8, h⟩ := h.cons; obtain ⟨f9, h⟩ := h.cons
  obtain ⟨f10, h⟩ := h.cons; obtain ⟨f11, h⟩ := h.cons; obtain ⟨f12, h⟩ := h.cons; obtain ⟨f13, h⟩ := h.cons; obtain ⟨f14, h⟩ := h.cons
  obtain ⟨f15, h⟩ := h.cons; obtain ⟨f16, h⟩ := h.cons; obtain ⟨f17, h⟩ := h.cons
  have k0 : rd V φ.v3 = fun _ => rd V a0 (ix1 (n0 := 2) 0) := by
    rw [e3.reshape, e2.unary]; exact key_at _ 0 (by decide) _
  have k1 : rd V φ.v5 = fun _ => rd V a0 (ix1 (n0 := 2) 1) := by
    rw [e5.reshape, e4.unary]; exact key_at _ 1 (by decide) _
  have hv16 : rd V φ.v16 = fun y => IntOp.addi (IntOp.addi (IntOp.muli 262144#64 (BitVec.ofNat 64 (y 0).val)) (IntOp.muli 4096#64 (BitVec.ofNat 64 (y 1).val)))
      (IntOp.muli 1#64 (BitVec.ofNat 64 (y 2).val)) := by
    rw [e19.binary, e18.binary, e17.binary, e16.unary, e15.nullary, e14.binary, e13.unary, e12.nullary, e11.binary, e10.unary, e9.nullary, e8.nullary, e7.nullary, e6.nullary]
    rfl
  have hlo : rd V φ.v19 = fun y => BitVec.ofNat 32 (flat y) := by
    rw [e23.unary, hv16]; exact funext count_lo
  have hhi : rd V φ.v20 = fun _ => 0#32 := by
    rw [e24.unary, e22.binary, e21.unary, e20.nullary, hv16]; exact funext count_hi
  have hb : rd V φ.v22 = Spec.bits (rd V a0 (ix1 (n0 := 2) 0)) (rd V a0 (ix1 (n0 := 2) 1)) (rd V φ.v19) := by
    have ht := tf_val _ _ _ _ _ ht k0 k1
    have t0 : rd V φ.call0.v171 = _ := congrArg Prod.fst ht
    have t1 : rd V φ.call0.v175 = _ := congrArg Prod.snd ht
    rw [f0.binary, t0, t1, hhi]
    have z : addi (fun _ : S32x64x4096.Idx => 0#32) (broadcast S32x64x4096 (rd V a0 (ix1 (n0 := 2) 0))) = broadcast S32x64x4096 (rd V a0 (ix1 (n0 := 2) 0)) :=
      funext fun _ => BitVec.zero_add _
    rw [z]; rfl
  have hm : rd V φ.v27 = Spec.mant (rd V φ.v22) := by
    rw [f7.unary, f6.binary, f5.unary, f4.nullary, f3.binary, f2.unary, f1.nullary]
    rw [show broadcastInDim S32x64x4096 ![] bcast_S_S32x64x4096 (constantI S_ 32 9#32) = broadcast S32x64x4096 9#32 from rfl, shr_host _ _ (by decide)]
    rfl
  obtain ⟨lo, el⟩ : ∃ lo, rd V a1 = fun _ => lo := ⟨rd V a1 pt, funext fun j => congrArg _ (funext fun a => a.elim0)⟩
  obtain ⟨hi, eh⟩ : ∃ hi, rd V a2 = fun _ => hi := ⟨rd V a2 pt, funext fun j => congrArg _ (funext fun a => a.elim0)⟩
  rw [f17.binary, f16.unary, f15.binary, f14.unary, f13.binary, f12.unary, f11.binary, f10.binary, f9.unary, f8.nullary, hm, hb, hlo, e0.unary, e1.unary, el, eh]
  rfl

end Cert.Proof.RefRun
end
-- ==== Proof.RefGather.lean ====
/-
  What the gather along the last axis, the clip and the masked choice that the reference calls leave, element by element.
-/
module

public import proofs.«01_k».proof.Proof.RefFns

@[expose] public section

set_option maxRecDepth 16384

noncomputable section

namespace Cert.Proof.RefRun

open Cert.ReferenceIdeal Cert.ReferenceIdeal.Gen
open Idealize.ShloMosaic Idealize.ShloMosaic.TcCoe Idealize.SL.Sem Idealize.ShloMosaic.StableHlo

abbrev S3 : Shape := ⟨3, ![32, 64, 4096]⟩
abbrev S2' : Shape := ⟨2, ![32, 4096]⟩

/-! ## Indices in range -/

theorem andi_ofBool (p q : Bool) : IntOp.andi (BitVec.ofBool p) (BitVec.ofBool q) = BitVec.ofBool (p && q) := by
  cases p <;> cases q <;> decide
theorem ofBool_eq_one (p : Bool) : (BitVec.ofBool p = 1#1) ↔ p = true := by cases p <;> decide

theorem range_of_bits (v : BitVec 32) (e : IntOp.andi (IntOp.cmpi .sge v 0#32) (IntOp.cmpi .slt v 4096#32) = 1#1) : v.toNat < 4096 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem toInt_small {v : BitVec 32} (h : v.toNat < 4096) : v.toInt = (v.toNat : Int) := by
  rw [BitVec.toInt_eq_toNat_cond, if_pos (by omega)]

/-- An index in range is not negative, and is at most 4095. -/
theorem slt_zero {v : BitVec 32} (h : v.toNat < 4096) : IntOp.cmpi .slt v 0#32 = 0#1 := by
  simp only [IntOp.cmpi, BitVec.slt_eq_decide, toInt_small h]
  rw [decide_eq_false (by simp)]; rfl
theorem within {v : BitVec 32} (h : v.toNat < 4096) : IntOp.andi (IntOp.cmpi .sge v 0#32) (IntOp.cmpi .sle v 4095#32) = 1#1 := by
  simp only [IntOp.cmpi, andi_ofBool, ofBool_eq_one, Bool.and_eq_true, BitVec.sle_eq_decide, decide_eq_true_eq, toInt_small h]
  constructor
  · simp
  · rw [BitVec.toInt_eq_toNat_cond]; simp only [BitVec.toNat_ofNat, Nat.reducePow, Nat.reduceMod]; omega

/-! ## The gather -/

/-- The indices, wrapped where negative, and with a trailing unit axis. -/
def wrapped (j : IVec S32x64x4096 32) : IVec S32x64x4096 32 :=
  select (cmpi .slt j (broadcastInDim S32x64x4096 ![] bcast_S_S32x64x4096 (constantI S_ 32 0#32)))
    (addi j (broadcastInDim S32x64x4096 ![] bcast_S_S32x64x4096 (constantI S_ 32 4096#32))) j
def starts (j : IVec S32x64x4096 32) : IVec S32x64x4096x1 32 := shapeCast S32x64x4096x1 (wrapped j) shapeCasts_S32x64x4096_S32x64x4096x1

theorem wrapped_apply (j : IVec S32x64x4096 32) (hj : ∀ p, (j p).toNat < 4096) (y : S3.Idx) : wrapped j y = j y := by
  have hc : cmpi .slt j (broadcastInDim S32x64x4096 ![] bcast_S_S32x64x4096 (constantI S_ 32 0#32)) y = 0#1 := slt_zero (hj y)
  unfold wrapped select
  rw [hc]
  rfl

theorem starts_apply (j : IVec S32x64x4096 32) (hj : ∀ p, (j p).toNat < 4096) (z : S32x64x4096x1.Idx) :
    starts j z = j (ix3 (n0 := 32) (n1 := 64) (n2 := 4096) (z 0) (z 1) (z 2)) := by
  unfold starts
  have h3 : (z 3).val < 1 := (z 3).isLt
  rw [shapeCast_apply _ _ z (ix3 (n0 := 32) (n1 := 64) (n2 := 4096) (z 0) (z 1) (z 2)) (by
    refine (Shape.rowMajor_val_three (d := ![32, 64, 4096]) _).trans (Eq.trans ?_ (Shape.rowMajor_val_four (d := ![32, 64, 4096, 1]) z).symm)
    change ((z 0).val * 64 + (z 1).val) * 4096 + (z 2).val = (((z 0).val * 64 + (z 1).val) * 4096 + (z 2).val) * 1 + (z 3).val
    omega)]
  exact wrapped_apply j hj _

/-- The start index that element `y` of the result is gathered at. -/
def startAt (y : S3.Idx) : S32x64x4096x1.Idx := fun a => match a with | ⟨0, _⟩ => y 0 | ⟨1, _⟩ => y 1 | ⟨2, _⟩ => y 2 | ⟨3, _⟩ => ⟨0, Nat.one_pos⟩

abbrev gd : GatherDims S32x64x4096 S32x64x4096x1 S32x64x4096 := gather_S32x64x4096_S32x64x4096x1_S32x64x4096_n_2_01_01_2_3_111

/-- The gather along the last axis, the first two batching, read at an index. -/
theorem gather_apply {α : Type} (x : S3.Idx → α) (s : IVec S32x64x4096x1 32) (y : S3.Idx) :
    Host.gather gd x s y = x (ix3 (y 0) (y 1) ⟨min (s (startAt y)).toInt.toNat 4095, by omega⟩) := by
  unfold Host.gather
  congr 1
  funext a
  refine Fin.ext ?_
  show gd.start y s a + gd.batchCoord y a + gd.offCoord y a = _
  match a with
  | ⟨0, _⟩ =>
    rw [GatherDims.start_batching _ _ _ _ (show (0 : Fin 3) ∈ [0, 1] by decide),
      GatherDims.offCoord_eq_zero _ _ _ (fun h => ((GatherDims.mem_sKept _ _).mp h).2 (show (0 : Fin 3) ∈ [0, 1] by decide))]
    simp only [Nat.zero_add, Nat.add_zero]
    unfold GatherDims.batchCoord
    exact dif_pos (show (0 : Fin 3) ∈ [0, 1] by decide)
  | ⟨1, _⟩ =>
    rw [GatherDims.start_batching _ _ _ _ (show (1 : Fin 3) ∈ [0, 1] by decide),
      GatherDims.offCoord_eq_zero _ _ _ (fun h => ((GatherDims.mem_sKept _ _).mp h).2 (show (1 : Fin 3) ∈ [0, 1] by decide))]
    simp only [Nat.zero_add, Nat.add_zero]
    unfold GatherDims.batchCoord
    exact dif_pos (show (1 : Fin 3) ∈ [0, 1] by decide)
  | ⟨2, _⟩ =>
    rw [GatherDims.batchCoord_eq_zero _ _ _ (show (2 : Fin 3) ∉ [0, 1] by decide),
      GatherDims.offCoord_eq_zero _ _ _ (fun h => ((GatherDims.mem_sKept _ _).mp h).1 (List.mem_singleton.mpr rfl))]
    simp only [Nat.add_zero]
    unfold GatherDims.start
    refine (dif_pos (show (2 : Fin 3) ∈ gd.startIndexMap from List.mem_singleton.mpr rfl)).trans ?_
    have hsi : gd.siIdx y ⟨List.idxOf (2 : Fin 3) gd.startIndexMap, List.idxOf_lt_length_iff.2 (List.mem_singleton.mpr rfl)⟩ = startAt y := by
      funext b; refine Fin.ext ?_
      match b with
      | ⟨0, _⟩ => rfl
      | ⟨1, _⟩ => rfl
      | ⟨2, _⟩ => rfl
      | ⟨3, _⟩ => rfl
    exact congrArg (fun q => min (s q).toInt.toNat 4095) hsi

/-- The gather with its guard, at indices in range. -/
theorem taken_eq {F : FTy → Type} [FloatOps F] (x : S3.Idx → Elt F .f32) (j : IVec S32x64x4096 32) (hj : ∀ p, (j p).toNat < 4096)
    (z : S32x64x4096.Idx → Elt F .f32) (y : S3.Idx) :
    select (Host.reduce IntOp.andi (andi (cmpi .sge (starts j) (broadcastInDim S32x64x4096x1 ![] bcast_S_S32x64x4096x1 (constantI S_ 32 0#32)))
        (cmpi .sle (starts j) (broadcastInDim S32x64x4096x1 ![0, 1, 2, 3] bcast_S1x1x1x1_S32x64x4096x1_0_1_2_3 (broadcastInDim S1x1x1x1 ![3] bcast_S1_S1x1x1x1_3 (constantI S1 32 4095#32)))))
        (constantI S_ 1 1#1) reducesTo_S32x64x4096x1_S32x64x4096_d3 h_S_)
      (Host.gather gd x (starts j)) z y = x (ix3 (n0 := 32) (n1 := 64) (n2 := 4096) (y 0) (y 1) ⟨(j y).toNat % 4096, Nat.mod_lt _ (by decide)⟩) := by
  have hok : Host.reduce IntOp.andi (andi (cmpi .sge (starts j) (broadcastInDim S32x64x4096x1 ![] bcast_S_S32x64x4096x1 (constantI S_ 32 0#32)))
        (cmpi .sle (starts j) (broadcastInDim S32x64x4096x1 ![0, 1, 2, 3] bcast_S1x1x1x1_S32x64x4096x1_0_1_2_3 (broadcastInDim S1x1x1x1 ![3] bcast_S1_S1x1x1x1_3 (constantI S1 32 4095#32)))))
        (constantI S_ 1 1#1) reducesTo_S32x64x4096x1_S32x64x4096_d3 h_S_ y = 1#1 :=
    Host.reduce_andi_one _ _ _ _ _ rfl fun w => by
      change IntOp.andi (IntOp.cmpi .sge (starts j w) 0#32) (IntOp.cmpi .sle (starts j w) 4095#32) = 1#1
      rw [starts_apply j hj w]; exact within (hj _)
  unfold select
  rw [hok]
  refine (gather_apply x (starts j) y).trans ?_
  have h := hj y
  have hs : starts j (startAt y) = j y := (starts_apply j hj _).trans (congrArg j (funext fun a => by
    match a with
    | ⟨0, _⟩ => rfl
    | ⟨1, _⟩ => rfl
    | ⟨2, _⟩ => rfl))
  refine congrArg (fun q : Fin 4096 => x (ix3 (n0 := 32) (n1 := 64) (n2 := 4096) (y 0) (y 1) q)) (Fin.ext ?_)
  refine (congrArg (fun q : BitVec 32 => min q.toInt.toNat 4095) hs).trans ?_
  change min (j y).toInt.toNat 4095 = (j y).toNat % 4096
  rw [toInt_small h, Int.toNat_natCast]
  omega

variable {F : FTy → Type} [FloatOps F] {V : Valuation τ sig (Elt F)}

theorem take_val (a0 a1) (φ : fn_take_along_axis.Bufs) (h : All V (takeOps a0 a1 φ).ops) (hj : ∀ p, (rd V a1 p).toNat < 4096) (y : S3.Idx) :
    rd V φ.v15 y = rd V a0 (ix3 (n0 := 32) (n1 := 64) (n2 := 4096) (y 0) (y 1) ⟨(rd V a1 y).toNat % 4096, Nat.mod_lt _ (by decide)⟩) := by
  obtain ⟨e0, h⟩ := h.cons; obtain ⟨e1, h⟩ := h.cons; obtain ⟨e2, h⟩ := h.cons; obtain ⟨e3, h⟩ := h.cons; obtain ⟨e4, h⟩ := h.cons; obtain ⟨e5, h⟩ := h.cons; obtain ⟨e6, h⟩ := h.cons; obtain ⟨e7, h⟩ := h.cons; obtain ⟨e8, h⟩ := h.cons; obtain ⟨e9, h⟩ := h.cons; obtain ⟨e10, h⟩ := h.cons; obtain ⟨e11, h⟩ := h.cons; obtain ⟨e12, h⟩ := h.cons; obtain ⟨e13, h⟩ := h.cons; obtain ⟨e14, h⟩ := h.cons; obtain ⟨e15, h⟩ := h.cons; obtain ⟨e16, h⟩ := h.cons; obtain ⟨e17, h⟩ := h.cons; obtain ⟨e18, h⟩ := h.cons; obtain ⟨e19, h⟩ := h.cons; obtain ⟨e20, h⟩ := h.cons; obtain ⟨e21, h⟩ := h.cons
  have hs : rd V φ.v5 = starts (rd V a1) := by
    rw [e7.reshape, e6.ternary, e5.binary, e4.unary, e3.nullary, e2.binary, e1.unary, e0.nullary]; rfl
  rw [e21.ternary, e18.binary, e17.binary, e16.nullary, e15.binary, e14.binary, e13.unary, e12.unary, e11.binary, e10.unary, e9.nullary, e8.nullary, hs]
  exact taken_eq (rd V a0) (rd V a1) hj _ y

theorem take1_val (a0 a1) (φ : fn_take_along_axis_1.Bufs) (h : All V (take1Ops a0 a1 φ).ops) (hj : ∀ p, (rd V a1 p).toNat < 4096) (y : S3.Idx) :
    rd V φ.v15 y = rd V a0 (ix3 (n0 := 32) (n1 := 64) (n2 := 4096) (y 0) (y 1) ⟨(rd V a1 y).toNat % 4096, Nat.mod_lt _ (by decide)⟩) := by
  obtain ⟨e0, h⟩ := h.cons; obtain ⟨e1, h⟩ := h.cons; obtain ⟨e2, h⟩ := h.cons; obtain ⟨e3, h⟩ := h.cons; obtain ⟨e4, h⟩ := h.cons; obtain ⟨e5, h⟩ := h.cons; obtain ⟨e6, h⟩ := h.cons; obtain ⟨e7, h⟩ := h.cons; obtain ⟨e8, h⟩ := h.cons; obtain ⟨e9, h⟩ := h.cons; obtain ⟨e10, h⟩ := h.cons; obtain ⟨e11, h⟩ := h.cons; obtain ⟨e12, h⟩ := h.cons; obtain ⟨e13, h⟩ := h.cons; obtain ⟨e14, h⟩ := h.cons; obtain ⟨e15, h⟩ := h.cons; obtain ⟨e16, h⟩ := h.cons; obtain ⟨e17, h⟩ := h.cons; obtain ⟨e18, h⟩ := h.cons; obtain ⟨e19, h⟩ := h.cons; obtain ⟨e20, h⟩ := h.cons; obtain ⟨e21, h⟩ := h.cons
  have hs : rd V φ.v5 = starts (rd V a1) := by
    rw [e7.reshape, e6.ternary, e5.binary, e4.unary, e3.nullary, e2.binary, e1.unary, e0.nullary]; rfl
  rw [e21.ternary, e18.binary, e17.binary, e16.nullary, e15.binary, e14.binary, e13.unary, e12.unary, e11.binary, e10.unary, e9.nullary, e8.nullary, hs]
  exact taken_eq (rd V a0) (rd V a1) hj _ y

theorem clip_val (a0 a1 a2) (φ : fn_clip.Bufs) (h : All V (clipOps a0 a1 a2 φ).ops) (lo hi : BitVec 32)
    (h1 : rd V a1 = constantI S_ 32 lo) (h2 : rd V a2 = constantI S_ 32 hi) : rd V φ.v5 = fun p => IntOp.minsi hi (IntOp.maxsi lo (rd V a0 p)) := by
  obtain ⟨e0, h⟩ := h.cons; obtain ⟨e1, h⟩ := h.cons; obtain ⟨e2, h⟩ := h.cons; obtain ⟨e3, h⟩ := h.cons; obtain ⟨e4, h⟩ := h.cons
  obtain ⟨e5, -⟩ := h.cons
  rw [e5.binary, e4.unary, e3.unary, e2.binary, e1.unary, e0.unary, h1, h2]
  rfl

theorem where_val (a0 a1 a2) (φ : fn_where.Bufs) (h : All V (whereOps a0 a1 a2 φ).ops) (w : BitVec 32) (h2 : rd V a2 = constant S_ .f32 w) :
    rd V φ.v3 = select (broadcastInDim S32x64x4096 ![0, 1, 2] bcast_S32x1x4096_S32x64x4096_0_1_2 (rd V a0)) (rd V a1) (Spec.cst S32x64x4096 w) := by
  obtain ⟨e0, h⟩ := h.cons; obtain ⟨e1, h⟩ := h.cons; obtain ⟨e2, h⟩ := h.cons; obtain ⟨e3, -⟩ := h.cons
  rw [e3.ternary, e2.unary, e1.unary, e0.unary, h2]
  rfl

end Cert.Proof.RefRun
end
-- ==== Proof.RefVal.lean ====
/-
  The reference's result, element by element.
-/
module

public import proofs.«01_k».proof.Proof.RefGather

@[expose] public section

set_option maxRecDepth 16384

noncomputable section

namespace Cert.Proof.RefRun

open Cert.ReferenceIdeal Cert.ReferenceIdeal.Gen
open Idealize.ShloMosaic Idealize.ShloMosaic.TcCoe Idealize.SL.Sem Idealize.ShloMosaic.StableHlo

variable {F : FTy → Type} [FloatOps F] {V : Valuation τ sig (Elt F)}

/-! ## The formulas -/

section Formulas
variable {S : Shape}
/-- `-log1p (-x · x)`. -/
def logR (x : FVec F S .f32) : FVec F S .f32 := Host.negf (Host.log1p (mulf (Host.negf x) x))
/-- The standard normal of a uniform `x` in `(-1, 1)`. -/
def erfinvR (w x : FVec F S .f32) : FVec F S .f32 :=
  mulf (select (cmpf .olt w (Spec.cst S 0x40A00000#32)) (Spec.central (subf w (Spec.cst S 0x40200000#32))) (Spec.tail (subf (Host.sqrt w) (Spec.cst S 0x40400000#32)))) x
def normalR (x : FVec F S .f32) : FVec F S .f32 := mulf (Spec.cst S 0x3FB504F3#32) (erfinvR (logR x) x)
end Formulas

/-- The standard normal of one uniform. -/
def nrmR (x : F .f32) : F .f32 := normalR (S := Spec.S0) (fun _ => x) fun a => a.elim0
theorem normalR_at {S : Shape} (x : FVec F S .f32) (y : S.Idx) : normalR x y = nrmR (x y) := rfl

/-- The source index before clipping. -/
def srcR (sh : IVec S32 32) (p : S32x4096.Idx) : BitVec 32 := IntOp.subi (BitVec.ofNat 32 (p 1).val) (sh (ix1 (n0 := 32) (p 0)))
/-- The source index clipped to the row. -/
def clipR (s : BitVec 32) : BitVec 32 := IntOp.minsi 4095#32 (IntOp.maxsi 0#32 s)
/-- The shifted row, zero where the source is outside it. -/
def shiftR (x : FVec F S32x64x4096 .f32) (sh : IVec S32 32) (y : S32x64x4096.Idx) : F .f32 :=
  Scalar.select (IntOp.andi (IntOp.cmpi .sge (srcR sh (ix2 (n0 := 32) (n1 := 4096) (y 0) (y 2))) 0#32) (IntOp.cmpi .slt (srcR sh (ix2 (n0 := 32) (n1 := 4096) (y 0) (y 2))) 4096#32))
    (x (ix3 (n0 := 32) (n1 := 64) (n2 := 4096) (y 0) (y 1) ⟨(clipR (srcR sh (ix2 (n0 := 32) (n1 := 4096) (y 0) (y 2)))).toNat % 4096, Nat.mod_lt _ (by decide)⟩))
    (Scalar.ofBits .f32 0x00000000#32)
/-- The uniform of an element. -/
def unifR (kn : IVec S2 32) (y : S32x64x4096.Idx) : F .f32 :=
  uniR (Scalar.ofBits .f32 0xBF7FFFFF#32) (Scalar.ofBits .f32 0x3F800000#32) (Spec.bit (kn (ix1 (n0 := 2) 0)) (kn (ix1 (n0 := 2) 1)) (BitVec.ofNat 32 (flat y)))
/-- Shift and jitter. -/
def jitR (x : FVec F S32x64x4096 .f32) (sh : IVec S32 32) (kn : IVec S2 32) (y : S32x64x4096.Idx) : F .f32 :=
  FloatOps.addf (shiftR x sh y) (FloatOps.mulf (Scalar.ofBits .f32 0x3CA3D70A#32) (nrmR (unifR kn y)))
/-- Whether the channel drops out, as a number. -/
def dropR (u : FVec F S32x64x1 .f32) (b : Fin 32) (c : Fin 64) : F .f32 :=
  FloatOps.uitofp .f32 (FloatOps.cmpf .olt (u (ix3 (n0 := 32) (n1 := 64) (n2 := 1) b c 0)) (Scalar.ofBits .f32 0x3DCCCCCD#32))
/-- Channel dropout, over an element `a`. -/
def mixR (mm : FVec F S32x64 .f32) (u : FVec F S32x64x1 .f32) (b : Fin 32) (c : Fin 64) (a : F .f32) : F .f32 :=
  FloatOps.addf (FloatOps.mulf (FloatOps.mulf a (FloatOps.subf (Scalar.ofBits .f32 0x3F800000#32) (dropR u b c)))
      (FloatOps.subf (Scalar.ofBits .f32 0x3F800000#32) (mm (ix2 (n0 := 32) (n1 := 64) b c))))
    (FloatOps.mulf a (FloatOps.subf (Scalar.ofBits .f32 0x3F800000#32) (mm (ix2 (n0 := 32) (n1 := 64) b c))))
/-- The array that the last gather reads. -/
def augR (x : FVec F S32x64x4096 .f32) (mm : FVec F S32x64 .f32) (sh : IVec S32 32) (u : FVec F S32x64x1 .f32) (kn : IVec S2 32) : FVec F S32x64x4096 .f32 :=
  fun y => mixR mm u (y 0) (y 1) (jitR x sh kn y)

/-! ## Broadcasts -/

theorem bcst (w : BitVec 32) : broadcastInDim S32x64x4096 ![] bcast_S_S32x64x4096 (constant (F := F) S_ .f32 w) = Spec.cst S32x64x4096 w := rfl

/-- A row of `t` over the channels. -/
theorem spread_at {α : Type} (i : S32x4096.Idx → α) (y : S3.Idx) :
    broadcastInDim S32x64x4096 ![0, 1, 2] bcast_S32x1x4096_S32x64x4096_0_1_2 (broadcastInDim S32x1x4096 ![0, 2] bcast_S32x4096_S32x1x4096_0_2 i) y
      = i (ix2 (n0 := 32) (n1 := 4096) (y 0) (y 2)) := by
  rw [broadcastInDim_apply _ _ _ y (ix3 (n0 := 32) (n1 := 1) (n2 := 4096) (y 0) 0 (y 2)) (fun a => by
    match a with
    | ⟨0, _⟩ => rfl
    | ⟨1, _⟩ => rfl
    | ⟨2, _⟩ => rfl)]
  rw [broadcastInDim_apply _ _ _ _ (ix2 (n0 := 32) (n1 := 4096) (y 0) (y 2)) (fun a => by
    match a with
    | ⟨0, _⟩ => rfl
    | ⟨1, _⟩ => rfl)]
/-- A value of each channel over `t`. -/
theorem chan_at {α : Type} (i : S32x64x1.Idx → α) (y : S3.Idx) :
    broadcastInDim S32x64x4096 ![0, 1, 2] bcast_S32x64x1_S32x64x4096_0_1_2 i y = i (ix3 (n0 := 32) (n1 := 64) (n2 := 1) (y 0) (y 1) 0) :=
  broadcastInDim_apply _ _ _ y (ix3 (n0 := 32) (n1 := 64) (n2 := 1) (y 0) (y 1) 0) (fun a => by
    match a with
    | ⟨0, _⟩ => rfl
    | ⟨1, _⟩ => rfl
    | ⟨2, _⟩ => rfl)
theorem unit_at {α : Type} (i : S32x64.Idx → α) (b : Fin 32) (c : Fin 64) :
    broadcastInDim S32x64x1 ![0, 1] bcast_S32x64_S32x64x1_0_1 i (ix3 (n0 := 32) (n1 := 64) (n2 := 1) b c 0) = i (ix2 (n0 := 32) (n1 := 64) b c) :=
  broadcastInDim_apply _ _ _ _ (ix2 (n0 := 32) (n1 := 64) b c) (fun a => by
    match a with
    | ⟨0, _⟩ => rfl
    | ⟨1, _⟩ => rfl)
theorem src_eq (sh : IVec S32 32) :
    subi (broadcastInDim S32x4096 ![0, 1] bcast_S1x4096_S32x4096_0_1 (broadcastInDim S1x4096 ![1] bcast_S4096_S1x4096_1 (iotaInDim S4096 32 0)))
      (broadcastInDim S32x4096 ![0, 1] bcast_S32x1_S32x4096_0_1 (broadcastInDim S32x1 ![0] bcast_S32_S32x1_0 sh)) = srcR sh := by
  funext p
  unfold srcR subi
  rw [broadcastInDim_apply (s := S1x4096) _ _ _ p (ix2 (n0 := 1) (n1 := 4096) 0 (p 1)) (fun a => by
    match a with
    | ⟨0, _⟩ => rfl
    | ⟨1, _⟩ => rfl)]
  rw [broadcastInDim_apply (s := S4096) _ _ _ _ (ix1 (n0 := 4096) (p 1)) (fun a => by
    match a with
    | ⟨0, _⟩ => rfl)]
  rw [broadcastInDim_apply (s := S32x1) _ _ _ p (ix2 (n0 := 32) (n1 := 1) (p 0) 0) (fun a => by
    match a with
    | ⟨0, _⟩ => rfl
    | ⟨1, _⟩ => rfl)]
  rw [broadcastInDim_apply (s := S32) _ _ _ _ (ix1 (n0 := 32) (p 0)) (fun a => by
    match a with
    | ⟨0, _⟩ => rfl)]
  rfl

theorem clipR_lt (s : BitVec 32) : (clipR s).toNat < 4096 := by
  unfold clipR IntOp.minsi IntOp.maxsi
  simp only [BitVec.slt_eq_decide, decide_eq_true_eq]
  have h0 : (0#32 : BitVec 32).toInt = 0 := by decide
  have h1 : (4095#32 : BitVec 32).toInt = 4095 := by decide
  have h2 : (4095#32 : BitVec 32).toNat = 4095 := by decide
  have h3 : (0#32 : BitVec 32).toNat = 0 := by decide
  rw [h0, h1]
  by_cases a : s.toInt < 0
  · rw [if_pos a, h0]; decide
  · rw [if_neg a]
    by_cases b : 4095 < s.toInt
    · rw [if_pos b]; decide
    · rw [if_neg b]
      rw [BitVec.toInt_eq_toNat_cond] at a b
      split at a <;> omega

/-! ## The result -/

set_option maxHeartbeats 4000000 in
theorem main_val (d : Dev nD) (h : All V (mainOps d).ops) (hw : ∀ p, (V (at_ main_arg4) p : BitVec 32).toNat < 4096) (y : S3.Idx) :
    (V (at_ main_v105) : FVec F S32x64x4096 .f32) y = augR (V (at_ main_arg0)) (V (at_ main_arg1)) (V (at_ main_arg2)) (V (at_ main_arg3)) (V (at_ main_arg5))
      (ix3 (n0 := 32) (n1 := 64) (n2 := 4096) (y 0) (y 1) ⟨(V (at_ main_arg4) (ix2 (n0 := 32) (n1 := 4096) (y 0) (y 2)) : BitVec 32).toNat % 4096, Nat.mod_lt _ (by decide)⟩) := by
  obtain ⟨h0, h⟩ := h.call
  obtain ⟨h1, h2⟩ := h.call
  have qv0 := h0.cons.1; replace h0 := h0.cons.2; have qv1 := h0.cons.1; replace h0 := h0.cons.2; have qv2 := h0.cons.1; replace h0 := h0.cons.2
  have qv3 := h0.cons.1; replace h0 := h0.cons.2; have qv4 := h0.cons.1; replace h0 := h0.cons.2; have qv5 := h0.cons.1; replace h0 := h0.cons.2
  have qc := h0.cons.1; replace h0 := h0.cons.2; have qv6 := h0.cons.1; replace h0 := h0.cons.2; have qv7 := h0.cons.1; replace h0 := h0.cons.2
  have qc0 := h0.cons.1; replace h0 := h0.cons.2; have qv8 := h0.cons.1; replace h0 := h0.cons.2; have qv9 := h0.cons.1; replace h0 := h0.cons.2
  have qv10 := h0.cons.1; replace h0 := h0.cons.2; have qc1 := h0.cons.1; replace h0 := h0.cons.2; have qc2 := h0.cons.1; replace h0 := h0.cons.2
  have fClip := h0.call.1; replace h0 := h0.call.2; have qv12 := h0.cons.1; replace h0 := h0.cons.2; have qv13 := h0.cons.1; replace h0 := h0.cons.2
  have qv14 := h0.cons.1; replace h0 := h0.cons.2; have fTake := h0.call.1; replace h0 := h0.call.2; have qk := h0.cons.1; replace h0 := h0.cons.2
  have fWhere := h0.call.1; replace h0 := h0.call.2; have qk3 := h0.cons.1; replace h0 := h0.cons.2; have qk4 := h0.cons.1; replace h0 := h0.cons.2
  have fUni := h0.call.1; replace h0 := h0.call.2; have qv18 := h0.cons.1; replace h0 := h0.cons.2; have qv19 := h0.cons.1; replace h0 := h0.cons.2
  have qv20 := h0.cons.1; replace h0 := h0.cons.2; have qv21 := h0.cons.1; replace h0 := h0.cons.2; have qk5 := h0.cons.1; replace h0 := h0.cons.2
  have qv22 := h0.cons.1; replace h0 := h0.cons.2; have qv23 := h0.cons.1; replace h0 := h0.cons.2; have qk6 := h0.cons.1; replace h0 := h0.cons.2
  have qv24 := h0.cons.1; replace h0 := h0.cons.2; have qv25 := h0.cons.1; replace h0 := h0.cons.2; have qk7 := h0.cons.1; replace h0 := h0.cons.2
  have qv26 := h0.cons.1; replace h0 := h0.cons.2; have qv27 := h0.cons.1; replace h0 := h0.cons.2; have qv28 := h0.cons.1; replace h0 := h0.cons.2
  have qk8 := h0.cons.1; replace h0 := h0.cons.2; have qv29 := h0.cons.1; replace h0 := h0.cons.2; have qv30 := h0.cons.1; replace h0 := h0.cons.2
  have qv31 := h0.cons.1; replace h0 := h0.cons.2; have qk9 := h0.cons.1; replace h0 := h0.cons.2; have qv32 := h0.cons.1; replace h0 := h0.cons.2
  have qv33 := h0.cons.1; replace h0 := h0.cons.2; have qv34 := h0.cons.1; replace h0 := h0.cons.2; have qk10 := h0.cons.1; replace h0 := h0.cons.2
  have qv35 := h0.cons.1; replace h0 := h0.cons.2; have qv36 := h0.cons.1; replace h0 := h0.cons.2; have qv37 := h0.cons.1; replace h0 := h0.cons.2
  have qk11 := h0.cons.1; replace h0 := h0.cons.2; have qv38 := h0.cons.1; replace h0 := h0.cons.2; have qv39 := h0.cons.1; replace h0 := h0.cons.2
  have qv40 := h0.cons.1; replace h0 := h0.cons.2; have qk12 := h0.cons.1; replace h0 := h0.cons.2; have qv41 := h0.cons.1; replace h0 := h0.cons.2
  have qv42 := h0.cons.1; replace h0 := h0.cons.2; have qv43 := h0.cons.1; replace h0 := h0.cons.2; have qk13 := h0.cons.1; replace h0 := h0.cons.2
  have qv44 := h1.cons.1; replace h1 := h1.cons.2; have qv45 := h1.cons.1; replace h1 := h1.cons.2; have qv46 := h1.cons.1; replace h1 := h1.cons.2
  have qk14 := h1.cons.1; replace h1 := h1.cons.2; have qv47 := h1.cons.1; replace h1 := h1.cons.2; have qv48 := h1.cons.1; replace h1 := h1.cons.2
  have qv49 := h1.cons.1; replace h1 := h1.cons.2; have qk15 := h1.cons.1; replace h1 := h1.cons.2; have qv50 := h1.cons.1; replace h1 := h1.cons.2
  have qv51 := h1.cons.1; replace h1 := h1.cons.2; have qk16 := h1.cons.1; replace h1 := h1.cons.2; have qv52 := h1.cons.1; replace h1 := h1.cons.2
  have qv53 := h1.cons.1; replace h1 := h1.cons.2; have qk17 := h1.cons.1; replace h1 := h1.cons.2; have qv54 := h1.cons.1; replace h1 := h1.cons.2
  have qv55 := h1.cons.1; replace h1 := h1.cons.2; have qv56 := h1.cons.1; replace h1 := h1.cons.2; have qk18 := h1.cons.1; replace h1 := h1.cons.2
  have qv57 := h1.cons.1; replace h1 := h1.cons.2; have qv58 := h1.cons.1; replace h1 := h1.cons.2; have qv59 := h1.cons.1; replace h1 := h1.cons.2
  have qk19 := h1.cons.1; replace h1 := h1.cons.2; have qv60 := h1.cons.1; replace h1 := h1.cons.2; have qv61 := h1.cons.1; replace h1 := h1.cons.2
  have qv62 := h1.cons.1; replace h1 := h1.cons.2; have qk20 := h1.cons.1; replace h1 := h1.cons.2; have qv63 := h1.cons.1; replace h1 := h1.cons.2
  have qv64 := h1.cons.1; replace h1 := h1.cons.2; have qv65 := h1.cons.1; replace h1 := h1.cons.2; have qk21 := h1.cons.1; replace h1 := h1.cons.2
  have qv66 := h1.cons.1; replace h1 := h1.cons.2; have qv67 := h1.cons.1; replace h1 := h1.cons.2; have qv68 := h1.cons.1; replace h1 := h1.cons.2
  have qk22 := h1.cons.1; replace h1 := h1.cons.2; have qv69 := h1.cons.1; replace h1 := h1.cons.2; have qv70 := h1.cons.1; replace h1 := h1.cons.2
  have qv71 := h1.cons.1; replace h1 := h1.cons.2; have qk23 := h1.cons.1; replace h1 := h1.cons.2; have qv72 := h1.cons.1; replace h1 := h1.cons.2
  have qv73 := h1.cons.1; replace h1 := h1.cons.2; have qv74 := h1.cons.1; replace h1 := h1.cons.2; have qk24 := h1.cons.1; replace h1 := h1.cons.2
  have qv75 := h1.cons.1; replace h1 := h1.cons.2; have qv76 := h1.cons.1; replace h1 := h1.cons.2; have qk25 := h1.cons.1; replace h1 := h1.cons.2
  have qv77 := h1.cons.1; replace h1 := h1.cons.2; have qv78 := h1.cons.1; replace h1 := h1.cons.2; have fWhere0 := h1.call.1; replace h1 := h1.call.2
  have qv80 := h1.cons.1; replace h1 := h1.cons.2; have qk26 := h1.cons.1; replace h1 := h1.cons.2; have qv81 := h1.cons.1; replace h1 := h1.cons.2
  have qv82 := h1.cons.1; replace h1 := h1.cons.2; have qk27 := h1.cons.1; replace h1 := h1.cons.2; have qv83 := h1.cons.1; replace h1 := h1.cons.2
  have qv84 := h1.cons.1; replace h1 := h1.cons.2; have qv85 := h1.cons.1; replace h1 := h1.cons.2; have qk28 := h1.cons.1; replace h1 := h1.cons.2
  have qv86 := h1.cons.1; replace h1 := h1.cons.2; have qv87 := h1.cons.1; replace h1 := h1.cons.2; have qv88 := h1.cons.1; replace h1 := h1.cons.2
  have qv89 := h2.cons.1; replace h2 := h2.cons.2; have qk29 := h2.cons.1; replace h2 := h2.cons.2; have qv90 := h2.cons.1; replace h2 := h2.cons.2
  have qv91 := h2.cons.1; replace h2 := h2.cons.2; have qv92 := h2.cons.1; replace h2 := h2.cons.2; have qv93 := h2.cons.1; replace h2 := h2.cons.2
  have qk30 := h2.cons.1; replace h2 := h2.cons.2; have qv94 := h2.cons.1; replace h2 := h2.cons.2; have qv95 := h2.cons.1; replace h2 := h2.cons.2
  have qv96 := h2.cons.1; replace h2 := h2.cons.2; have qv97 := h2.cons.1; replace h2 := h2.cons.2; have qk31 := h2.cons.1; replace h2 := h2.cons.2
  have qv98 := h2.cons.1; replace h2 := h2.cons.2; have qv99 := h2.cons.1; replace h2 := h2.cons.2; have qv100 := h2.cons.1; replace h2 := h2.cons.2
  have qv101 := h2.cons.1; replace h2 := h2.cons.2; have qv102 := h2.cons.1; replace h2 := h2.cons.2; have qv103 := h2.cons.1; replace h2 := h2.cons.2
  have qv104 := h2.cons.1; replace h2 := h2.cons.2; have fTake1 := h2.call.1; replace h2 := h2.call.2
  have s5 : V (at_ main_v5) = srcR (V (at_ main_arg2)) := by
    rw [qv5.binary', qv4.unary', qv3.unary', qv2.unary', qv1.unary', qv0.nullary']; exact src_eq _
  have s11 : V (at_ main_v11) = fun p => clipR (srcR (V (at_ main_arg2)) p) := by
    refine (clip_val _ _ _ _ fClip _ _ qc1.nullary' qc2.nullary').trans ?_
    change (fun p => IntOp.minsi _ (IntOp.maxsi _ (V (at_ main_v5) p))) = _
    rw [s5]; rfl
  have s13 : V (at_ main_v13) = fun y => clipR (srcR (V (at_ main_arg2)) (ix2 (n0 := 32) (n1 := 4096) (y 0) (y 2))) := by
    rw [qv13.unary', qv12.unary', s11]; exact funext fun y => spread_at _ y
  have s15 : ∀ y : S3.Idx, (V (at_ main_v15) : FVec F S32x64x4096 .f32) y = (V (at_ main_arg0) : FVec F S32x64x4096 .f32) (ix3 (n0 := 32) (n1 := 64) (n2 := 4096) (y 0) (y 1)
      ⟨(clipR (srcR (V (at_ main_arg2)) (ix2 (n0 := 32) (n1 := 4096) (y 0) (y 2)))).toNat % 4096, Nat.mod_lt _ (by decide)⟩) := fun y => by
    have e : rd V (.of main_v13) = _ := s13
    have := take_val _ _ _ fTake (fun p => by rw [e]; exact clipR_lt _) y
    rw [e] at this
    exact this
  have s10 : V (at_ main_v10) = fun p => IntOp.andi (IntOp.cmpi .sge (srcR (V (at_ main_arg2)) p) 0#32) (IntOp.cmpi .slt (srcR (V (at_ main_arg2)) p) 4096#32) := by
    rw [qv10.binary', qv9.binary', qv8.unary', qc0.nullary', qv7.binary', qv6.unary', qc.nullary', s5]; rfl
  have s16 : V (at_ main_v16) = fun y => shiftR (V (at_ main_arg0)) (V (at_ main_arg2)) y := by
    refine (where_val _ _ _ _ fWhere _ qk.nullary').trans ?_
    have e : rd V (.of main_v14) = _ := qv14.unary'
    rw [e, s10]
    funext y
    unfold shiftR select
    rw [spread_at]
    exact congrArg₂ (Scalar.select _) (s15 y) rfl
  have s17 : V (at_ main_v17) = fun y => unifR (V (at_ main_arg5)) y := by
    funext y
    refine (uniform_val _ _ _ _ fUni y).trans ?_
    have e3 : rd V (.of main_cst_3) = _ := qk3.nullary'
    have e4 : rd V (.of main_cst_4) = _ := qk4.nullary'
    rw [e3, e4]; rfl
  have s21 : V (at_ main_v21) = logR (V (at_ main_v17)) := by
    rw [qv21.unary', qv20.unary', qv19.binary', qv18.unary']; rfl
  have s23 : V (at_ main_v23) = subf (V (at_ main_v21)) (Spec.cst S32x64x4096 0x40200000#32) := by
    rw [qv23.binary', qv22.unary', qk5.nullary', bcst]
  have s48 : V (at_ main_v48) = Spec.central (V (at_ main_v23)) := by
    rw [qv48.binary', qv47.unary', qk14.nullary', qv46.binary', qv45.binary', qv44.unary', qk13.nullary', qv43.binary', qv42.binary', qv41.unary', qk12.nullary', qv40.binary', qv39.binary', qv38.unary', qk11.nullary', qv37.binary', qv36.binary', qv35.unary', qk10.nullary', qv34.binary', qv33.binary', qv32.unary', qk9.nullary', qv31.binary', qv30.binary', qv29.unary', qk8.nullary', qv28.binary', qv27.binary', qv26.unary', qk7.nullary', qv25.binary', qv24.unary', qk6.nullary']
    simp only [bcst]; rfl
  have s51 : V (at_ main_v51) = subf (Host.sqrt (V (at_ main_v21))) (Spec.cst S32x64x4096 0x40400000#32) := by
    rw [qv51.binary', qv50.unary', qk15.nullary', qv49.unary', bcst]
  have s76 : V (at_ main_v76) = Spec.tail (V (at_ main_v51)) := by
    rw [qv76.binary', qv75.unary', qk24.nullary', qv74.binary', qv73.binary', qv72.unary', qk23.nullary', qv71.binary', qv70.binary', qv69.unary', qk22.nullary', qv68.binary', qv67.binary', qv66.unary', qk21.nullary', qv65.binary', qv64.binary', qv63.unary', qk20.nullary', qv62.binary', qv61.binary', qv60.unary', qk19.nullary', qv59.binary', qv58.binary', qv57.unary', qk18.nullary', qv56.binary', qv55.binary', qv54.unary', qk17.nullary', qv53.binary', qv52.unary', qk16.nullary']
    simp only [bcst]; rfl
  have s79 : V (at_ main_v79) = select (V (at_ main_v78)) (V (at_ main_v48)) (V (at_ main_v76)) := fWhere0.cons.1.ternary
  have s82 : V (at_ main_v82) = normalR (V (at_ main_v17)) := by
    rw [qv82.binary', qv81.unary', qk26.nullary', qv80.binary', s79, qv78.binary', qv77.unary', qk25.nullary', s76, s48, s51, s23, s21, bcst, bcst]; rfl
  have s85 : V (at_ main_v85) = fun y => jitR (V (at_ main_arg0)) (V (at_ main_arg2)) (V (at_ main_arg5)) y := by
    rw [qv85.binary', qv84.binary', qv83.unary', qk27.nullary', s82, s16, s17, bcst]; rfl
  have s88 : V (at_ main_v88) = uitofp .f32 (cmpf .olt (V (at_ main_arg3)) (Spec.cst S32x64x1 0x3DCCCCCD#32)) := by
    rw [qv88.unary', qv87.binary', qv86.unary', qk28.nullary']; rfl
  have s102 : V (at_ main_v102) = augR (V (at_ main_arg0)) (V (at_ main_arg1)) (V (at_ main_arg2)) (V (at_ main_arg3)) (V (at_ main_arg5)) := by
    rw [qv102.binary', qv101.binary', qv100.unary', qv99.binary', qv98.unary', qk31.nullary', qv97.binary', qv96.unary', qv95.binary', qv94.unary', qk30.nullary',
      qv93.binary', qv92.unary', qv91.binary', qv90.unary', qk29.nullary', qv89.unary', s88, s85]
    funext y
    have m1 := unit_at (V (at_ main_arg1) : FVec F S32x64 .f32) (y 0) (y 1)
    unfold augR mixR
    rw [← m1]
    change FloatOps.addf (FloatOps.mulf (FloatOps.mulf _ (broadcastInDim _ _ _ _ y)) (broadcastInDim _ _ _ _ y)) (FloatOps.mulf _ (broadcastInDim _ _ _ _ y)) = _
    rw [chan_at, chan_at]
    rfl
  have e2 : rd V (.of main_v104) = fun y : S3.Idx => (V (at_ main_arg4) : IVec S32x4096 32) (ix2 (n0 := 32) (n1 := 4096) (y 0) (y 2)) := by
    refine qv104.unary'.trans ?_
    rw [qv103.unary']; exact funext fun y => spread_at _ y
  have ht := take1_val _ _ _ fTake1 (fun p => by rw [e2]; exact hw _) y
  rw [e2] at ht
  have e3 : rd V (.of main_v102) = _ := s102
  rw [e3] at ht
  exact ht

end Cert.Proof.RefRun
end
-- ==== Proof.KerVal.lean ====
/-
  The kernel's result, element by element, from the arguments; and what the precondition says of them.
-/
module

public import proofs.«01_k».proof.Proof.LaunchIdeal
public import proofs.«01_k».proof.Proof.AugMade
public import proofs.«01_k».proof.Proof.RefVal
public import proofs.«01_k».proof.Proof.Gen.Pre_in_range

@[expose] public section

set_option maxRecDepth 16384

noncomputable section

namespace Cert.Proof.Val

open Idealize.ShloMosaic
open Cert.Proof.TileIdeal (Near rollZ andi_bool)

abbrev S3 : Shape := ⟨3, ![32, 64, 4096]⟩
abbrev S2 : Shape := ⟨2, ![32, 4096]⟩

/-- Element `(b, c, t)` of the result: row `(b, c)` of `x` at the index `i[b, t]`. -/
def taken {α : Type} (x : S3.Idx → α) (i : S2.Idx → BitVec 32) : S3.Idx → α :=
  fun y => x (ix3 (n0 := 32) (n1 := 64) (n2 := 4096) (y 0) (y 1) ⟨(i (ix2 (n0 := 32) (n1 := 4096) (y 0) (y 2))).toNat % 4096, Nat.mod_lt _ (by decide)⟩)

section Pre
open Cert.Pre_in_range Cert.Pre_in_range.Gen
instance : Subsingleton Cert.Pre_in_range.S_.Idx := ⟨fun _ _ => funext fun a => a.elim0⟩

theorem near_of_bits (v : BitVec 32) (e : IntOp.andi (IntOp.cmpi .sge v 4294967232#32) (IntOp.cmpi .sle v 64#32) = 1#1) : Near v := by
  have h0 : (4294967232#32 : BitVec 32).toInt = -64 := by decide
  have h1 : (64#32 : BitVec 32).toInt = 64 := by decide
  simp only [IntOp.cmpi, andi_bool, RefRun.ofBool_eq_one, Bool.and_eq_true, BitVec.sle_eq_decide, decide_eq_true_eq, h0, h1] at e
  exact e

theorem and_one (a b : BitVec 1) (h : IntOp.andi a b = 1#1) : a = 1#1 ∧ b = 1#1 := by
  revert a b; decide

/-- The precondition gives every shift near, and every index in range. -/
theorem ranges_of_pre {F : FTy → Type} [FloatOps F] (x : FVec F S32x64x4096 .f32) (mm : FVec F S32x64 .f32) (sh : IVec S32 32) (u : FVec F S32x64x1 .f32)
    (i : IVec S32x4096 32) (kn : IVec Cert.Pre_in_range.S2 32) (h : Cert.Pre_in_range.fn (F := F) x mm sh u i kn = fun _ => 1#1) :
    (∀ p, Near (sh p)) ∧ ∀ p, (i p).toNat < 4096 := by
  have h := and_one _ _ (congrFun h fun a => a.elim0)
  exact ⟨fun p => near_of_bits _ (Host.reduce_andi_all _ _ _ _ _ h.1 p), fun p => RefRun.range_of_bits _ (Host.reduce_andi_all _ _ _ _ _ h.2 p)⟩
end Pre

section Ker
open Cert.KernelIdeal Cert.KernelIdeal.Gen
open Cert.Proof.TileIdeal
open Idealize.ShloMosaic.StableHlo

/-- The scale of a channel, as the kernel's host operations compute it. -/
def scaleK (mm : FVec Ideal S32x64 .f32) (u : FVec Ideal S32x64x1 .f32) (b : Fin 32) (c : Fin 64) : EReal :=
  FloatOps.addf (FloatOps.mulf (FloatOps.subf (Scalar.ofBits .f32 0x3F800000#32 : Ideal .f32) (RefRun.dropR (F := Ideal) u b c))
      (FloatOps.subf (Scalar.ofBits .f32 0x3F800000#32) (mm (ix2 (n0 := 32) (n1 := 64) b c))))
    (FloatOps.subf (Scalar.ofBits .f32 0x3F800000#32) (mm (ix2 (n0 := 32) (n1 := 64) b c)))

/-- The scale of every channel, as the kernel's host operations make it. -/
def scaleV (mm : FVec Ideal S32x64 .f32) (u : FVec Ideal S32x64x1 .f32) : FVec Ideal S32x64x1 .f32 :=
  addf (mulf (subf (Spec.cst S32x64x1 0x3F800000#32) (uitofp .f32 (cmpf .olt u (Spec.cst S32x64x1 0x3DCCCCCD#32))))
      (subf (Spec.cst S32x64x1 0x3F800000#32) (broadcastInDim S32x64x1 ![0, 1] bcast_S32x64_S32x64x1_0_1 mm)))
    (subf (Spec.cst S32x64x1 0x3F800000#32) (broadcastInDim S32x64x1 ![0, 1] bcast_S32x64_S32x64x1_0_1 mm))

variable (m : (ℓ : Loc nD τ sig) → Buf (Elt Ideal) ℓ) (d : Dev nD)

theorem key_eq : Wh m d main_v12 = m ((d.tc : Thread nD τ).loc main_arg5) := by
  unfold Wh Vh hostOps
  after_results
  rfl

theorem scale_eq (b : Fin 32) (c : Fin 64) : (Wh m d main_v11 : FVec Ideal S32x64x1 .f32) (ix3 (n0 := 32) (n1 := 64) (n2 := 1) b c 0)
    = scaleK (m ((d.tc : Thread nD τ).loc main_arg1)) (m ((d.tc : Thread nD τ).loc main_arg3)) b c := by
  have e : Wh m d main_v11 = scaleV (m ((d.tc : Thread nD τ).loc main_arg1)) (m ((d.tc : Thread nD τ).loc main_arg3)) := by
    unfold Wh Vh hostOps
    after_results
    rfl
  rw [e]
  have m1 : broadcastInDim S32x64x1 ![0, 1] bcast_S32x64_S32x64x1_0_1 (m ((d.tc : Thread nD τ).loc main_arg1) : FVec Ideal S32x64 .f32) (ix3 (n0 := 32) (n1 := 64) (n2 := 1) b c 0)
      = (m ((d.tc : Thread nD τ).loc main_arg1) : FVec Ideal S32x64 .f32) (ix2 (n0 := 32) (n1 := 64) b c) := RefRun.unit_at _ b c
  unfold scaleV scaleK
  rw [← m1]
  rfl

/-- The kernel's result, read at three axes. -/
theorem res_eq (hpre : PreOK m) : resOf m d = taken (made (Wh m) d) (iOf m d) := by
  funext y
  have h1 : (y 1).val < 64 := (y 1).isLt
  have h2 : (y 2).val < 4096 := (y 2).isLt
  have hi : (iOf m d (ix2 (n0 := 32) (n1 := 4096) (y 0) (y 2))).toNat < 4096 := hpre d _
  unfold resOf
  rw [shapeCast_apply _ _ y (ix2 (n0 := 32) (n1 := 262144) (y 0) ⟨(y 1).val * 4096 + (y 2).val, by omega⟩) (by
    refine (Shape.rowMajor_val_two (d := ![32, 262144]) _).trans (Eq.trans ?_ (Shape.rowMajor_val_three (d := ![32, 64, 4096]) y).symm)
    change (y 0).val * 262144 + ((y 1).val * 4096 + (y 2).val) = ((y 0).val * 64 + (y 1).val) * 4096 + (y 2).val
    omega)]
  have hr : rowI (y 0) (((y 1).val * 4096 + (y 2).val) % 4096) = ix2 (n0 := 32) (n1 := 4096) (y 0) (y 2) := by
    unfold rowI
    refine (ix2_inj _ _ _ _).mpr ⟨rfl, Fin.ext ?_⟩
    change ((y 1).val * 4096 + (y 2).val) % 4096 % 4096 = (y 2).val
    omega
  change yOf m d (rowY (y 0) (((y 1).val * 4096 + (y 2).val) / 4096 * 4096 + (iOf m d (rowI (y 0) (((y 1).val * 4096 + (y 2).val) % 4096))).toNat)) = _
  rw [hr]
  unfold taken yOf
  refine shapeCast_apply _ _ _ _ ?_
  refine (Shape.rowMajor_val_three (d := ![32, 64, 4096]) _).trans (Eq.trans ?_ (Shape.rowMajor_val_two (d := ![32, 262144]) _).symm)
  change ((y 0).val * 64 + (y 1).val) * 4096 + (iOf m d (ix2 (n0 := 32) (n1 := 4096) (y 0) (y 2))).toNat % 4096
    = (y 0).val * 262144 + (((y 1).val * 4096 + (y 2).val) / 4096 * 4096 + (iOf m d (ix2 (n0 := 32) (n1 := 4096) (y 0) (y 2))).toNat) % 262144
  omega

/-- The array the gather reads, from the arguments. -/
def augKV (x : FVec Ideal S32x64x4096 .f32) (mm : FVec Ideal S32x64 .f32) (sh : IVec S32 32) (u : FVec Ideal S32x64x1 .f32) (kn : IVec Cert.KernelIdeal.S2 32) : FVec Ideal S32x64x4096 .f32 := fun y =>
  augAt (kn (ix1 (n0 := 2) 0)) (kn (ix1 (n0 := 2) 1)) (scaleK mm u (y 0) (y 1))
    (rollZ (Scalar.ofBits .f32 0x00000000#32) (sh (ix1 (n0 := 32) (y 0))) (fun s => x (ix3 (n0 := 32) (n1 := 64) (n2 := 4096) (y 0) (y 1) s)) (y 2))
    (BitVec.ofNat 32 (((y 0).val * 64 + (y 1).val) * 4096 + (y 2).val))

theorem ker_val (hpre : PreOK m) (hs : ∀ b, Near ((m ((d.tc : Thread nD τ).loc main_arg2) : IVec S32 32) b)) :
    resOf m d = taken (augKV (m ((d.tc : Thread nD τ).loc main_arg0)) (m ((d.tc : Thread nD τ).loc main_arg1)) (m ((d.tc : Thread nD τ).loc main_arg2))
      (m ((d.tc : Thread nD τ).loc main_arg3)) (m ((d.tc : Thread nD τ).loc main_arg5))) (m ((d.tc : Thread nD τ).loc main_arg4)) := by
  have h0 : Wh m d main_arg0 = m ((d.tc : Thread nD τ).loc main_arg0) := Vh_of m d (by decide)
  have h2 : Wh m d main_arg2 = m ((d.tc : Thread nD τ).loc main_arg2) := Vh_of m d (by decide)
  rw [res_eq m d hpre, made_eq (Wh m) d (by rw [h2]; exact hs), h0, h2, key_eq]
  refine congrArg (fun a => taken a (iOf m d)) (funext fun y => ?_)
  exact congrArg (fun s => augAt _ _ s _ _) (scale_eq m d (y 0) (y 1))
end Ker

end Cert.Proof.Val
end
-- ==== Proof.Equal.lean ====
/-
  The kernel's element and the reference's are the same extended real: the shifted row, the uniform, its noise, channel dropout.
-/
module

public import proofs.«01_k».proof.Proof.KerVal
public import Idealize.ShloMosaic.Lib.IdealHost

@[expose] public section

noncomputable section

namespace Cert.Proof.Val

open Idealize.ShloMosaic
open Cert.Proof.TileIdeal (Near rollZ andi_bool sel_bool)
open Cert.Proof.RefRun (srcR clipR clipR_lt uniR logR nrmR augR)

/-! ## Patterns as real numbers -/

/-- A pattern whose exponent is neither all ones nor zero. -/
theorem normal_bits (b : BitVec 32) (h0 : (b.extractLsb' 23 8).toNat ≠ 0) (h1 : (b.extractLsb' 23 8).toNat ≠ 255) :
    Ideal.ofBits .f32 b = (((if (b.extractLsb' 31 1 == 1#1) = true then (-1 : ℝ) else 1) * ((2 ^ 23 + (b.extractLsb' 0 23).toNat : ℕ) : ℝ)
      * (2 : ℝ) ^ (((b.extractLsb' 23 8).toNat : ℤ) - 127 - 23) : ℝ) : EReal) := by
  change Ideal.ieee 8 23 b = _
  unfold Ideal.ieee
  dsimp only
  rw [if_neg (by simpa using h1), if_neg h0]
  norm_num

theorem lo_val : Ideal.ofBits .f32 0xBF7FFFFF#32 = ((-16777215 / 16777216 : ℝ) : EReal) := by
  rw [normal_bits _ (by decide) (by decide)]
  refine congrArg _ ?_
  rw [if_pos (by decide), show (BitVec.extractLsb' 0 23 0xBF7FFFFF#32).toNat = 8388607 by decide, show (BitVec.extractLsb' 23 8 0xBF7FFFFF#32).toNat = 126 by decide]
  norm_num

/-- The random mantissa under exponent zero is a real number. -/
theorem mant_real (b : BitVec 32) : ∃ f : ℝ, Spec.mant (F := Ideal) (S := Spec.S0) (fun _ => b) (fun a => a.elim0) = (f : EReal) := by
  have e : ((b >>> 9 ||| 1065353216#32).extractLsb' 23 8) = 127#8 := by
    ext i hi
    interval_cases i <;> simp
  refine ⟨_, (normal_bits (b >>> 9 ||| 1065353216#32) (by rw [e]; decide) (by rw [e]; decide))⟩

theorem span_val : (TileIdeal.span : Ideal .f32) = ((33554431 / 16777216 : ℝ) : EReal) :=
  IdealRules.named_const.ideal_named_scalar _ _ _ _ rfl
theorem off_val : (TileIdeal.off : Ideal .f32) = ((-25165823 / 8388608 : ℝ) : EReal) :=
  IdealRules.named_const.ideal_named_scalar _ _ _ _ rfl

theorem uni_eq (b : BitVec 32) : ∃ x : ℝ, Spec.uni (F := Ideal) TileIdeal.span TileIdeal.off b = (x : EReal)
    ∧ uniR (F := Ideal) (Scalar.ofBits .f32 0xBF7FFFFF#32) (Scalar.ofBits .f32 0x3F800000#32) b = (x : EReal) := by
  obtain ⟨f, hf⟩ := mant_real b
  refine ⟨max (-16777215 / 16777216) (f * (33554431 / 16777216) + (-25165823 / 8388608)), ?_, ?_⟩
  · change max (Ideal.ofBits .f32 0xBF7FFFFF#32) (Spec.mant (F := Ideal) (S := Spec.S0) (fun _ => b) (fun a => a.elim0) * (TileIdeal.span : Ideal .f32) + (TileIdeal.off : Ideal .f32) : EReal) = _
    rw [hf, lo_val, span_val, off_val]
    push_cast
    rfl
  · change max (Ideal.ofBits .f32 0xBF7FFFFF#32) ((Spec.mant (F := Ideal) (S := Spec.S0) (fun _ => b) (fun a => a.elim0) - Ideal.ofBits .f32 0x3F800000#32)
      * (Ideal.ofBits .f32 0x3F800000#32 - Ideal.ofBits .f32 0xBF7FFFFF#32) + Ideal.ofBits .f32 0xBF7FFFFF#32 : EReal) = _
    rw [hf, lo_val, Ideal.ofBits_one_f32]
    rw [show (f * (33554431 / 16777216) + (-25165823 / 8388608) : ℝ) = (f - 1) * (1 - -16777215 / 16777216) + -16777215 / 16777216 by ring]
    push_cast
    rfl

/-! ## The noise -/

/-- `-log ((1 - x) (1 + x)) = -log1p (-x · x)`. -/
theorem log_eq (x : ℝ) : Spec.lgK (F := Ideal) (x : EReal) = logR (F := Ideal) (S := Spec.S0) (fun _ => (x : EReal)) (fun a => a.elim0) := by
  change (Ideal.ofBits .f32 0x00000000#32 : EReal) - Ideal.log ((Ideal.ofBits .f32 0x3F800000#32 - (x : EReal)) * (Ideal.ofBits .f32 0x3F800000#32 + (x : EReal)))
    = -Ideal.log (1 + -(x : EReal) * (x : EReal))
  rw [Ideal.ofBits_zero_f32, Ideal.ofBits_one_f32, zero_sub]
  refine congrArg (fun z => -Ideal.log z) ?_
  rw [show (1 : EReal) = ((1 : ℝ) : EReal) from rfl, ← EReal.coe_sub, ← EReal.coe_add, ← EReal.coe_mul, ← EReal.coe_neg, ← EReal.coe_mul, ← EReal.coe_add]
  refine congrArg _ ?_
  ring

theorem nrm_eq (x : ℝ) : Spec.nrm (F := Ideal) (Spec.lgK (F := Ideal) (x : EReal)) (x : EReal) = nrmR (F := Ideal) (x : EReal) := by
  rw [log_eq]
  rfl

theorem noise_eq (k0 k1 n : BitVec 32) : Spec.noise (F := Ideal) TileIdeal.span TileIdeal.off k0 k1 n
    = nrmR (F := Ideal) (uniR (Scalar.ofBits .f32 0xBF7FFFFF#32) (Scalar.ofBits .f32 0x3F800000#32) (Spec.bit k0 k1 n)) := by
  obtain ⟨x, h1, h2⟩ := uni_eq (Spec.bit k0 k1 n)
  unfold Spec.noise
  rw [h1, h2]
  exact nrm_eq x

/-! ## The shift -/

theorem src_int (t : ℕ) (ht : t < 4096) (sh : BitVec 32) (h : Near sh) : (BitVec.ofNat 32 t - sh).toInt = (t : ℤ) - sh.toInt := by
  obtain ⟨h0, h1⟩ := h
  have e : (BitVec.ofNat 32 t).toInt = (t : ℤ) := by
    rw [BitVec.toInt_eq_toNat_cond, BitVec.toNat_ofNat, Nat.mod_eq_of_lt (by omega), if_pos (by omega)]
  rw [BitVec.toInt_sub, e]
  refine Int.bmod_eq_of_le ?_ ?_ <;> norm_num <;> omega

theorem pick_eq {α : Type} (s : BitVec 32) (row : Fin 4096 → α) (z : α) :
    (if 0 ≤ s.toInt ∧ s.toInt < 4096 then row ⟨s.toInt.toNat % 4096, Nat.mod_lt _ (by decide)⟩ else z)
      = Scalar.select (IntOp.andi (IntOp.cmpi .sge s 0#32) (IntOp.cmpi .slt s 4096#32)) (row ⟨(clipR s).toNat % 4096, Nat.mod_lt _ (by decide)⟩) z := by
  have hge : IntOp.cmpi .sge s 0#32 = BitVec.ofBool (decide (0 ≤ s.toInt)) := by
    change BitVec.ofBool ((0#32).sle s) = _
    rw [BitVec.sle_eq_decide]; rfl
  have hlt : IntOp.cmpi .slt s 4096#32 = BitVec.ofBool (decide (s.toInt < 4096)) := by
    change BitVec.ofBool (s.slt 4096#32) = _
    rw [BitVec.slt_eq_decide]; rfl
  rw [hge, hlt, andi_bool, sel_bool]
  by_cases c : 0 ≤ s.toInt ∧ s.toInt < 4096
  · rw [if_pos c, if_pos (by simpa using c)]
    refine congrArg row (Fin.ext ?_)
    have e : clipR s = s := by
      unfold clipR IntOp.minsi IntOp.maxsi
      have h1 : (4095#32 : BitVec 32).toInt = 4095 := by decide
      have h0 : (0#32 : BitVec 32).toInt = 0 := by decide
      simp only [BitVec.slt_eq_decide, decide_eq_true_eq, h0, h1]
      rw [if_neg (show ¬ s.toInt < 0 by omega), if_neg (by omega)]
    change s.toInt.toNat % 4096 = (clipR s).toNat % 4096
    rw [e]
    refine congrArg (· % 4096) ?_
    have c0 := c.1
    rw [BitVec.toInt_eq_toNat_cond] at c0 ⊢
    split at c0 <;> rename_i h
    · rw [if_pos h]; rfl
    · omega
  · rw [if_neg c, if_neg (by simpa using c)]

/-! ## Channel dropout -/

theorem twice (q : EReal) : q + q = 2 * q := by
  have h2 : (2 : EReal) = ((2 : ℝ) : EReal) := rfl
  induction q with
  | bot => rw [h2, EReal.coe_mul_bot_of_pos (by norm_num)]; rfl
  | top => rw [h2, EReal.coe_mul_top_of_pos (by norm_num)]; rfl
  | coe r =>
    rw [h2, ← EReal.coe_add, ← EReal.coe_mul]
    exact congrArg _ (two_mul r).symm

/-- With a mask of zero or one, scaling by the sum of the two factors is adding the two products. -/
theorem drop_eq (b : Bool) (q a : EReal) :
    ((1 - (((BitVec.ofBool b).toNat : ℝ) : EReal)) * q + q) * a = a * (1 - (((BitVec.ofBool b).toNat : ℝ) : EReal)) * q + a * q := by
  have h1 : (1 : EReal) = ((1 : ℝ) : EReal) := rfl
  cases b
  · have e : (1 : EReal) - (((BitVec.ofBool false).toNat : ℝ) : EReal) = 1 := by
      rw [h1, ← EReal.coe_sub]
      refine congrArg _ ?_
      norm_num
    rw [e, one_mul, mul_one, twice, twice, mul_comm a q, mul_assoc]
  · have e : (1 : EReal) - (((BitVec.ofBool true).toNat : ℝ) : EReal) = 0 := by
      rw [h1, ← EReal.coe_sub]
      refine congrArg _ ?_
      change (1 : ℝ) - ((1 : ℕ) : ℝ) = 0
      norm_num
    rw [e, zero_mul, mul_zero, zero_mul, zero_add, zero_add, mul_comm]

theorem mix_eq (mm : FVec Ideal Cert.KernelIdeal.S32x64 .f32) (u : FVec Ideal Cert.KernelIdeal.S32x64x1 .f32) (b : Fin 32) (c : Fin 64) (a : EReal) :
    scaleK mm u b c * a = RefRun.mixR (F := Ideal) mm u b c a := by
  change ((Ideal.ofBits .f32 0x3F800000#32 - _) * _ + _) * a = a * (Ideal.ofBits .f32 0x3F800000#32 - _) * _ + a * _
  rw [Ideal.ofBits_one_f32]
  exact drop_eq _ _ a

/-- The kernel's array and the reference's, before the last gather, are one. -/
theorem aug_eq (x : FVec Ideal S3 .f32) (mm : FVec Ideal Cert.KernelIdeal.S32x64 .f32) (sh : IVec Cert.KernelIdeal.S32 32)
    (u : FVec Ideal Cert.KernelIdeal.S32x64x1 .f32) (kn : IVec Cert.KernelIdeal.S2 32) (h : ∀ p, Near (sh p)) (y : S3.Idx) :
    augKV x mm sh u kn y = augR x mm sh u kn y := by
  have hs : rollZ (Scalar.ofBits .f32 0x00000000#32 : Ideal .f32) (sh (ix1 (n0 := 32) (y 0))) (fun s => x (ix3 (n0 := 32) (n1 := 64) (n2 := 4096) (y 0) (y 1) s)) (y 2)
      = RefRun.shiftR (F := Ideal) x sh y := by
    unfold rollZ RefRun.shiftR srcR
    have e := src_int (y 2).val (y 2).isLt _ (h (ix1 (n0 := 32) (y 0)))
    simp only [← e]
    exact pick_eq (BitVec.ofNat 32 (y 2).val - sh (ix1 (n0 := 32) (y 0))) (fun s => x (ix3 (n0 := 32) (n1 := 64) (n2 := 4096) (y 0) (y 1) s)) _
  unfold augKV TileIdeal.augAt augR RefRun.jitR RefRun.unifR RefRun.flat
  rw [hs, noise_eq]
  exact mix_eq mm u (y 0) (y 1) _

end Cert.Proof.Val
-- ==== Proof.RefRun.lean ====
/-
  The reference's operations write their buffers in order, so the whole program is a straight line: it runs to its end,
  every buffer at what the line leaves, and each operation's equation holds of that.
-/
module

public import proofs.«01_k».proof.Proof.RefOps

@[expose] public section

set_option maxRecDepth 16384

noncomputable section

namespace Cert.Proof.RefRun

open Cert.ReferenceIdeal Cert.ReferenceIdeal.Gen
open Idealize.ShloMosaic Idealize.ShloMosaic.TcCoe Idealize.SL.Sem Idealize.ShloMosaic.StableHlo

variable {F : FTy → Type} [FloatOps F]

section Order
variable {n : ℕ} {p k : Pr F}
theorem Line.step {op : HloOp τ sig (Elt F)} {l : LineOf k} (h : Ok n op) (h' : Line (n + 1) l.ops) : Line n (LineOf.step (op := op) l).ops := ⟨h, h'⟩
theorem Line.last {op : HloOp τ sig (Elt F)} (h : Ok n op) : Line n (LineOf.last (op := op)).ops := ⟨h, trivial⟩
theorem Line.stop : Line n (LineOf.stop (F := F)).ops := trivial
theorem Line.call {l : LineOf p} {l' : LineOf k} (j : ℕ) (h : Line n l.ops) (hj : l.ops.length = j) (h' : Line (n + j) l'.ops) : Line n (l.call l').ops :=
  h.append j hj h'
end Order

theorem clipOps_len (arg0 arg1 arg2 φ) : (clipOps (F := F) arg0 arg1 arg2 φ).ops.length = 6 := rfl
theorem takeOps_len (arg0 arg1 φ) : (takeOps (F := F) arg0 arg1 φ).ops.length = 22 := rfl
theorem whereOps_len (arg0 arg1 arg2 φ) : (whereOps (F := F) arg0 arg1 arg2 φ).ops.length = 4 := rfl
theorem tfOps0_len (arg0 arg1 arg2 arg3 φ) : (tfOps0 (F := F) arg0 arg1 arg2 arg3 φ).ops.length = 60 := rfl
theorem tfOps1_len (arg0 arg1 arg2 arg3 φ) : (tfOps1 (F := F) arg0 arg1 arg2 arg3 φ).ops.length = 60 := rfl
theorem tfOps2_len (arg0 arg1 arg2 arg3 φ) : (tfOps2 (F := F) arg0 arg1 arg2 arg3 φ).ops.length = 60 := rfl
theorem tfOps3_len (arg0 arg1 arg2 arg3 φ) : (tfOps3 (F := F) arg0 arg1 arg2 arg3 φ).ops.length = 42 := rfl
theorem where0Ops_len (arg0 arg1 arg2 φ) : (where0Ops (F := F) arg0 arg1 arg2 φ).ops.length = 1 := rfl
theorem take1Ops_len (arg0 arg1 φ) : (take1Ops (F := F) arg0 arg1 φ).ops.length = 22 := rfl
theorem step_len {op : HloOp τ sig (Elt F)} {k : Pr F} {l : LineOf k} {n : ℕ} (h : l.ops.length = n) : (LineOf.step (op := op) l).ops.length = n + 1 := by
  subst h; rfl
theorem call_len {p k : Pr F} {l : LineOf p} {l' : LineOf k} (j : ℕ) {n : ℕ} (hj : l.ops.length = j) (h : l'.ops.length = n) : (l.call l').ops.length = n + j := by
  subst hj h; exact List.length_append.trans (Nat.add_comm _ _)
theorem last_len {op : HloOp τ sig (Elt F)} : (LineOf.last (op := op)).ops.length = 1 := rfl
theorem stop_len : (LineOf.stop (F := F)).ops.length = 0 := rfl

attribute [local irreducible] LineOf.step LineOf.call LineOf.last LineOf.stop

theorem tfOps_len (arg0 arg1 arg2 arg3 φ) : (tfOps (F := F) arg0 arg1 arg2 arg3 φ).ops.length = 222 := by
  delta tfOps
  repeat' first | exact stop_len | exact last_len | refine step_len ?_ | refine call_len 60 (tfOps0_len ..) ?_ | refine call_len 60 (tfOps1_len ..) ?_ | refine call_len 60 (tfOps2_len ..) (tfOps3_len ..)
theorem uniformOps_len (arg0 arg1 arg2 φ) : (uniformOps (F := F) arg0 arg1 arg2 φ).ops.length = 265 := by
  delta uniformOps
  repeat' first | exact stop_len | exact last_len | refine step_len ?_ | refine call_len 222 (tfOps_len ..) ?_
theorem mainOps0_len (d : Dev nD) : (mainOps0 (F := F) d).ops.length = 353 := by
  delta mainOps0
  repeat' first | exact stop_len | exact last_len | refine step_len ?_ | refine call_len 6 (clipOps_len ..) ?_ | refine call_len 22 (takeOps_len ..) ?_ | refine call_len 4 (whereOps_len ..) ?_ | refine call_len 265 (uniformOps_len ..) ?_
theorem mainOps1_len (d : Dev nD) : (mainOps1 (F := F) d).ops.length = 60 := by
  delta mainOps1
  repeat' first | exact stop_len | exact last_len | refine step_len ?_ | refine call_len 1 (where0Ops_len ..) ?_

theorem clip_line : Line 21 (clipOps (F := F) (.of main_v5) (.of main_c_1) (.of main_c_2) main_call0).ops := by
  delta clipOps
  repeat' first | exact Line.stop | refine Line.step (Ok.nullary rfl) ?_ | refine Line.step (Ok.unary rfl (by decide)) ?_ | refine Line.step (Ok.binary rfl (by decide) (by decide)) ?_ | refine Line.step (Ok.ternary rfl (by decide) (by decide) (by decide)) ?_ | refine Line.step (Ok.reshape rfl (by decide)) ?_ | exact Line.last (Ok.unary rfl (by decide)) | exact Line.last (Ok.nullary rfl) | exact Line.last (Ok.binary rfl (by decide) (by decide))
theorem take_line : Line 30 (takeOps (F := F) (.of main_arg0) (.of main_v13) main_call1).ops := by
  delta takeOps
  repeat' first | exact Line.stop | refine Line.step (Ok.nullary rfl) ?_ | refine Line.step (Ok.unary rfl (by decide)) ?_ | refine Line.step (Ok.binary rfl (by decide) (by decide)) ?_ | refine Line.step (Ok.ternary rfl (by decide) (by decide) (by decide)) ?_ | refine Line.step (Ok.reshape rfl (by decide)) ?_ | exact Line.last (Ok.unary rfl (by decide)) | exact Line.last (Ok.nullary rfl) | exact Line.last (Ok.binary rfl (by decide) (by decide))
theorem where_line : Line 53 (whereOps (F := F) (.of main_v14) (.of main_v15) (.of main_cst) main_call2).ops := by
  delta whereOps
  repeat' first | exact Line.stop | refine Line.step (Ok.nullary rfl) ?_ | refine Line.step (Ok.unary rfl (by decide)) ?_ | refine Line.step (Ok.binary rfl (by decide) (by decide)) ?_ | refine Line.step (Ok.ternary rfl (by decide) (by decide) (by decide)) ?_ | refine Line.step (Ok.reshape rfl (by decide)) ?_ | exact Line.last (Ok.unary rfl (by decide)) | exact Line.last (Ok.nullary rfl) | exact Line.last (Ok.binary rfl (by decide) (by decide))
theorem tf_line0 : Line 84 (tfOps0 (F := F) main_call3.v3 main_call3.v5 main_call3.v20 main_call3.v19 main_call3_call0).ops := by
  delta tfOps0
  repeat' first | exact Line.stop | refine Line.step (Ok.nullary rfl) ?_ | refine Line.step (Ok.unary rfl (by decide)) ?_ | refine Line.step (Ok.binary rfl (by decide) (by decide)) ?_ | refine Line.step (Ok.ternary rfl (by decide) (by decide) (by decide)) ?_ | refine Line.step (Ok.reshape rfl (by decide)) ?_ | exact Line.last (Ok.unary rfl (by decide)) | exact Line.last (Ok.nullary rfl) | exact Line.last (Ok.binary rfl (by decide) (by decide))
theorem tf_line1 : Line 144 (tfOps1 (F := F) main_call3.v3 main_call3.v5 main_call3.v20 main_call3.v19 main_call3_call0).ops := by
  delta tfOps1
  repeat' first | exact Line.stop | refine Line.step (Ok.nullary rfl) ?_ | refine Line.step (Ok.unary rfl (by decide)) ?_ | refine Line.step (Ok.binary rfl (by decide) (by decide)) ?_ | refine Line.step (Ok.ternary rfl (by decide) (by decide) (by decide)) ?_ | refine Line.step (Ok.reshape rfl (by decide)) ?_ | exact Line.last (Ok.unary rfl (by decide)) | exact Line.last (Ok.nullary rfl) | exact Line.last (Ok.binary rfl (by decide) (by decide))
theorem tf_line2 : Line 204 (tfOps2 (F := F) main_call3.v3 main_call3.v5 main_call3.v20 main_call3.v19 main_call3_call0).ops := by
  delta tfOps2
  repeat' first | exact Line.stop | refine Line.step (Ok.nullary rfl) ?_ | refine Line.step (Ok.unary rfl (by decide)) ?_ | refine Line.step (Ok.binary rfl (by decide) (by decide)) ?_ | refine Line.step (Ok.ternary rfl (by decide) (by decide) (by decide)) ?_ | refine Line.step (Ok.reshape rfl (by decide)) ?_ | exact Line.last (Ok.unary rfl (by decide)) | exact Line.last (Ok.nullary rfl) | exact Line.last (Ok.binary rfl (by decide) (by decide))
theorem tf_line3 : Line 264 (tfOps3 (F := F) main_call3.v3 main_call3.v5 main_call3.v20 main_call3.v19 main_call3_call0).ops := by
  delta tfOps3
  repeat' first | exact Line.stop | refine Line.step (Ok.nullary rfl) ?_ | refine Line.step (Ok.unary rfl (by decide)) ?_ | refine Line.step (Ok.binary rfl (by decide) (by decide)) ?_ | refine Line.step (Ok.ternary rfl (by decide) (by decide) (by decide)) ?_ | refine Line.step (Ok.reshape rfl (by decide)) ?_ | exact Line.last (Ok.unary rfl (by decide)) | exact Line.last (Ok.nullary rfl) | exact Line.last (Ok.binary rfl (by decide) (by decide))
theorem tf_line : Line 84 (tfOps (F := F) main_call3.v3 main_call3.v5 main_call3.v20 main_call3.v19 main_call3_call0).ops :=
  by
  delta tfOps
  exact Line.call 60 tf_line0 (tfOps0_len ..) (Line.call 60 tf_line1 (tfOps1_len ..) (Line.call 60 tf_line2 (tfOps2_len ..) tf_line3))
set_option maxHeartbeats 2000000 in
theorem uniform_line : Line 59 (uniformOps (F := F) (.of main_arg5) (.of main_cst_3) (.of main_cst_4) main_call3).ops := by
  delta uniformOps
  repeat' first | refine Line.call 222 tf_line (tfOps_len ..) ?_ | exact Line.stop | refine Line.step (Ok.nullary rfl) ?_ | refine Line.step (Ok.unary rfl (by decide)) ?_ | refine Line.step (Ok.binary rfl (by decide) (by decide)) ?_ | refine Line.step (Ok.ternary rfl (by decide) (by decide) (by decide)) ?_ | refine Line.step (Ok.reshape rfl (by decide)) ?_ | exact Line.last (Ok.unary rfl (by decide)) | exact Line.last (Ok.nullary rfl) | exact Line.last (Ok.binary rfl (by decide) (by decide))
theorem where0_line : Line 406 (where0Ops (F := F) (.of main_v78) (.of main_v48) (.of main_v76) main_call4).ops := by
  delta where0Ops
  repeat' first | exact Line.stop | refine Line.step (Ok.nullary rfl) ?_ | refine Line.step (Ok.unary rfl (by decide)) ?_ | refine Line.step (Ok.binary rfl (by decide) (by decide)) ?_ | refine Line.step (Ok.ternary rfl (by decide) (by decide) (by decide)) ?_ | refine Line.step (Ok.reshape rfl (by decide)) ?_ | exact Line.last (Ok.unary rfl (by decide)) | exact Line.last (Ok.nullary rfl) | exact Line.last (Ok.binary rfl (by decide) (by decide))
theorem take1_line : Line 438 (take1Ops (F := F) (.of main_v102) (.of main_v104) main_call5).ops := by
  delta take1Ops
  repeat' first | exact Line.stop | refine Line.step (Ok.nullary rfl) ?_ | refine Line.step (Ok.unary rfl (by decide)) ?_ | refine Line.step (Ok.binary rfl (by decide) (by decide)) ?_ | refine Line.step (Ok.ternary rfl (by decide) (by decide) (by decide)) ?_ | refine Line.step (Ok.reshape rfl (by decide)) ?_ | exact Line.last (Ok.unary rfl (by decide)) | exact Line.last (Ok.nullary rfl) | exact Line.last (Ok.binary rfl (by decide) (by decide))
set_option maxHeartbeats 2000000 in
theorem main_line0 (d : Dev nD) : Line 6 (mainOps0 (F := F) d).ops := by
  delta mainOps0
  repeat' first | refine Line.call 6 clip_line (clipOps_len ..) ?_ | refine Line.call 22 take_line (takeOps_len ..) ?_ | refine Line.call 4 where_line (whereOps_len ..) ?_ | refine Line.call 265 uniform_line (uniformOps_len ..) ?_ | exact Line.stop | refine Line.step (Ok.nullary rfl) ?_ | refine Line.step (Ok.unary rfl (by decide)) ?_ | refine Line.step (Ok.binary rfl (by decide) (by decide)) ?_ | refine Line.step (Ok.ternary rfl (by decide) (by decide) (by decide)) ?_ | refine Line.step (Ok.reshape rfl (by decide)) ?_ | exact Line.last (Ok.unary rfl (by decide)) | exact Line.last (Ok.nullary rfl) | exact Line.last (Ok.binary rfl (by decide) (by decide))
set_option maxHeartbeats 2000000 in
theorem main_line1 (d : Dev nD) : Line 359 (mainOps1 (F := F) d).ops := by
  delta mainOps1
  repeat' first | refine Line.call 1 where0_line (where0Ops_len ..) ?_ | exact Line.stop | refine Line.step (Ok.nullary rfl) ?_ | refine Line.step (Ok.unary rfl (by decide)) ?_ | refine Line.step (Ok.binary rfl (by decide) (by decide)) ?_ | refine Line.step (Ok.ternary rfl (by decide) (by decide) (by decide)) ?_ | refine Line.step (Ok.reshape rfl (by decide)) ?_ | exact Line.last (Ok.unary rfl (by decide)) | exact Line.last (Ok.nullary rfl) | exact Line.last (Ok.binary rfl (by decide) (by decide))
set_option maxHeartbeats 2000000 in
theorem main_line2 (d : Dev nD) : Line 419 (mainOps2 (F := F) d).ops := by
  delta mainOps2
  repeat' first | refine Line.call 22 take1_line (take1Ops_len ..) ?_ | exact Line.stop | refine Line.step (Ok.nullary rfl) ?_ | refine Line.step (Ok.unary rfl (by decide)) ?_ | refine Line.step (Ok.binary rfl (by decide) (by decide)) ?_ | refine Line.step (Ok.ternary rfl (by decide) (by decide) (by decide)) ?_ | refine Line.step (Ok.reshape rfl (by decide)) ?_ | exact Line.last (Ok.unary rfl (by decide)) | exact Line.last (Ok.nullary rfl) | exact Line.last (Ok.binary rfl (by decide) (by decide))
theorem main_line (d : Dev nD) : Line 6 (mainOps (F := F) d).ops :=
  by
  delta mainOps
  exact Line.call 353 (main_line0 d) (mainOps0_len d) (Line.call 60 (main_line1 d) (mainOps1_len d) (main_line2 d))

theorem scopedRefs_eq : (Finset.univ.filter fun b : Ref sig .tc => b.isScoped) = ∅ := by decide
theorem scopedSems_eq : (Finset.univ.filter fun sm : SemLoc sig => sm.isScoped .tc) = ∅ := by decide

/-- What the buffers hold at the end, from the launch memory `m`. -/
def Vf (m : (ℓ : Loc nD τ sig) → Buf (Elt F) ℓ) (d : Dev nD) : Valuation τ sig (Elt F) := after (mainOps d).ops (launchContents m d)

theorem Vf_holds (m : (ℓ : Loc nD τ sig) → Buf (Elt F) ℓ) (d : Dev nD) : ∀ op ∈ (mainOps d).ops, Holds (Vf m d) op := (main_line d).holds _
theorem Vf_arg (m : (ℓ : Loc nD τ sig) → Buf (Elt F) ℓ) (d : Dev nD) (r : Ref sig .tc) (h : r.idx.val < 6) : Vf m d (at_ r) = m ((d.tc : Thread nD τ).loc r) :=
  (main_line d).keep _ r h

/-- Every weakly fair execution of the reference ends, each buffer at what the line leaves. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = Vf m d (at_ b) :=
  run_seq scopedRefs_eq scopedSems_eq defs main (fun d => (mainOps d).ops) (fun d => (mainOps d).eq)
    (fun d => List.forall_iff_forall_mem.mpr fun op ho => ((main_line d).all op ho).1) m ρ (fun d op ho => ((main_line d).all op ho).2)

end Cert.Proof.RefRun
end
-- ==== Proof.lean ====
/-
  The five claims. `Cert.Proof.TileIdeal.run_main` runs the idealized kernel to its result, `Cert.Proof.TileBits.run_main` the
  machine kernel, `Cert.Proof.RefRun.run` the reference; `Cert.Proof.Val` says what the two results are and that they are equal.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.LaunchBits
public import proofs.«01_k».proof.Proof.Equal
public import proofs.«01_k».proof.Proof.RefRun
public import Idealize.ShloMosaic.Lib.Quiescent
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts Cert.Pre_in_range.Gen.facts

/-- What the precondition asks of the memory the machine kernel starts from. -/
theorem ok_p {m} (hpre : Cert.Pre_Kernel m) : TileBits.PreOK m := fun d p => (Val.ranges_of_pre _ _ _ _ _ _ (hpre d)).2 p

theorem ok_pi {m} (hpre : Cert.Pre_KernelIdeal m) : TileIdeal.PreOK m := fun d p => (Val.ranges_of_pre _ _ _ _ _ _ (hpre d)).2 p

section Args
open Cert.KernelIdeal
/-- A statement of the six arguments, from one of each listed reference. -/
theorem args_pi {P : Ref sig .tc → Prop} (h : ∀ b ∈ [main_arg0, main_arg1, main_arg2, main_arg3, main_arg4, main_arg5], P b) :
    P main_arg0 ∧ P main_arg1 ∧ P main_arg2 ∧ P main_arg3 ∧ P main_arg4 ∧ P main_arg5 :=
  ⟨h _ (by simp), h _ (by simp), h _ (by simp), h _ (by simp), h _ (by simp), h _ (by simp)⟩
end Args

section Args
open Cert.Kernel
theorem args_p {P : Ref sig .tc → Prop} (h : ∀ b ∈ [main_arg0, main_arg1, main_arg2, main_arg3, main_arg4, main_arg5], P b) :
    P main_arg0 ∧ P main_arg1 ∧ P main_arg2 ∧ P main_arg3 ∧ P main_arg4 ∧ P main_arg5 :=
  ⟨h _ (by simp), h _ (by simp), h _ (by simp), h _ (by simp), h _ (by simp), h _ (by simp)⟩
end Args

/-- The machine kernel runs to its end, leaves its arguments as they were and every counter at zero. -/
theorem frame_p : Cert.quiescent_Kernel := fun m g hpre =>
  (θ_run (Cert.Kernel.defs (F := Bits)) (Cert.Kernel.threads (F := Bits)) _).mono (fun _ h => ⟨fun c => args_p (h.1 c).1, h.2⟩)
    (TileBits.run_main m g (ok_p hpre))

/-- The idealized kernel runs to its end, leaves its arguments as they were and every counter at zero. -/
theorem frame_pi : Cert.quiescent_KernelIdeal := fun m g hpre =>
  (θ_run (Cert.KernelIdeal.defs (F := Ideal)) (Cert.KernelIdeal.threads (F := Ideal)) _).mono (fun _ h => ⟨fun c => args_pi (h.1 c).1, h.2⟩)
    (TileIdeal.run_main m g (ok_pi hpre))

section Reference
open Cert.ReferenceIdeal
/-- The reference's arguments at the end of its run. -/
theorem args_ri {m m' : (ℓ : Loc nD τ sig) → Buf (Elt Ideal) ℓ} {c : Dev nD}
    (h : ∀ b : Ref sig .tc, m' ((c.tc : Thread nD τ).loc b) = RefRun.Vf m c (RefRun.at_ b)) :
    m' ((c.tc : Thread nD τ).loc main_arg0) = m ((c.tc : Thread nD τ).loc main_arg0)
    ∧ m' ((c.tc : Thread nD τ).loc main_arg1) = m ((c.tc : Thread nD τ).loc main_arg1)
    ∧ m' ((c.tc : Thread nD τ).loc main_arg2) = m ((c.tc : Thread nD τ).loc main_arg2)
    ∧ m' ((c.tc : Thread nD τ).loc main_arg3) = m ((c.tc : Thread nD τ).loc main_arg3)
    ∧ m' ((c.tc : Thread nD τ).loc main_arg4) = m ((c.tc : Thread nD τ).loc main_arg4)
    ∧ m' ((c.tc : Thread nD τ).loc main_arg5) = m ((c.tc : Thread nD τ).loc main_arg5) :=
  have k (r : Ref sig .tc) (hr : r.idx.val < 6) := (h r).trans (RefRun.Vf_arg m c r hr)
  ⟨k _ (by decide), k _ (by decide), k _ (by decide), k _ (by decide), k _ (by decide), k _ (by decide)⟩

/-- The reference runs to its end, leaves its arguments as they were and every counter at zero. -/
theorem frame_ri : Cert.quiescent_ReferenceIdeal := fun m g _ =>
  (θ_run _ _ _).mono (fun r h => ⟨fun c => args_ri (h c), Idealize.ShloMosaic.sem_eq_zero_of_no_sems (by decide) r.2⟩) (RefRun.run (F := Ideal) m g)

/-- The reference's result from its arguments. -/
theorem ref_val (m : (ℓ : Loc nD τ sig) → Buf (Elt Ideal) ℓ) (c : Dev nD)
    (hi : ∀ p, ((m ((c.tc : Thread nD τ).loc main_arg4) : IVec S32x4096 32) p).toNat < 4096) :
    RefRun.Vf m c (RefRun.at_ main_v105) = Val.taken (RefRun.augR (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg5)))
      (m ((c.tc : Thread nD τ).loc main_arg4) : IVec S32x4096 32) := by
  have k (r : Ref sig .tc) (hr : r.idx.val < 6) := RefRun.Vf_arg m c r hr
  funext y
  refine (RefRun.main_val c (RefRun.Vf_holds m c) (by rw [k _ (by decide)]; exact hi) y).trans ?_
  rw [k main_arg0 (by decide), k main_arg1 (by decide), k main_arg2 (by decide), k main_arg3 (by decide), k main_arg4 (by decide), k main_arg5 (by decide)]
  rfl
end Reference

/-- The two constants are the real numbers their names are given. -/
theorem preserves : Cert.preserves_Kernel_KernelIdeal :=
  ⟨IdealRules.named_const.statement _ _ _ _ _ rfl, IdealRules.named_const.statement _ _ _ _ _ rfl⟩

/-- The idealized kernel and the reference leave the same result. -/
theorem algebraic : Cert.algebraic_KernelIdeal_ReferenceIdeal := fun m g m' g' hpre heq => by
  refine ⟨fun c => TileIdeal.resOf m c, ?_, ?_⟩
  · exact (θ_run (Cert.KernelIdeal.defs (F := Ideal)) (Cert.KernelIdeal.threads (F := Ideal)) _).mono
      (fun _ h c => ⟨(h.1 c).2, args_pi (h.1 c).1⟩) (TileIdeal.run_main m g (ok_pi hpre))
  · refine (θ_run _ _ _).mono (fun r h c => ⟨(h c _).trans ?_, args_ri (h c)⟩) (RefRun.run (F := Ideal) m' g')
    obtain ⟨e0, e1, e2, e3, e4, e5⟩ := heq c
    obtain ⟨hn, hi⟩ := Val.ranges_of_pre _ _ _ _ _ _ (hpre c)
    refine Eq.trans ?_ (Val.ker_val m c (ok_pi hpre) hn).symm
    rw [ref_val m' c (by rw [e4]; exact hi), e0, e1, e2, e3, e4, e5]
    exact congrArg (fun a => Val.taken a _) (funext fun y => (Val.aug_eq _ _ _ _ _ hn y).symm)

theorem claim : Cert.Claim := ⟨Cert.Kernel.Gen.facts, Cert.KernelIdeal.Gen.facts, Cert.ReferenceIdeal.Gen.facts, Cert.Pre_in_range.Gen.facts,
  frame_p, frame_pi, frame_ri, preserves, algebraic⟩

end Cert.Proof
